-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v26) = v0 c
          ∧ r.2.mem ((c.tc : Thread Cert.InprojRefIdeal.nD Cert.InprojRefIdeal.τ).loc Cert.InprojRefIdeal.main_v35) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v9)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v9) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v56) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v34) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)) →
    ∃ (v0 : (c : Dev Cert.NextIdeal.nD) → Buf (Elt Ideal) ((c.tc : Thread Cert.NextIdeal.nD Cert.NextIdeal.τ).loc Cert.NextIdeal.main_v6)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v6) = v0 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v28) = v0 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hMix : Cert.Mix.Facts) (hMixIdeal : Cert.MixIdeal.Facts) (hMixRefIdeal : Cert.MixRefIdeal.Facts) (hNext : Cert.Next.Facts) (hNextIdeal : Cert.NextIdeal.Facts) (hNextRefIdeal : Cert.NextRefIdeal.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Mix (hMix := hMix)
    ∧ quiescent_MixIdeal (hMixIdeal := hMixIdeal)
    ∧ quiescent_MixRefIdeal (hMixRefIdeal := hMixRefIdeal)
    ∧ quiescent_Next (hNext := hNext)
    ∧ quiescent_NextIdeal (hNextIdeal := hNextIdeal)
    ∧ quiescent_NextRefIdeal (hNextRefIdeal := hNextRefIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Mix_MixIdeal
    ∧ algebraic_MixIdeal_MixRefIdeal (hMixIdeal := hMixIdeal) (hMixRefIdeal := hMixRefIdeal)
    ∧ preserves_Next_NextIdeal
    ∧ algebraic_NextIdeal_NextRefIdeal (hNextIdeal := hNextIdeal) (hNextRefIdeal := hNextRefIdeal)
-- ==== Kernel.lean ====
abbrev S32768x768 : Shape := ⟨2, ![32768, 768]⟩
abbrev S2x3x256 : Shape := ⟨3, ![2, 3, 256]⟩
abbrev S2x31x256 : Shape := ⟨3, ![2, 31, 256]⟩
abbrev S2x256 : Shape := ⟨2, ![2, 256]⟩
abbrev S1x3x256 : Shape := ⟨3, ![1, 3, 256]⟩
abbrev S3x256 : Shape := ⟨2, ![3, 256]⟩
abbrev S1x31x256 : Shape := ⟨3, ![1, 31, 256]⟩
abbrev S31x256 : Shape := ⟨2, ![31, 256]⟩
abbrev S1x256 : Shape := ⟨2, ![1, 256]⟩
abbrev S256 : Shape := ⟨1, ![256]⟩
abbrev S32768x512 : Shape := ⟨2, ![32768, 512]⟩
abbrev S2048x768 : Shape := ⟨2, ![2048, 768]⟩
abbrev S2048x512 : Shape := ⟨2, ![2048, 512]⟩
abbrev S3x2048x256 : Shape := ⟨3, ![3, 2048, 256]⟩
abbrev S2048x256 : Shape := ⟨2, ![2048, 256]⟩
abbrev S128x1 : Shape := ⟨2, ![128, 1]⟩
abbrev S128x256 : Shape := ⟨2, ![128, 256]⟩
abbrev S1x128x256 : Shape := ⟨3, ![1, 128, 256]⟩
abbrev S1x64x256 : Shape := ⟨3, ![1, 64, 256]⟩
abbrev S64x256 : Shape := ⟨2, ![64, 256]⟩
abbrev S128 : Shape := ⟨1, ![128]⟩

abbrev nBuf : Space → Nat
  | .hbm => 20
  | .vmem => 11
  | .smem => 0
  | _ => 0

abbrev bufTy : (tb : Table) → Fin (tcTables nBuf tb) → BufTy
  | .hbm, ⟨0, _⟩ => ⟨S32768x768, .f32⟩
  | .hbm, ⟨1, _⟩ => ⟨S2x3x256, .f32⟩
  | .hbm, ⟨2, _⟩ => ⟨S2x31x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S1x3x256, .f32⟩
  | .hbm, ⟨7, _⟩ => ⟨S3x256, .f32⟩
  | .hbm, ⟨8, _⟩ => ⟨S1x31x256, .f32⟩
  | .hbm, ⟨9, _⟩ => ⟨S31x256, .f32⟩
  | .hbm, ⟨10, _⟩ => ⟨S1x256, .f32⟩
  | .hbm, ⟨11, _⟩ => ⟨S256, .f32⟩
  | .hbm, ⟨12, _⟩ => ⟨S1x256, .f32⟩
  | .hbm, ⟨13, _⟩ => ⟨S256, .f32⟩
  | .hbm, ⟨14, _⟩ => ⟨S1x256, .f32⟩
  | .hbm, ⟨15, _⟩ => ⟨S256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S32768x512, .bf16⟩
  | .local _ .vmem, ⟨0, _⟩ => ⟨S2048x768, .f32⟩
  | .local _ .vmem, ⟨1, _⟩ => ⟨S2048x768, .f32⟩
  | .local _ .vmem, ⟨2, _⟩ => ⟨S3x256, .f32⟩
  | .local _ .vmem, ⟨3, _⟩ => ⟨S31x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S2048x512, .bf16⟩
  | .local _ .vmem, ⟨8, _⟩ => ⟨S2048x512, .bf16⟩
  | .local _ .vmem, ⟨9, _⟩ => ⟨S3x2048x256, .f32⟩
  | .local _ .vmem, ⟨10, _⟩ => ⟨S2048x256, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_637 : BitVec 32 := 128#32
  let v1017 : BitVec 32 := Scalar.muli arg10 c128_i32_637
  v1017
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_637 : BitVec 32 := 128#32
  let v1017 : BitVec 32 := Scalar.muli arg10 c128_i32_637
  let v1018 : BitVec 32 := v1017
  let v1019 : Index := Scalar.indexCast v1018
  let c256_638 : Index := 256#32
  ![v1019.toNat, 256]
def k0_off2 (k0_t1 : Fin k0_t1_loop.trips) : Fin 3 → Nat :=
  let c0_639 : Index := 0#32
  let c0_i32 : BitVec 32 := 0#32
  let c1_i32 : BitVec 32 := 1#32
  let arg10 : BitVec 32 := Scf.iv c0_i32 c1_i32 k0_t1
  let c128_i32_637 : BitVec 32 := 128#32
  let v1017 : BitVec 32 := Scalar.muli arg10 c128_i32_637
  let v1018 : BitVec 32 := v1017
  let v1021 : Index := Scalar.indexCast v1018
  let c0_640 : Index := 0#32
  ![0, v1021.toNat, 0]
def k0_off3 (k0_t1 : Fin k0_t1_loop.trips) : Fin 3 → Nat :=
  let c1_644 : Index := 1#32
  let c0_i32 : BitVec 32 := 0#32
  let c1_i32 : BitVec 32 := 1#32
  let arg10 : BitVec 32 := Scf.iv c0_i32 c1_i32 k0_t1
  let c128_i32_637 : BitVec 32 := 128#32
  let v1017 : BitVec 32 := Scalar.muli arg10 c128_i32_637
  let v1018 : BitVec 32 := v1017
  let v1032 : Index := Scalar.indexCast v1018
  let c0_645 : Index := 0#32
  ![1, v1032.toNat, 0]
@[reducible] def k0_t2_loop : Scf.Loop 32 :=
  let c0_i32_1 : BitVec 32 := 0#32
  let c32_i32 : BitVec 32 := 32#32
  let v2 : BitVec 32 := Scalar.addi c0_i32_1 c32_i32
  let c1_i32_2 : BitVec 32 := 1#32
  ⟨c0_i32_1, v2, c1_i32_2⟩
def k0_mult2 (k0_t2 : Fin k0_t2_loop.trips) : BitVec 32 :=
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c128_i32_650 : BitVec 32 := 128#32
  let v1045 : BitVec 32 := Scalar.muli v1033 c128_i32_650
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1046 : BitVec 32 := Scalar.addi v1045 v1044
  v1046
def k0_mult3 (k0_t2 : Fin k0_t2_loop.trips) : BitVec 32 :=
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c0_i32_651 : BitVec 32 := 0#32
  let v1048 : BitVec 32 := Scalar.subi v1033 c0_i32_651
  let c0_i32_652 : BitVec 32 := 0#32
  let v1049 : BitVec 32 := Scalar.addi v1048 c0_i32_652
  let c128_i32_653 : BitVec 32 := 128#32
  let v1050 : BitVec 32 := Scalar.muli v1049 c128_i32_653
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1051 : BitVec 32 := Scalar.addi v1050 v1044
  v1051
def k0_off4 (k0_t2 : Fin k0_t2_loop.trips) : Fin 3 → Nat :=
  let c0_654 : Index := 0#32
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c0_i32_651 : BitVec 32 := 0#32
  let v1048 : BitVec 32 := Scalar.subi v1033 c0_i32_651
  let c0_i32_652 : BitVec 32 := 0#32
  let v1049 : BitVec 32 := Scalar.addi v1048 c0_i32_652
  let c128_i32_653 : BitVec 32 := 128#32
  let v1050 : BitVec 32 := Scalar.muli v1049 c128_i32_653
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1051 : BitVec 32 := Scalar.addi v1050 v1044
  let v1052 : BitVec 32 := v1051
  let v1053 : Index := Scalar.indexCast v1052
  let c0_655 : Index := 0#32
  ![0, v1053.toNat, 0]
def k0_mult4 (k0_t2 : Fin k0_t2_loop.trips) : BitVec 32 :=
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c1_i32_661 : BitVec 32 := 1#32
  let v1062 : BitVec 32 := Scalar.subi v1033 c1_i32_661
  let c16_i32_662 : BitVec 32 := 16#32
  let c1_i32_658 : BitVec 32 := 1#32
  let v1060 : BitVec 1 := Scalar.cmpi .slt v1033 c1_i32_658
  let c1_i32_659 : BitVec 32 := 1#32
  let c0_i32_660 : BitVec 32 := 0#32
  let v1061 : BitVec 32 := Scalar.select v1060 c1_i32_659 c0_i32_660
  let v1063 : BitVec 32 := Scalar.muli c16_i32_662 v1061
  let v1064 : BitVec 32 := Scalar.addi v1062 v1063
  let c128_i32_663 : BitVec 32 := 128#32
  let v1065 : BitVec 32 := Scalar.muli v1064 c128_i32_663
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1066 : BitVec 32 := Scalar.addi v1065 v1044
  v1066
def k0_off5 (k0_t2 : Fin k0_t2_loop.trips) (c1_i32_658 : BitVec 32) (c1_i32_661 : BitVec 32) : Fin 3 → Nat :=
  let c0_i32_664 : BitVec 32 := 0#32
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let v1060 : BitVec 1 := Scalar.cmpi .slt v1033 c1_i32_658
  let c1_i32_659 : BitVec 32 := 1#32
  let c0_i32_660 : BitVec 32 := 0#32
  let v1061 : BitVec 32 := Scalar.select v1060 c1_i32_659 c0_i32_660
  let v1068 : BitVec 32 := Scalar.addi c0_i32_664 v1061
  let v1069 : Index := Scalar.indexCast v1068
  let v1062 : BitVec 32 := Scalar.subi v1033 c1_i32_661
  let c16_i32_662 : BitVec 32 := 16#32
  let v1063 : BitVec 32 := Scalar.muli c16_i32_662 v1061
  let v1064 : BitVec 32 := Scalar.addi v1062 v1063
  let c128_i32_663 : BitVec 32 := 128#32
  let v1065 : BitVec 32 := Scalar.muli v1064 c128_i32_663
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1066 : BitVec 32 := Scalar.addi v1065 v1044
  let v1067 : BitVec 32 := v1066
  let v1070 : Index := Scalar.indexCast v1067
  let c0_665 : Index := 0#32
  ![v1069.toNat, v1070.toNat, 0]
def k0_off5_at (r : Fin 2) : BitVec 32 × BitVec 32 :=
  if r.val < 1 then
    (1#32, 1#32)
  else
    (2#32, 2#32)
def k0_mult5 (k0_t2 : Fin k0_t2_loop.trips) : BitVec 32 :=
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c2_i32_671 : BitVec 32 := 2#32
  let v1080 : BitVec 32 := Scalar.subi v1033 c2_i32_671
  let c16_i32_672 : BitVec 32 := 16#32
  let c2_i32_668 : BitVec 32 := 2#32
  let v1078 : BitVec 1 := Scalar.cmpi .slt v1033 c2_i32_668
  let c1_i32_669 : BitVec 32 := 1#32
  let c0_i32_670 : BitVec 32 := 0#32
  let v1079 : BitVec 32 := Scalar.select v1078 c1_i32_669 c0_i32_670
  let v1081 : BitVec 32 := Scalar.muli c16_i32_672 v1079
  let v1082 : BitVec 32 := Scalar.addi v1080 v1081
  let c128_i32_673 : BitVec 32 := 128#32
  let v1083 : BitVec 32 := Scalar.muli v1082 c128_i32_673
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1084 : BitVec 32 := Scalar.addi v1083 v1044
  v1084
def k0_off6 (k0_t2 : Fin k0_t2_loop.trips) : Fin 2 → Nat :=
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c128_i32_650 : BitVec 32 := 128#32
  let v1045 : BitVec 32 := Scalar.muli v1033 c128_i32_650
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1046 : BitVec 32 := Scalar.addi v1045 v1044
  let v1047 : BitVec 32 := v1046
  let v1096 : Index := Scalar.indexCast v1047
  let c0_678 : Index := 0#32
  ![v1096.toNat, 0]
def k0_off7 (k0_t2 : Fin k0_t2_loop.trips) : Fin 2 → Nat :=
  let c0_i32_1 : BitVec 32 := 0#32
  let c1_i32_2 : BitVec 32 := 1#32
  let arg10 : BitVec 32 := Scf.iv c0_i32_1 c1_i32_2 k0_t2
  let c0_i32_637 : BitVec 32 := 0#32
  let v1018 : BitVec 1 := Scalar.cmpi .sgt arg10 c0_i32_637
  let v1019 : BitVec 32 := Scalar.extui v1018
  let c0_i32_638 : BitVec 32 := 0#32
  let v1020 : BitVec 1 := Scalar.cmpi .slt arg10 c0_i32_638
  let v1021 : BitVec 32 := Scalar.extui v1020
  let v1022 : BitVec 32 := Scalar.subi v1019 v1021
  let c2_i32 : BitVec 32 := 2#32
  let c0_i32_639 : BitVec 32 := 0#32
  let v1023 : BitVec 1 := Scalar.cmpi .sgt c2_i32 c0_i32_639
  let v1024 : BitVec 32 := Scalar.extui v1023
  let c0_i32_640 : BitVec 32 := 0#32
  let v1025 : BitVec 1 := Scalar.cmpi .slt c2_i32 c0_i32_640
  let v1026 : BitVec 32 := Scalar.extui v1025
  let v1027 : BitVec 32 := Scalar.subi v1024 v1026
  let v1028 : BitVec 1 := Scalar.cmpi .ne v1022 v1027
  let v1029 : BitVec 32 := Scalar.remsi arg10 c2_i32
  let c0_i32_641 : BitVec 32 := 0#32
  let v1030 : BitVec 1 := Scalar.cmpi .ne v1029 c0_i32_641
  let v1031 : BitVec 1 := Scalar.andi v1028 v1030
  let v1017 : BitVec 32 := Scalar.divsi arg10 c2_i32
  let c1_i32_642 : BitVec 32 := 1#32
  let v1032 : BitVec 32 := Scalar.subi v1017 c1_i32_642
  let v1033 : BitVec 32 := Scalar.select v1031 v1032 v1017
  let c128_i32_650 : BitVec 32 := 128#32
  let v1045 : BitVec 32 := Scalar.muli v1033 c128_i32_650
  let c2_i32_643 : BitVec 32 := 2#32
  let c0_i32_644 : BitVec 32 := 0#32
  let v1034 : BitVec 1 := Scalar.cmpi .eq c2_i32_643 c0_i32_644
  let c1_i32_645 : BitVec 32 := 1#32
  let v1035 : BitVec 32 := Scalar.select v1034 c1_i32_645 c2_i32_643
  let v1036 : BitVec 32 := Scalar.remsi arg10 v1035
  let c0_i32_647 : BitVec 32 := 0#32
  let v1038 : BitVec 1 := Scalar.cmpi .slt v1036 c0_i32_647
  let c0_i32_648 : BitVec 32 := 0#32
  let v1039 : BitVec 1 := Scalar.cmpi .slt v1035 c0_i32_648
  let v1040 : BitVec 1 := Scalar.xori v1038 v1039
  let c0_i32_646 : BitVec 32 := 0#32
  let v1037 : BitVec 1 := Scalar.cmpi .ne v1036 c0_i32_646
  let v1041 : BitVec 1 := Scalar.andi v1040 v1037
  let v1042 : BitVec 32 := Scalar.addi v1036 v1035
  let v1043 : BitVec 32 := Scalar.select v1041 v1042 v1036
  let c64_i32_649 : BitVec 32 := 64#32
  let v1044 : BitVec 32 := Scalar.muli v1043 c64_i32_649
  let v1046 : BitVec 32 := Scalar.addi v1045 v1044
  let v1047 : BitVec 32 := v1046
  let v1100 : Index := Scalar.indexCast v1047
  let c0_679 : Index := 0#32
  ![v1100.toNat, 0]
@[reducible] def k0_t3_loop : Scf.Loop 32 :=
  let c0_i32_4 : BitVec 32 := 0#32
  let c16_i32_5 : BitVec 32 := 16#32
  let v3 : BitVec 32 := Scalar.addi c0_i32_4 c16_i32_5
  let c1_i32_6 : BitVec 32 := 1#32
  ⟨c0_i32_4, v3, c1_i32_6⟩
def k0_mult6 (k0_t3 : Fin k0_t3_loop.trips) : BitVec 32 :=
  let c0_i32_4 : BitVec 32 := 0#32
  let c1_i32_6 : BitVec 32 := 1#32
  let arg10 : BitVec 32 := Scf.iv c0_i32_4 c1_i32_6 k0_t3
  let c128_i32_637 : BitVec 32 := 128#32
  let v1017 : BitVec 32 := Scalar.muli arg10 c128_i32_637
  v1017
def k0_off8 (k0_t3 : Fin k0_t3_loop.trips) : Fin 2 → Nat :=
  let c0_i32_4 : BitVec 32 := 0#32
  let c1_i32_6 : BitVec 32 := 1#32
  let arg10 : BitVec 32 := Scf.iv c0_i32_4 c1_i32_6 k0_t3
  let c128_i32_637 : BitVec 32 := 128#32
  let v1017 : BitVec 32 := Scalar.muli arg10 c128_i32_637
  let v1018 : BitVec 32 := v1017
  let v1019 : Index := Scalar.indexCast v1018
  let c512 : Index := 512#32
  ![v1019.toNat, 512]
def k0_off9 (k0_t3 : Fin k0_t3_loop.trips) : Fin 3 → Nat :=
  let c0_638 : Index := 0#32
  let c0_i32_4 : BitVec 32 := 0#32
  let c1_i32_6 : BitVec 32 := 1#32
  let arg10 : BitVec 32 := Scf.iv c0_i32_4 c1_i32_6 k0_t3
  let c128_i32_637 : BitVec 32 := 128#32
  let v1017 : BitVec 32 := Scalar.muli arg10 c128_i32_637
  let v1018 : BitVec 32 := v1017
  let v1021 : Index := Scalar.indexCast v1018
  let c0_639 : Index := 0#32
  ![0, v1021.toNat, 0]
def k0_off10 (k0_t3 : Fin k0_t3_loop.trips) : Fin 3 → Nat :=
  let c1_643 : Index := 1#32
  let c0_i32_4 : BitVec 32 := 0#32
  let c1_i32_6 : BitVec 32 := 1#32
  let arg10 : BitVec 32 := Scf.iv c0_i32_4 c1_i32_6 k0_t3
  let c128_i32_637 : BitVec 32 := 128#32
  let v1017 : BitVec 32 := Scalar.muli arg10 c128_i32_637
  let v1018 : BitVec 32 := v1017
  let v1032 : Index := Scalar.indexCast v1018
  let c0_644 : Index := 0#32
  ![1, v1032.toNat, 0]
def k0_off11 (k0_t3 : Fin k0_t3_loop.trips) : Fin 3 → Nat :=
  let c2_647 : Index := 2#32
  let c0_i32_4 : BitVec 32 := 0#32
  let c1_i32_6 : BitVec 32 := 1#32
  let arg10 : BitVec 32 := Scf.iv c0_i32_4 c1_i32_6 k0_t3
  let c128_i32_637 : BitVec 32 := 128#32
  let v1017 : BitVec 32 := Scalar.muli arg10 c128_i32_637
  let v1018 : BitVec 32 := v1017
  let v1043 : Index := Scalar.indexCast v1018
  let c0_648 : Index := 0#32
  ![2, v1043.toNat, 0]
def k0_mult7 : BitVec 32 :=
  let c0_i32_8 : BitVec 32 := 0#32
  c0_i32_8
def k0_mult8 : BitVec 32 :=
  let c0_i32_9 : BitVec 32 := 0#32
  c0_i32_9
def k0_mult9 : BitVec 32 :=
  let c_m1_i32 : BitVec 32 := 4294967295#32
  let c16_i32_14 : BitVec 32 := 16#32
  let v_true : BitVec 1 := 1#1
  let c1_i32_12 : BitVec 32 := 1#32
  let c0_i32_13 : BitVec 32 := 0#32
  let v13 : BitVec 32 := Scalar.select v_true c1_i32_12 c0_i32_13
  let v14 : BitVec 32 := Scalar.muli c16_i32_14 v13
  let v15 : BitVec 32 := Scalar.addi c_m1_i32 v14
  let c128_i32 : BitVec 32 := 128#32
  let v16 : BitVec 32 := Scalar.muli v15 c128_i32
  let c0_i32_15 : BitVec 32 := 0#32
  let v17 : BitVec 32 := Scalar.addi v16 c0_i32_15
  v17
def k0_off12 (c0_i32_16 : BitVec 32) (c_m1_i32 : BitVec 32) (c0_i32_15 : BitVec 32) : Fin 3 → Nat :=
  let v_true : BitVec 1 := 1#1
  let c1_i32_12 : BitVec 32 := 1#32
  let c0_i32_13 : BitVec 32 := 0#32
  let v13 : BitVec 32 := Scalar.select v_true c1_i32_12 c0_i32_13
  let v19 : BitVec 32 := Scalar.addi c0_i32_16 v13
  let v20 : Index := Scalar.indexCast v19
  let c16_i32_14 : BitVec 32 := 16#32
  let v14 : BitVec 32 := Scalar.muli c16_i32_14 v13
  let v15 : BitVec 32 := Scalar.addi c_m1_i32 v14
  let c128_i32 : BitVec 32 := 128#32
  let v16 : BitVec 32 := Scalar.muli v15 c128_i32
  let v17 : BitVec 32 := Scalar.addi v16 c0_i32_15
  let v18 : BitVec 32 := v17
  let v21 : Index := Scalar.indexCast v18
  let c0_17 : Index := 0#32
  ![v20.toNat, v21.toNat, 0]
def k0_off12_at (r : Fin 58) : BitVec 32 × BitVec 32 × BitVec 32 :=
  if r.val < 29 then
    if r.val < 14 then
      if r.val < 7 then
        if r.val < 3 then
          if r.val < 1 then
            (0#32, 4294967295#32, 0#32)
          else
            if r.val < 2 then
              (0#32, 4294967294#32, 0#32)
            else
              (0#32, 4294967293#32, 0#32)
        else
          if r.val < 5 then
            if r.val < 4 then
              (0#32, 4294967292#32, 0#32)
            else
              (0#32, 4294967291#32, 0#32)
          else
            if r.val < 6 then
              (0#32, 4294967290#32, 0#32)
            else
              (0#32, 4294967289#32, 0#32)
      else
        if r.val < 10 then
          if r.val < 8 then
            (0#32, 4294967288#32, 0#32)
          else
            if r.val < 9 then
              (0#32, 4294967287#32, 0#32)
            else
              (0#32, 4294967286#32, 0#32)
        else
          if r.val < 12 then
            if r.val < 11 then
              (0#32, 4294967285#32, 0#32)
            else
              (0#32, 4294967284#32, 0#32)
          else
            if r.val < 13 then
              (0#32, 4294967283#32, 0#32)
            else
              (0#32, 4294967282#32, 0#32)
    else
      if r.val < 21 then
        if r.val < 17 then
          if r.val < 15 then
            (0#32, 4294967281#32, 0#32)
          else
            if r.val < 16 then
              (1#32, 4294967295#32, 0#32)
            else
              (1#32, 4294967294#32, 0#32)
        else
          if r.val < 19 then
            if r.val < 18 then
              (1#32, 4294967293#32, 0#32)
            else
              (1#32, 4294967292#32, 0#32)
          else
            if r.val < 20 then
              (1#32, 4294967291#32, 0#32)
            else
              (1#32, 4294967290#32, 0#32)
      else
        if r.val < 25 then
          if r.val < 23 then
            if r.val < 22 then
              (1#32, 4294967289#32, 0#32)
            else
              (1#32, 4294967288#32, 0#32)
          else
            if r.val < 24 then
              (1#32, 4294967287#32, 0#32)
            else
              (1#32, 4294967286#32, 0#32)
        else
          if r.val < 27 then
            if r.val < 26 then
              (1#32, 4294967285#32, 0#32)
            else
              (1#32, 4294967284#32, 0#32)
          else
            if r.val < 28 then
              (1#32, 4294967283#32, 0#32)
            else
              (1#32, 4294967282#32, 0#32)
  else
    if r.val < 43 then
      if r.val < 36 then
        if r.val < 32 then
          if r.val < 30 then
            (0#32, 4294967295#32, 64#32)
          else
            if r.val < 31 then
              (0#32, 4294967294#32, 64#32)
            else
              (0#32, 4294967293#32, 64#32)
        else
          if r.val < 34 then
            if r.val < 33 then
              (0#32, 4294967292#32, 64#32)
            else
              (0#32, 4294967291#32, 64#32)
          else
            if r.val < 35 then
              (0#32, 4294967290#32, 64#32)
            else
              (0#32, 4294967289#32, 64#32)
      else
        if r.val < 39 then
          if r.val < 37 then
            (0#32, 4294967288#32, 64#32)
          else
            if r.val < 38 then
              (0#32, 4294967287#32, 64#32)
            else
              (0#32, 4294967286#32, 64#32)
        else
          if r.val < 41 then
            if r.val < 40 then
              (0#32, 4294967285#32, 64#32)
            else
              (0#32, 4294967284#32, 64#32)
          else
            if r.val < 42 then
              (0#32, 4294967283#32, 64#32)
            else
              (0#32, 4294967282#32, 64#32)
    else
      if r.val < 50 then
        if r.val < 46 then
          if r.val < 44 then
            (0#32, 4294967281#32, 64#32)
          else
            if r.val < 45 then
              (1#32, 4294967295#32, 64#32)
            else
              (1#32, 4294967294#32, 64#32)
        else
          if r.val < 48 then
            if r.val < 47 then
              (1#32, 4294967293#32, 64#32)
            else
              (1#32, 4294967292#32, 64#32)
          else
            if r.val < 49 then
              (1#32, 4294967291#32, 64#32)
            else
              (1#32, 4294967290#32, 64#32)
      else
        if r.val < 54 then
          if r.val < 52 then
            if r.val < 51 then
              (1#32, 4294967289#32, 64#32)
            else
              (1#32, 4294967288#32, 64#32)
          else
            if r.val < 53 then
              (1#32, 4294967287#32, 64#32)
            else
              (1#32, 4294967286#32, 64#32)
        else
          if r.val < 56 then
            if r.val < 55 then
              (1#32, 4294967285#32, 64#32)
            else
              (1#32, 4294967284#32, 64#32)
          else
            if r.val < 57 then
              (1#32, 4294967283#32, 64#32)
            else
              (1#32, 4294967282#32, 64#32)
def k0_mult10 : BitVec 32 :=
  let c_m2_i32 : BitVec 32 := 4294967294#32
  let c16_i32_22 : BitVec 32 := 16#32
  let true_19 : BitVec 1 := 1#1
  let c1_i32_20 : BitVec 32 := 1#32
  let c0_i32_21 : BitVec 32 := 0#32
  let v29 : BitVec 32 := Scalar.select true_19 c1_i32_20 c0_i32_21
  let v30 : BitVec 32 := Scalar.muli c16_i32_22 v29
  let v31 : BitVec 32 := Scalar.addi c_m2_i32 v30
  let c128_i32_23 : BitVec 32 := 128#32
  let v32 : BitVec 32 := Scalar.muli v31 c128_i32_23
  let c0_i32_24 : BitVec 32 := 0#32
  let v33 : BitVec 32 := Scalar.addi v32 c0_i32_24
  v33
def k0_mult11 : BitVec 32 :=
  let c_m3_i32 : BitVec 32 := 4294967293#32
  let c16_i32_31 : BitVec 32 := 16#32
  let true_28 : BitVec 1 := 1#1
  let c1_i32_29 : BitVec 32 := 1#32
  let c0_i32_30 : BitVec 32 := 0#32
  let v45 : BitVec 32 := Scalar.select true_28 c1_i32_29 c0_i32_30
  let v46 : BitVec 32 := Scalar.muli c16_i32_31 v45
  let v47 : BitVec 32 := Scalar.addi c_m3_i32 v46
  let c128_i32_32 : BitVec 32 := 128#32
  let v48 : BitVec 32 := Scalar.muli v47 c128_i32_32
  let c0_i32_33 : BitVec 32 := 0#32
  let v49 : BitVec 32 := Scalar.addi v48 c0_i32_33
  v49
def k0_mult12 : BitVec 32 :=
  let c_m4_i32 : BitVec 32 := 4294967292#32
  let c16_i32_40 : BitVec 32 := 16#32
  let true_37 : BitVec 1 := 1#1
  let c1_i32_38 : BitVec 32 := 1#32
  let c0_i32_39 : BitVec 32 := 0#32
  let v61 : BitVec 32 := Scalar.select true_37 c1_i32_38 c0_i32_39
  let v62 : BitVec 32 := Scalar.muli c16_i32_40 v61
  let v63 : BitVec 32 := Scalar.addi c_m4_i32 v62
  let c128_i32_41 : BitVec 32 := 128#32
  let v64 : BitVec 32 := Scalar.muli v63 c128_i32_41
  let c0_i32_42 : BitVec 32 := 0#32
  let v65 : BitVec 32 := Scalar.addi v64 c0_i32_42
  v65
def k0_mult13 : BitVec 32 :=
  let c_m5_i32 : BitVec 32 := 4294967291#32
  let c16_i32_49 : BitVec 32 := 16#32
  let true_46 : BitVec 1 := 1#1
  let c1_i32_47 : BitVec 32 := 1#32
  let c0_i32_48 : BitVec 32 := 0#32
  let v77 : BitVec 32 := Scalar.select true_46 c1_i32_47 c0_i32_48
  let v78 : BitVec 32 := Scalar.muli c16_i32_49 v77
  let v79 : BitVec 32 := Scalar.addi c_m5_i32 v78
  let c128_i32_50 : BitVec 32 := 128#32
  let v80 : BitVec 32 := Scalar.muli v79 c128_i32_50
  let c0_i32_51 : BitVec 32 := 0#32
  let v81 : BitVec 32 := Scalar.addi v80 c0_i32_51
  v81
def k0_mult14 : BitVec 32 :=
  let c_m6_i32 : BitVec 32 := 4294967290#32
  let c16_i32_58 : BitVec 32 := 16#32
  let true_55 : BitVec 1 := 1#1
  let c1_i32_56 : BitVec 32 := 1#32
  let c0_i32_57 : BitVec 32 := 0#32
  let v93 : BitVec 32 := Scalar.select true_55 c1_i32_56 c0_i32_57
  let v94 : BitVec 32 := Scalar.muli c16_i32_58 v93
  let v95 : BitVec 32 := Scalar.addi c_m6_i32 v94
  let c128_i32_59 : BitVec 32 := 128#32
  let v96 : BitVec 32 := Scalar.muli v95 c128_i32_59
  let c0_i32_60 : BitVec 32 := 0#32
  let v97 : BitVec 32 := Scalar.addi v96 c0_i32_60
  v97
def k0_mult15 : BitVec 32 :=
  let c_m7_i32 : BitVec 32 := 4294967289#32
  let c16_i32_67 : BitVec 32 := 16#32
  let true_64 : BitVec 1 := 1#1
  let c1_i32_65 : BitVec 32 := 1#32
  let c0_i32_66 : BitVec 32 := 0#32
  let v109 : BitVec 32 := Scalar.select true_64 c1_i32_65 c0_i32_66
  let v110 : BitVec 32 := Scalar.muli c16_i32_67 v109
  let v111 : BitVec 32 := Scalar.addi c_m7_i32 v110
  let c128_i32_68 : BitVec 32 := 128#32
  let v112 : BitVec 32 := Scalar.muli v111 c128_i32_68
  let c0_i32_69 : BitVec 32 := 0#32
  let v113 : BitVec 32 := Scalar.addi v112 c0_i32_69
  v113
def k0_mult16 : BitVec 32 :=
  let c_m8_i32 : BitVec 32 := 4294967288#32
  let c16_i32_76 : BitVec 32 := 16#32
  let true_73 : BitVec 1 := 1#1
  let c1_i32_74 : BitVec 32 := 1#32
  let c0_i32_75 : BitVec 32 := 0#32
  let v125 : BitVec 32 := Scalar.select true_73 c1_i32_74 c0_i32_75
  let v126 : BitVec 32 := Scalar.muli c16_i32_76 v125
  let v127 : BitVec 32 := Scalar.addi c_m8_i32 v126
  let c128_i32_77 : BitVec 32 := 128#32
  let v128 : BitVec 32 := Scalar.muli v127 c128_i32_77
  let c0_i32_78 : BitVec 32 := 0#32
  let v129 : BitVec 32 := Scalar.addi v128 c0_i32_78
  v129
def k0_mult17 : BitVec 32 :=
  let c_m9_i32 : BitVec 32 := 4294967287#32
  let c16_i32_85 : BitVec 32 := 16#32
  let true_82 : BitVec 1 := 1#1
  let c1_i32_83 : BitVec 32 := 1#32
  let c0_i32_84 : BitVec 32 := 0#32
  let v141 : BitVec 32 := Scalar.select true_82 c1_i32_83 c0_i32_84
  let v142 : BitVec 32 := Scalar.muli c16_i32_85 v141
  let v143 : BitVec 32 := Scalar.addi c_m9_i32 v142
  let c128_i32_86 : BitVec 32 := 128#32
  let v144 : BitVec 32 := Scalar.muli v143 c128_i32_86
  let c0_i32_87 : BitVec 32 := 0#32
  let v145 : BitVec 32 := Scalar.addi v144 c0_i32_87
  v145
def k0_mult18 : BitVec 32 :=
  let c_m10_i32 : BitVec 32 := 4294967286#32
  let c16_i32_94 : BitVec 32 := 16#32
  let true_91 : BitVec 1 := 1#1
  let c1_i32_92 : BitVec 32 := 1#32
  let c0_i32_93 : BitVec 32 := 0#32
  let v157 : BitVec 32 := Scalar.select true_91 c1_i32_92 c0_i32_93
  let v158 : BitVec 32 := Scalar.muli c16_i32_94 v157
  let v159 : BitVec 32 := Scalar.addi c_m10_i32 v158
  let c128_i32_95 : BitVec 32 := 128#32
  let v160 : BitVec 32 := Scalar.muli v159 c128_i32_95
  let c0_i32_96 : BitVec 32 := 0#32
  let v161 : BitVec 32 := Scalar.addi v160 c0_i32_96
  v161
def k0_mult19 : BitVec 32 :=
  let c_m11_i32 : BitVec 32 := 4294967285#32
  let c16_i32_103 : BitVec 32 := 16#32
  let true_100 : BitVec 1 := 1#1
  let c1_i32_101 : BitVec 32 := 1#32
  let c0_i32_102 : BitVec 32 := 0#32
  let v173 : BitVec 32 := Scalar.select true_100 c1_i32_101 c0_i32_102
  let v174 : BitVec 32 := Scalar.muli c16_i32_103 v173
  let v175 : BitVec 32 := Scalar.addi c_m11_i32 v174
  let c128_i32_104 : BitVec 32 := 128#32
  let v176 : BitVec 32 := Scalar.muli v175 c128_i32_104
  let c0_i32_105 : BitVec 32 := 0#32
  let v177 : BitVec 32 := Scalar.addi v176 c0_i32_105
  v177
def k0_mult20 : BitVec 32 :=
  let c_m12_i32 : BitVec 32 := 4294967284#32
  let c16_i32_112 : BitVec 32 := 16#32
  let true_109 : BitVec 1 := 1#1
  let c1_i32_110 : BitVec 32 := 1#32
  let c0_i32_111 : BitVec 32 := 0#32
  let v189 : BitVec 32 := Scalar.select true_109 c1_i32_110 c0_i32_111
  let v190 : BitVec 32 := Scalar.muli c16_i32_112 v189
  let v191 : BitVec 32 := Scalar.addi c_m12_i32 v190
  let c128_i32_113 : BitVec 32 := 128#32
  let v192 : BitVec 32 := Scalar.muli v191 c128_i32_113
  let c0_i32_114 : BitVec 32 := 0#32
  let v193 : BitVec 32 := Scalar.addi v192 c0_i32_114
  v193
def k0_mult21 : BitVec 32 :=
  let c_m13_i32 : BitVec 32 := 4294967283#32
  let c16_i32_121 : BitVec 32 := 16#32
  let true_118 : BitVec 1 := 1#1
  let c1_i32_119 : BitVec 32 := 1#32
  let c0_i32_120 : BitVec 32 := 0#32
  let v205 : BitVec 32 := Scalar.select true_118 c1_i32_119 c0_i32_120
  let v206 : BitVec 32 := Scalar.muli c16_i32_121 v205
  let v207 : BitVec 32 := Scalar.addi c_m13_i32 v206
  let c128_i32_122 : BitVec 32 := 128#32
  let v208 : BitVec 32 := Scalar.muli v207 c128_i32_122
  let c0_i32_123 : BitVec 32 := 0#32
  let v209 : BitVec 32 := Scalar.addi v208 c0_i32_123
  v209
def k0_mult22 : BitVec 32 :=
  let c_m14_i32 : BitVec 32 := 4294967282#32
  let c16_i32_130 : BitVec 32 := 16#32
  let true_127 : BitVec 1 := 1#1
  let c1_i32_128 : BitVec 32 := 1#32
  let c0_i32_129 : BitVec 32 := 0#32
  let v221 : BitVec 32 := Scalar.select true_127 c1_i32_128 c0_i32_129
  let v222 : BitVec 32 := Scalar.muli c16_i32_130 v221
  let v223 : BitVec 32 := Scalar.addi c_m14_i32 v222
  let c128_i32_131 : BitVec 32 := 128#32
  let v224 : BitVec 32 := Scalar.muli v223 c128_i32_131
  let c0_i32_132 : BitVec 32 := 0#32
  let v225 : BitVec 32 := Scalar.addi v224 c0_i32_132
  v225
def k0_mult23 : BitVec 32 :=
  let c_m15_i32 : BitVec 32 := 4294967281#32
  let c16_i32_139 : BitVec 32 := 16#32
  let true_136 : BitVec 1 := 1#1
  let c1_i32_137 : BitVec 32 := 1#32
  let c0_i32_138 : BitVec 32 := 0#32
  let v237 : BitVec 32 := Scalar.select true_136 c1_i32_137 c0_i32_138
  let v238 : BitVec 32 := Scalar.muli c16_i32_139 v237
  let v239 : BitVec 32 := Scalar.addi c_m15_i32 v238
  let c128_i32_140 : BitVec 32 := 128#32
  let v240 : BitVec 32 := Scalar.muli v239 c128_i32_140
  let c0_i32_141 : BitVec 32 := 0#32
  let v241 : BitVec 32 := Scalar.addi v240 c0_i32_141
  v241
def k0_mult24 : BitVec 32 :=
  let c0_i32_145 : BitVec 32 := 0#32
  c0_i32_145
def k0_mult25 : BitVec 32 :=
  let c_m1_i32_152 : BitVec 32 := 4294967295#32
  let c16_i32_151 : BitVec 32 := 16#32
  let true_148 : BitVec 1 := 1#1
  let c1_i32_149 : BitVec 32 := 1#32
  let c0_i32_150 : BitVec 32 := 0#32
  let v262 : BitVec 32 := Scalar.select true_148 c1_i32_149 c0_i32_150
  let v263 : BitVec 32 := Scalar.muli c16_i32_151 v262
  let v264 : BitVec 32 := Scalar.addi c_m1_i32_152 v263
  let c128_i32_153 : BitVec 32 := 128#32
  let v265 : BitVec 32 := Scalar.muli v264 c128_i32_153
  let c0_i32_154 : BitVec 32 := 0#32
  let v266 : BitVec 32 := Scalar.addi v265 c0_i32_154
  v266
def k0_mult26 : BitVec 32 :=
  let c_m2_i32_162 : BitVec 32 := 4294967294#32
  let c16_i32_161 : BitVec 32 := 16#32
  let true_158 : BitVec 1 := 1#1
  let c1_i32_159 : BitVec 32 := 1#32
  let c0_i32_160 : BitVec 32 := 0#32
  let v278 : BitVec 32 := Scalar.select true_158 c1_i32_159 c0_i32_160
  let v279 : BitVec 32 := Scalar.muli c16_i32_161 v278
  let v280 : BitVec 32 := Scalar.addi c_m2_i32_162 v279
  let c128_i32_163 : BitVec 32 := 128#32
  let v281 : BitVec 32 := Scalar.muli v280 c128_i32_163
  let c0_i32_164 : BitVec 32 := 0#32
  let v282 : BitVec 32 := Scalar.addi v281 c0_i32_164
  v282
def k0_mult27 : BitVec 32 :=
  let c_m3_i32_172 : BitVec 32 := 4294967293#32
  let c16_i32_171 : BitVec 32 := 16#32
  let true_168 : BitVec 1 := 1#1
  let c1_i32_169 : BitVec 32 := 1#32
  let c0_i32_170 : BitVec 32 := 0#32
  let v294 : BitVec 32 := Scalar.select true_168 c1_i32_169 c0_i32_170
  let v295 : BitVec 32 := Scalar.muli c16_i32_171 v294
  let v296 : BitVec 32 := Scalar.addi c_m3_i32_172 v295
  let c128_i32_173 : BitVec 32 := 128#32
  let v297 : BitVec 32 := Scalar.muli v296 c128_i32_173
  let c0_i32_174 : BitVec 32 := 0#32
  let v298 : BitVec 32 := Scalar.addi v297 c0_i32_174
  v298
def k0_mult28 : BitVec 32 :=
  let c_m4_i32_182 : BitVec 32 := 4294967292#32
  let c16_i32_181 : BitVec 32 := 16#32
  let true_178 : BitVec 1 := 1#1
  let c1_i32_179 : BitVec 32 := 1#32
  let c0_i32_180 : BitVec 32 := 0#32
  let v310 : BitVec 32 := Scalar.select true_178 c1_i32_179 c0_i32_180
  let v311 : BitVec 32 := Scalar.muli c16_i32_181 v310
  let v312 : BitVec 32 := Scalar.addi c_m4_i32_182 v311
  let c128_i32_183 : BitVec 32 := 128#32
  let v313 : BitVec 32 := Scalar.muli v312 c128_i32_183
  let c0_i32_184 : BitVec 32 := 0#32
  let v314 : BitVec 32 := Scalar.addi v313 c0_i32_184
  v314
def k0_mult29 : BitVec 32 :=
  let c_m5_i32_192 : BitVec 32 := 4294967291#32
  let c16_i32_191 : BitVec 32 := 16#32
  let true_188 : BitVec 1 := 1#1
  let c1_i32_189 : BitVec 32 := 1#32
  let c0_i32_190 : BitVec 32 := 0#32
  let v326 : BitVec 32 := Scalar.select true_188 c1_i32_189 c0_i32_190
  let v327 : BitVec 32 := Scalar.muli c16_i32_191 v326
  let v328 : BitVec 32 := Scalar.addi c_m5_i32_192 v327
  let c128_i32_193 : BitVec 32 := 128#32
  let v329 : BitVec 32 := Scalar.muli v328 c128_i32_193
  let c0_i32_194 : BitVec 32 := 0#32
  let v330 : BitVec 32 := Scalar.addi v329 c0_i32_194
  v330
def k0_mult30 : BitVec 32 :=
  let c_m6_i32_202 : BitVec 32 := 4294967290#32
  let c16_i32_201 : BitVec 32 := 16#32
  let true_198 : BitVec 1 := 1#1
  let c1_i32_199 : BitVec 32 := 1#32
  let c0_i32_200 : BitVec 32 := 0#32
  let v342 : BitVec 32 := Scalar.select true_198 c1_i32_199 c0_i32_200
  let v343 : BitVec 32 := Scalar.muli c16_i32_201 v342
  let v344 : BitVec 32 := Scalar.addi c_m6_i32_202 v343
  let c128_i32_203 : BitVec 32 := 128#32
  let v345 : BitVec 32 := Scalar.muli v344 c128_i32_203
  let c0_i32_204 : BitVec 32 := 0#32
  let v346 : BitVec 32 := Scalar.addi v345 c0_i32_204
  v346
def k0_mult31 : BitVec 32 :=
  let c_m7_i32_212 : BitVec 32 := 4294967289#32
  let c16_i32_211 : BitVec 32 := 16#32
  let true_208 : BitVec 1 := 1#1
  let c1_i32_209 : BitVec 32 := 1#32
  let c0_i32_210 : BitVec 32 := 0#32
  let v358 : BitVec 32 := Scalar.select true_208 c1_i32_209 c0_i32_210
  let v359 : BitVec 32 := Scalar.muli c16_i32_211 v358
  let v360 : BitVec 32 := Scalar.addi c_m7_i32_212 v359
  let c128_i32_213 : BitVec 32 := 128#32
  let v361 : BitVec 32 := Scalar.muli v360 c128_i32_213
  let c0_i32_214 : BitVec 32 := 0#32
  let v362 : BitVec 32 := Scalar.addi v361 c0_i32_214
  v362
def k0_mult32 : BitVec 32 :=
  let c_m8_i32_222 : BitVec 32 := 4294967288#32
  let c16_i32_221 : BitVec 32 := 16#32
  let true_218 : BitVec 1 := 1#1
  let c1_i32_219 : BitVec 32 := 1#32
  let c0_i32_220 : BitVec 32 := 0#32
  let v374 : BitVec 32 := Scalar.select true_218 c1_i32_219 c0_i32_220
  let v375 : BitVec 32 := Scalar.muli c16_i32_221 v374
  let v376 : BitVec 32 := Scalar.addi c_m8_i32_222 v375
  let c128_i32_223 : BitVec 32 := 128#32
  let v377 : BitVec 32 := Scalar.muli v376 c128_i32_223
  let c0_i32_224 : BitVec 32 := 0#32
  let v378 : BitVec 32 := Scalar.addi v377 c0_i32_224
  v378
def k0_mult33 : BitVec 32 :=
  let c_m9_i32_232 : BitVec 32 := 4294967287#32
  let c16_i32_231 : BitVec 32 := 16#32
  let true_228 : BitVec 1 := 1#1
  let c1_i32_229 : BitVec 32 := 1#32
  let c0_i32_230 : BitVec 32 := 0#32
  let v390 : BitVec 32 := Scalar.select true_228 c1_i32_229 c0_i32_230
  let v391 : BitVec 32 := Scalar.muli c16_i32_231 v390
  let v392 : BitVec 32 := Scalar.addi c_m9_i32_232 v391
  let c128_i32_233 : BitVec 32 := 128#32
  let v393 : BitVec 32 := Scalar.muli v392 c128_i32_233
  let c0_i32_234 : BitVec 32 := 0#32
  let v394 : BitVec 32 := Scalar.addi v393 c0_i32_234
  v394
def k0_mult34 : BitVec 32 :=
  let c_m10_i32_242 : BitVec 32 := 4294967286#32
  let c16_i32_241 : BitVec 32 := 16#32
  let true_238 : BitVec 1 := 1#1
  let c1_i32_239 : BitVec 32 := 1#32
  let c0_i32_240 : BitVec 32 := 0#32
  let v406 : BitVec 32 := Scalar.select true_238 c1_i32_239 c0_i32_240
  let v407 : BitVec 32 := Scalar.muli c16_i32_241 v406
  let v408 : BitVec 32 := Scalar.addi c_m10_i32_242 v407
  let c128_i32_243 : BitVec 32 := 128#32
  let v409 : BitVec 32 := Scalar.muli v408 c128_i32_243
  let c0_i32_244 : BitVec 32 := 0#32
  let v410 : BitVec 32 := Scalar.addi v409 c0_i32_244
  v410
def k0_mult35 : BitVec 32 :=
  let c_m11_i32_252 : BitVec 32 := 4294967285#32
  let c16_i32_251 : BitVec 32 := 16#32
  let true_248 : BitVec 1 := 1#1
  let c1_i32_249 : BitVec 32 := 1#32
  let c0_i32_250 : BitVec 32 := 0#32
  let v422 : BitVec 32 := Scalar.select true_248 c1_i32_249 c0_i32_250
  let v423 : BitVec 32 := Scalar.muli c16_i32_251 v422
  let v424 : BitVec 32 := Scalar.addi c_m11_i32_252 v423
  let c128_i32_253 : BitVec 32 := 128#32
  let v425 : BitVec 32 := Scalar.muli v424 c128_i32_253
  let c0_i32_254 : BitVec 32 := 0#32
  let v426 : BitVec 32 := Scalar.addi v425 c0_i32_254
  v426
def k0_mult36 : BitVec 32 :=
  let c_m12_i32_262 : BitVec 32 := 4294967284#32
  let c16_i32_261 : BitVec 32 := 16#32
  let true_258 : BitVec 1 := 1#1
  let c1_i32_259 : BitVec 32 := 1#32
  let c0_i32_260 : BitVec 32 := 0#32
  let v438 : BitVec 32 := Scalar.select true_258 c1_i32_259 c0_i32_260
  let v439 : BitVec 32 := Scalar.muli c16_i32_261 v438
  let v440 : BitVec 32 := Scalar.addi c_m12_i32_262 v439
  let c128_i32_263 : BitVec 32 := 128#32
  let v441 : BitVec 32 := Scalar.muli v440 c128_i32_263
  let c0_i32_264 : BitVec 32 := 0#32
  let v442 : BitVec 32 := Scalar.addi v441 c0_i32_264
  v442
def k0_mult37 : BitVec 32 :=
  let c_m13_i32_272 : BitVec 32 := 4294967283#32
  let c16_i32_271 : BitVec 32 := 16#32
  let true_268 : BitVec 1 := 1#1
  let c1_i32_269 : BitVec 32 := 1#32
  let c0_i32_270 : BitVec 32 := 0#32
  let v454 : BitVec 32 := Scalar.select true_268 c1_i32_269 c0_i32_270
  let v455 : BitVec 32 := Scalar.muli c16_i32_271 v454
  let v456 : BitVec 32 := Scalar.addi c_m13_i32_272 v455
  let c128_i32_273 : BitVec 32 := 128#32
  let v457 : BitVec 32 := Scalar.muli v456 c128_i32_273
  let c0_i32_274 : BitVec 32 := 0#32
  let v458 : BitVec 32 := Scalar.addi v457 c0_i32_274
  v458
def k0_mult38 : BitVec 32 :=
  let c_m14_i32_283 : BitVec 32 := 4294967282#32
  let c16_i32_282 : BitVec 32 := 16#32
  let true_279 : BitVec 1 := 1#1
  let c1_i32_280 : BitVec 32 := 1#32
  let c0_i32_281 : BitVec 32 := 0#32
  let v470 : BitVec 32 := Scalar.select true_279 c1_i32_280 c0_i32_281
  let v471 : BitVec 32 := Scalar.muli c16_i32_282 v470
  let v472 : BitVec 32 := Scalar.addi c_m14_i32_283 v471
  let c128_i32_284 : BitVec 32 := 128#32
  let v473 : BitVec 32 := Scalar.muli v472 c128_i32_284
  let c0_i32_285 : BitVec 32 := 0#32
  let v474 : BitVec 32 := Scalar.addi v473 c0_i32_285
  v474
def k0_mult39 : BitVec 32 :=
  let c64_i32 : BitVec 32 := 64#32
  c64_i32
def k0_mult40 : BitVec 32 :=
  let c64_i32_293 : BitVec 32 := 64#32
  c64_i32_293
def k0_mult41 : BitVec 32 :=
  let c_m1_i32_302 : BitVec 32 := 4294967295#32
  let c16_i32_301 : BitVec 32 := 16#32
  let true_298 : BitVec 1 := 1#1
  let c1_i32_299 : BitVec 32 := 1#32
  let c0_i32_300 : BitVec 32 := 0#32
  let v503 : BitVec 32 := Scalar.select true_298 c1_i32_299 c0_i32_300
  let v504 : BitVec 32 := Scalar.muli c16_i32_301 v503
  let v505 : BitVec 32 := Scalar.addi c_m1_i32_302 v504
  let c128_i32_303 : BitVec 32 := 128#32
  let v506 : BitVec 32 := Scalar.muli v505 c128_i32_303
  let c64_i32_304 : BitVec 32 := 64#32
  let v507 : BitVec 32 := Scalar.addi v506 c64_i32_304
  v507
def k0_mult42 : BitVec 32 :=
  let c_m2_i32_313 : BitVec 32 := 4294967294#32
  let c16_i32_312 : BitVec 32 := 16#32
  let true_309 : BitVec 1 := 1#1
  let c1_i32_310 : BitVec 32 := 1#32
  let c0_i32_311 : BitVec 32 := 0#32
  let v519 : BitVec 32 := Scalar.select true_309 c1_i32_310 c0_i32_311
  let v520 : BitVec 32 := Scalar.muli c16_i32_312 v519
  let v521 : BitVec 32 := Scalar.addi c_m2_i32_313 v520
  let c128_i32_314 : BitVec 32 := 128#32
  let v522 : BitVec 32 := Scalar.muli v521 c128_i32_314
  let c64_i32_315 : BitVec 32 := 64#32
  let v523 : BitVec 32 := Scalar.addi v522 c64_i32_315
  v523
def k0_mult43 : BitVec 32 :=
  let c_m3_i32_324 : BitVec 32 := 4294967293#32
  let c16_i32_323 : BitVec 32 := 16#32
  let true_320 : BitVec 1 := 1#1
  let c1_i32_321 : BitVec 32 := 1#32
  let c0_i32_322 : BitVec 32 := 0#32
  let v535 : BitVec 32 := Scalar.select true_320 c1_i32_321 c0_i32_322
  let v536 : BitVec 32 := Scalar.muli c16_i32_323 v535
  let v537 : BitVec 32 := Scalar.addi c_m3_i32_324 v536
  let c128_i32_325 : BitVec 32 := 128#32
  let v538 : BitVec 32 := Scalar.muli v537 c128_i32_325
  let c64_i32_326 : BitVec 32 := 64#32
  let v539 : BitVec 32 := Scalar.addi v538 c64_i32_326
  v539
def k0_mult44 : BitVec 32 :=
  let c_m4_i32_335 : BitVec 32 := 4294967292#32
  let c16_i32_334 : BitVec 32 := 16#32
  let true_331 : BitVec 1 := 1#1
  let c1_i32_332 : BitVec 32 := 1#32
  let c0_i32_333 : BitVec 32 := 0#32
  let v551 : BitVec 32 := Scalar.select true_331 c1_i32_332 c0_i32_333
  let v552 : BitVec 32 := Scalar.muli c16_i32_334 v551
  let v553 : BitVec 32 := Scalar.addi c_m4_i32_335 v552
  let c128_i32_336 : BitVec 32 := 128#32
  let v554 : BitVec 32 := Scalar.muli v553 c128_i32_336
  let c64_i32_337 : BitVec 32 := 64#32
  let v555 : BitVec 32 := Scalar.addi v554 c64_i32_337
  v555
def k0_mult45 : BitVec 32 :=
  let c_m5_i32_346 : BitVec 32 := 4294967291#32
  let c16_i32_345 : BitVec 32 := 16#32
  let true_342 : BitVec 1 := 1#1
  let c1_i32_343 : BitVec 32 := 1#32
  let c0_i32_344 : BitVec 32 := 0#32
  let v567 : BitVec 32 := Scalar.select true_342 c1_i32_343 c0_i32_344
  let v568 : BitVec 32 := Scalar.muli c16_i32_345 v567
  let v569 : BitVec 32 := Scalar.addi c_m5_i32_346 v568
  let c128_i32_347 : BitVec 32 := 128#32
  let v570 : BitVec 32 := Scalar.muli v569 c128_i32_347
  let c64_i32_348 : BitVec 32 := 64#32
  let v571 : BitVec 32 := Scalar.addi v570 c64_i32_348
  v571
def k0_mult46 : BitVec 32 :=
  let c_m6_i32_357 : BitVec 32 := 4294967290#32
  let c16_i32_356 : BitVec 32 := 16#32
  let true_353 : BitVec 1 := 1#1
  let c1_i32_354 : BitVec 32 := 1#32
  let c0_i32_355 : BitVec 32 := 0#32
  let v583 : BitVec 32 := Scalar.select true_353 c1_i32_354 c0_i32_355
  let v584 : BitVec 32 := Scalar.muli c16_i32_356 v583
  let v585 : BitVec 32 := Scalar.addi c_m6_i32_357 v584
  let c128_i32_358 : BitVec 32 := 128#32
  let v586 : BitVec 32 := Scalar.muli v585 c128_i32_358
  let c64_i32_359 : BitVec 32 := 64#32
  let v587 : BitVec 32 := Scalar.addi v586 c64_i32_359
  v587
def k0_mult47 : BitVec 32 :=
  let c_m7_i32_368 : BitVec 32 := 4294967289#32
  let c16_i32_367 : BitVec 32 := 16#32
  let true_364 : BitVec 1 := 1#1
  let c1_i32_365 : BitVec 32 := 1#32
  let c0_i32_366 : BitVec 32 := 0#32
  let v599 : BitVec 32 := Scalar.select true_364 c1_i32_365 c0_i32_366
  let v600 : BitVec 32 := Scalar.muli c16_i32_367 v599
  let v601 : BitVec 32 := Scalar.addi c_m7_i32_368 v600
  let c128_i32_369 : BitVec 32 := 128#32
  let v602 : BitVec 32 := Scalar.muli v601 c128_i32_369
  let c64_i32_370 : BitVec 32 := 64#32
  let v603 : BitVec 32 := Scalar.addi v602 c64_i32_370
  v603
def k0_mult48 : BitVec 32 :=
  let c_m8_i32_379 : BitVec 32 := 4294967288#32
  let c16_i32_378 : BitVec 32 := 16#32
  let true_375 : BitVec 1 := 1#1
  let c1_i32_376 : BitVec 32 := 1#32
  let c0_i32_377 : BitVec 32 := 0#32
  let v615 : BitVec 32 := Scalar.select true_375 c1_i32_376 c0_i32_377
  let v616 : BitVec 32 := Scalar.muli c16_i32_378 v615
  let v617 : BitVec 32 := Scalar.addi c_m8_i32_379 v616
  let c128_i32_380 : BitVec 32 := 128#32
  let v618 : BitVec 32 := Scalar.muli v617 c128_i32_380
  let c64_i32_381 : BitVec 32 := 64#32
  let v619 : BitVec 32 := Scalar.addi v618 c64_i32_381
  v619
def k0_mult49 : BitVec 32 :=
  let c_m9_i32_390 : BitVec 32 := 4294967287#32
  let c16_i32_389 : BitVec 32 := 16#32
  let true_386 : BitVec 1 := 1#1
  let c1_i32_387 : BitVec 32 := 1#32
  let c0_i32_388 : BitVec 32 := 0#32
  let v631 : BitVec 32 := Scalar.select true_386 c1_i32_387 c0_i32_388
  let v632 : BitVec 32 := Scalar.muli c16_i32_389 v631
  let v633 : BitVec 32 := Scalar.addi c_m9_i32_390 v632
  let c128_i32_391 : BitVec 32 := 128#32
  let v634 : BitVec 32 := Scalar.muli v633 c128_i32_391
  let c64_i32_392 : BitVec 32 := 64#32
  let v635 : BitVec 32 := Scalar.addi v634 c64_i32_392
  v635
def k0_mult50 : BitVec 32 :=
  let c_m10_i32_401 : BitVec 32 := 4294967286#32
  let c16_i32_400 : BitVec 32 := 16#32
  let true_397 : BitVec 1 := 1#1
  let c1_i32_398 : BitVec 32 := 1#32
  let c0_i32_399 : BitVec 32 := 0#32
  let v647 : BitVec 32 := Scalar.select true_397 c1_i32_398 c0_i32_399
  let v648 : BitVec 32 := Scalar.muli c16_i32_400 v647
  let v649 : BitVec 32 := Scalar.addi c_m10_i32_401 v648
  let c128_i32_402 : BitVec 32 := 128#32
  let v650 : BitVec 32 := Scalar.muli v649 c128_i32_402
  let c64_i32_403 : BitVec 32 := 64#32
  let v651 : BitVec 32 := Scalar.addi v650 c64_i32_403
  v651
def k0_mult51 : BitVec 32 :=
  let c_m11_i32_412 : BitVec 32 := 4294967285#32
  let c16_i32_411 : BitVec 32 := 16#32
  let true_408 : BitVec 1 := 1#1
  let c1_i32_409 : BitVec 32 := 1#32
  let c0_i32_410 : BitVec 32 := 0#32
  let v663 : BitVec 32 := Scalar.select true_408 c1_i32_409 c0_i32_410
  let v664 : BitVec 32 := Scalar.muli c16_i32_411 v663
  let v665 : BitVec 32 := Scalar.addi c_m11_i32_412 v664
  let c128_i32_413 : BitVec 32 := 128#32
  let v666 : BitVec 32 := Scalar.muli v665 c128_i32_413
  let c64_i32_414 : BitVec 32 := 64#32
  let v667 : BitVec 32 := Scalar.addi v666 c64_i32_414
  v667
def k0_mult52 : BitVec 32 :=
  let c_m12_i32_423 : BitVec 32 := 4294967284#32
  let c16_i32_422 : BitVec 32 := 16#32
  let true_419 : BitVec 1 := 1#1
  let c1_i32_420 : BitVec 32 := 1#32
  let c0_i32_421 : BitVec 32 := 0#32
  let v679 : BitVec 32 := Scalar.select true_419 c1_i32_420 c0_i32_421
  let v680 : BitVec 32 := Scalar.muli c16_i32_422 v679
  let v681 : BitVec 32 := Scalar.addi c_m12_i32_423 v680
  let c128_i32_424 : BitVec 32 := 128#32
  let v682 : BitVec 32 := Scalar.muli v681 c128_i32_424
  let c64_i32_425 : BitVec 32 := 64#32
  let v683 : BitVec 32 := Scalar.addi v682 c64_i32_425
  v683
def k0_mult53 : BitVec 32 :=
  let c_m13_i32_434 : BitVec 32 := 4294967283#32
  let c16_i32_433 : BitVec 32 := 16#32
  let true_430 : BitVec 1 := 1#1
  let c1_i32_431 : BitVec 32 := 1#32
  let c0_i32_432 : BitVec 32 := 0#32
  let v695 : BitVec 32 := Scalar.select true_430 c1_i32_431 c0_i32_432
  let v696 : BitVec 32 := Scalar.muli c16_i32_433 v695
  let v697 : BitVec 32 := Scalar.addi c_m13_i32_434 v696
  let c128_i32_435 : BitVec 32 := 128#32
  let v698 : BitVec 32 := Scalar.muli v697 c128_i32_435
  let c64_i32_436 : BitVec 32 := 64#32
  let v699 : BitVec 32 := Scalar.addi v698 c64_i32_436
  v699
def k0_mult54 : BitVec 32 :=
  let c_m14_i32_445 : BitVec 32 := 4294967282#32
  let c16_i32_444 : BitVec 32 := 16#32
  let true_441 : BitVec 1 := 1#1
  let c1_i32_442 : BitVec 32 := 1#32
  let c0_i32_443 : BitVec 32 := 0#32
  let v711 : BitVec 32 := Scalar.select true_441 c1_i32_442 c0_i32_443
  let v712 : BitVec 32 := Scalar.muli c16_i32_444 v711
  let v713 : BitVec 32 := Scalar.addi c_m14_i32_445 v712
  let c128_i32_446 : BitVec 32 := 128#32
  let v714 : BitVec 32 := Scalar.muli v713 c128_i32_446
  let c64_i32_447 : BitVec 32 := 64#32
  let v715 : BitVec 32 := Scalar.addi v714 c64_i32_447
  v715
def k0_mult55 : BitVec 32 :=
  let c_m15_i32_456 : BitVec 32 := 4294967281#32
  let c16_i32_455 : BitVec 32 := 16#32
  let true_452 : BitVec 1 := 1#1
  let c1_i32_453 : BitVec 32 := 1#32
  let c0_i32_454 : BitVec 32 := 0#32
  let v727 : BitVec 32 := Scalar.select true_452 c1_i32_453 c0_i32_454
  let v728 : BitVec 32 := Scalar.muli c16_i32_455 v727
  let v729 : BitVec 32 := Scalar.addi c_m15_i32_456 v728
  let c128_i32_457 : BitVec 32 := 128#32
  let v730 : BitVec 32 := Scalar.muli v729 c128_i32_457
  let c64_i32_458 : BitVec 32 := 64#32
  let v731 : BitVec 32 := Scalar.addi v730 c64_i32_458
  v731
def k0_mult56 : BitVec 32 :=
  let c64_i32_463 : BitVec 32 := 64#32
  c64_i32_463
def k0_mult57 : BitVec 32 :=
  let c_m1_i32_472 : BitVec 32 := 4294967295#32
  let c16_i32_471 : BitVec 32 := 16#32
  let true_468 : BitVec 1 := 1#1
  let c1_i32_469 : BitVec 32 := 1#32
  let c0_i32_470 : BitVec 32 := 0#32
  let v752 : BitVec 32 := Scalar.select true_468 c1_i32_469 c0_i32_470
  let v753 : BitVec 32 := Scalar.muli c16_i32_471 v752
  let v754 : BitVec 32 := Scalar.addi c_m1_i32_472 v753
  let c128_i32_473 : BitVec 32 := 128#32
  let v755 : BitVec 32 := Scalar.muli v754 c128_i32_473
  let c64_i32_474 : BitVec 32 := 64#32
  let v756 : BitVec 32 := Scalar.addi v755 c64_i32_474
  v756
def k0_mult58 : BitVec 32 :=
  let c_m2_i32_483 : BitVec 32 := 4294967294#32
  let c16_i32_482 : BitVec 32 := 16#32
  let true_479 : BitVec 1 := 1#1
  let c1_i32_480 : BitVec 32 := 1#32
  let c0_i32_481 : BitVec 32 := 0#32
  let v768 : BitVec 32 := Scalar.select true_479 c1_i32_480 c0_i32_481
  let v769 : BitVec 32 := Scalar.muli c16_i32_482 v768
  let v770 : BitVec 32 := Scalar.addi c_m2_i32_483 v769
  let c128_i32_484 : BitVec 32 := 128#32
  let v771 : BitVec 32 := Scalar.muli v770 c128_i32_484
  let c64_i32_485 : BitVec 32 := 64#32
  let v772 : BitVec 32 := Scalar.addi v771 c64_i32_485
  v772
def k0_mult59 : BitVec 32 :=
  let c_m3_i32_494 : BitVec 32 := 4294967293#32
  let c16_i32_493 : BitVec 32 := 16#32
  let true_490 : BitVec 1 := 1#1
  let c1_i32_491 : BitVec 32 := 1#32
  let c0_i32_492 : BitVec 32 := 0#32
  let v784 : BitVec 32 := Scalar.select true_490 c1_i32_491 c0_i32_492
  let v785 : BitVec 32 := Scalar.muli c16_i32_493 v784
  let v786 : BitVec 32 := Scalar.addi c_m3_i32_494 v785
  let c128_i32_495 : BitVec 32 := 128#32
  let v787 : BitVec 32 := Scalar.muli v786 c128_i32_495
  let c64_i32_496 : BitVec 32 := 64#32
  let v788 : BitVec 32 := Scalar.addi v787 c64_i32_496
  v788
def k0_mult60 : BitVec 32 :=
  let c_m4_i32_505 : BitVec 32 := 4294967292#32
  let c16_i32_504 : BitVec 32 := 16#32
  let true_501 : BitVec 1 := 1#1
  let c1_i32_502 : BitVec 32 := 1#32
  let c0_i32_503 : BitVec 32 := 0#32
  let v800 : BitVec 32 := Scalar.select true_501 c1_i32_502 c0_i32_503
  let v801 : BitVec 32 := Scalar.muli c16_i32_504 v800
  let v802 : BitVec 32 := Scalar.addi c_m4_i32_505 v801
  let c128_i32_506 : BitVec 32 := 128#32
  let v803 : BitVec 32 := Scalar.muli v802 c128_i32_506
  let c64_i32_507 : BitVec 32 := 64#32
  let v804 : BitVec 32 := Scalar.addi v803 c64_i32_507
  v804
def k0_mult61 : BitVec 32 :=
  let c_m5_i32_516 : BitVec 32 := 4294967291#32
  let c16_i32_515 : BitVec 32 := 16#32
  let true_512 : BitVec 1 := 1#1
  let c1_i32_513 : BitVec 32 := 1#32
  let c0_i32_514 : BitVec 32 := 0#32
  let v816 : BitVec 32 := Scalar.select true_512 c1_i32_513 c0_i32_514
  let v817 : BitVec 32 := Scalar.muli c16_i32_515 v816
  let v818 : BitVec 32 := Scalar.addi c_m5_i32_516 v817
  let c128_i32_517 : BitVec 32 := 128#32
  let v819 : BitVec 32 := Scalar.muli v818 c128_i32_517
  let c64_i32_518 : BitVec 32 := 64#32
  let v820 : BitVec 32 := Scalar.addi v819 c64_i32_518
  v820
def k0_mult62 : BitVec 32 :=
  let c_m6_i32_527 : BitVec 32 := 4294967290#32
  let c16_i32_526 : BitVec 32 := 16#32
  let true_523 : BitVec 1 := 1#1
  let c1_i32_524 : BitVec 32 := 1#32
  let c0_i32_525 : BitVec 32 := 0#32
  let v832 : BitVec 32 := Scalar.select true_523 c1_i32_524 c0_i32_525
  let v833 : BitVec 32 := Scalar.muli c16_i32_526 v832
  let v834 : BitVec 32 := Scalar.addi c_m6_i32_527 v833
  let c128_i32_528 : BitVec 32 := 128#32
  let v835 : BitVec 32 := Scalar.muli v834 c128_i32_528
  let c64_i32_529 : BitVec 32 := 64#32
  let v836 : BitVec 32 := Scalar.addi v835 c64_i32_529
  v836
def k0_mult63 : BitVec 32 :=
  let c_m7_i32_538 : BitVec 32 := 4294967289#32
  let c16_i32_537 : BitVec 32 := 16#32
  let true_534 : BitVec 1 := 1#1
  let c1_i32_535 : BitVec 32 := 1#32
  let c0_i32_536 : BitVec 32 := 0#32
  let v848 : BitVec 32 := Scalar.select true_534 c1_i32_535 c0_i32_536
  let v849 : BitVec 32 := Scalar.muli c16_i32_537 v848
  let v850 : BitVec 32 := Scalar.addi c_m7_i32_538 v849
  let c128_i32_539 : BitVec 32 := 128#32
  let v851 : BitVec 32 := Scalar.muli v850 c128_i32_539
  let c64_i32_540 : BitVec 32 := 64#32
  let v852 : BitVec 32 := Scalar.addi v851 c64_i32_540
  v852
def k0_mult64 : BitVec 32 :=
  let c_m8_i32_549 : BitVec 32 := 4294967288#32
  let c16_i32_548 : BitVec 32 := 16#32
  let true_545 : BitVec 1 := 1#1
  let c1_i32_546 : BitVec 32 := 1#32
  let c0_i32_547 : BitVec 32 := 0#32
  let v864 : BitVec 32 := Scalar.select true_545 c1_i32_546 c0_i32_547
  let v865 : BitVec 32 := Scalar.muli c16_i32_548 v864
  let v866 : BitVec 32 := Scalar.addi c_m8_i32_549 v865
  let c128_i32_550 : BitVec 32 := 128#32
  let v867 : BitVec 32 := Scalar.muli v866 c128_i32_550
  let c64_i32_551 : BitVec 32 := 64#32
  let v868 : BitVec 32 := Scalar.addi v867 c64_i32_551
  v868
def k0_mult65 : BitVec 32 :=
  let c_m9_i32_560 : BitVec 32 := 4294967287#32
  let c16_i32_559 : BitVec 32 := 16#32
  let true_556 : BitVec 1 := 1#1
  let c1_i32_557 : BitVec 32 := 1#32
  let c0_i32_558 : BitVec 32 := 0#32
  let v880 : BitVec 32 := Scalar.select true_556 c1_i32_557 c0_i32_558
  let v881 : BitVec 32 := Scalar.muli c16_i32_559 v880
  let v882 : BitVec 32 := Scalar.addi c_m9_i32_560 v881
  let c128_i32_561 : BitVec 32 := 128#32
  let v883 : BitVec 32 := Scalar.muli v882 c128_i32_561
  let c64_i32_562 : BitVec 32 := 64#32
  let v884 : BitVec 32 := Scalar.addi v883 c64_i32_562
  v884
def k0_mult66 : BitVec 32 :=
  let c_m10_i32_571 : BitVec 32 := 4294967286#32
  let c16_i32_570 : BitVec 32 := 16#32
  let true_567 : BitVec 1 := 1#1
  let c1_i32_568 : BitVec 32 := 1#32
  let c0_i32_569 : BitVec 32 := 0#32
  let v896 : BitVec 32 := Scalar.select true_567 c1_i32_568 c0_i32_569
  let v897 : BitVec 32 := Scalar.muli c16_i32_570 v896
  let v898 : BitVec 32 := Scalar.addi c_m10_i32_571 v897
  let c128_i32_572 : BitVec 32 := 128#32
  let v899 : BitVec 32 := Scalar.muli v898 c128_i32_572
  let c64_i32_573 : BitVec 32 := 64#32
  let v900 : BitVec 32 := Scalar.addi v899 c64_i32_573
  v900
def k0_mult67 : BitVec 32 :=
  let c_m11_i32_582 : BitVec 32 := 4294967285#32
  let c16_i32_581 : BitVec 32 := 16#32
  let true_578 : BitVec 1 := 1#1
  let c1_i32_579 : BitVec 32 := 1#32
  let c0_i32_580 : BitVec 32 := 0#32
  let v912 : BitVec 32 := Scalar.select true_578 c1_i32_579 c0_i32_580
  let v913 : BitVec 32 := Scalar.muli c16_i32_581 v912
  let v914 : BitVec 32 := Scalar.addi c_m11_i32_582 v913
  let c128_i32_583 : BitVec 32 := 128#32
  let v915 : BitVec 32 := Scalar.muli v914 c128_i32_583
  let c64_i32_584 : BitVec 32 := 64#32
  let v916 : BitVec 32 := Scalar.addi v915 c64_i32_584
  v916
def k0_mult68 : BitVec 32 :=
  let c_m12_i32_593 : BitVec 32 := 4294967284#32
  let c16_i32_592 : BitVec 32 := 16#32
  let true_589 : BitVec 1 := 1#1
  let c1_i32_590 : BitVec 32 := 1#32
  let c0_i32_591 : BitVec 32 := 0#32
  let v928 : BitVec 32 := Scalar.select true_589 c1_i32_590 c0_i32_591
  let v929 : BitVec 32 := Scalar.muli c16_i32_592 v928
  let v930 : BitVec 32 := Scalar.addi c_m12_i32_593 v929
  let c128_i32_594 : BitVec 32 := 128#32
  let v931 : BitVec 32 := Scalar.muli v930 c128_i32_594
  let c64_i32_595 : BitVec 32 := 64#32
  let v932 : BitVec 32 := Scalar.addi v931 c64_i32_595
  v932
def k0_mult69 : BitVec 32 :=
  let c_m13_i32_604 : BitVec 32 := 4294967283#32
  let c16_i32_603 : BitVec 32 := 16#32
  let true_600 : BitVec 1 := 1#1
  let c1_i32_601 : BitVec 32 := 1#32
  let c0_i32_602 : BitVec 32 := 0#32
  let v944 : BitVec 32 := Scalar.select true_600 c1_i32_601 c0_i32_602
  let v945 : BitVec 32 := Scalar.muli c16_i32_603 v944
  let v946 : BitVec 32 := Scalar.addi c_m13_i32_604 v945
  let c128_i32_605 : BitVec 32 := 128#32
  let v947 : BitVec 32 := Scalar.muli v946 c128_i32_605
  let c64_i32_606 : BitVec 32 := 64#32
  let v948 : BitVec 32 := Scalar.addi v947 c64_i32_606
  v948
def k0_mult70 : BitVec 32 :=
  let c_m14_i32_615 : BitVec 32 := 4294967282#32
  let c16_i32_614 : BitVec 32 := 16#32
  let true_611 : BitVec 1 := 1#1
  let c1_i32_612 : BitVec 32 := 1#32
  let c0_i32_613 : BitVec 32 := 0#32
  let v960 : BitVec 32 := Scalar.select true_611 c1_i32_612 c0_i32_613
  let v961 : BitVec 32 := Scalar.muli c16_i32_614 v960
  let v962 : BitVec 32 := Scalar.addi c_m14_i32_615 v961
  let c128_i32_616 : BitVec 32 := 128#32
  let v963 : BitVec 32 := Scalar.muli v962 c128_i32_616
  let c64_i32_617 : BitVec 32 := 64#32
  let v964 : BitVec 32 := Scalar.addi v963 c64_i32_617
  v964
@[reducible] def k0_t4_loop : Scf.Loop 32 :=
  let c1_i32_625 : BitVec 32 := 1#32
  let c15_i32 : BitVec 32 := 15#32
  let v984 : BitVec 32 := Scalar.addi c1_i32_625 c15_i32
  let c1_i32_626 : BitVec 32 := 1#32
  ⟨c1_i32_625, v984, c1_i32_626⟩
def k0_mult71 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c1_i32_637 : BitVec 32 := 1#32
  let v1017 : BitVec 32 := Scalar.subi arg10 c1_i32_637
  let c128_i32_638 : BitVec 32 := 128#32
  let v1018 : BitVec 32 := Scalar.muli v1017 c128_i32_638
  v1018
def k0_off13 (k0_t4 : Fin k0_t4_loop.trips) : Fin 2 → Nat :=
  let c1_i32_625 : BitVec 32 := 1#32
  let c1_i32_626 : BitVec 32 := 1#32
  let arg10 : BitVec 32 := Scf.iv c1_i32_625 c1_i32_626 k0_t4
  let c1_i32_637 : BitVec 32 := 1#32
  let v1017 : BitVec 32 := Scalar.subi arg10 c1_i32_637
  let c128_i32_638 : BitVec 32 := 128#32
  let v1018 : BitVec 32 := Scalar.muli v1017 c128_i32_638
  let v1019 : BitVec 32 := v1018
  let v1020 : Index := Scalar.indexCast v1019
  let c0_639 : Index := 0#32
  ![v1020.toNat, 0]
def k0_off14 (k0_t4 : Fin k0_t4_loop.trips) : Fin 2 → Nat :=
  let c1_i32_625 : BitVec 32 := 1#32
  let c1_i32_626 : BitVec 32 := 1#32
  let arg10 : BitVec 32 := Scf.iv c1_i32_625 c1_i32_626 k0_t4
  let c1_i32_637 : BitVec 32 := 1#32
  let v1017 : BitVec 32 := Scalar.subi arg10 c1_i32_637
  let c128_i32_638 : BitVec 32 := 128#32
  let v1018 : BitVec 32 := Scalar.muli v1017 c128_i32_638
  let v1019 : BitVec 32 := v1018
  let v1049 : Index := Scalar.indexCast v1019
  let c256_649 : Index := 256#32
  ![v1049.toNat, 256]
def k0_mult72 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c128_i32_650 : BitVec 32 := 128#32
  let v1051 : BitVec 32 := Scalar.muli arg10 c128_i32_650
  let c0_i32_651 : BitVec 32 := 0#32
  let v1052 : BitVec 32 := Scalar.addi v1051 c0_i32_651
  v1052
def k0_mult73 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c0_i32_652 : BitVec 32 := 0#32
  let v1054 : BitVec 32 := Scalar.subi arg10 c0_i32_652
  let c0_i32_653 : BitVec 32 := 0#32
  let v1055 : BitVec 32 := Scalar.addi v1054 c0_i32_653
  let c128_i32_654 : BitVec 32 := 128#32
  let v1056 : BitVec 32 := Scalar.muli v1055 c128_i32_654
  let c0_i32_655 : BitVec 32 := 0#32
  let v1057 : BitVec 32 := Scalar.addi v1056 c0_i32_655
  v1057
def k0_off15 (k0_t4 : Fin k0_t4_loop.trips) (c0_i32_655 : BitVec 32) : Fin 3 → Nat :=
  let c0_656 : Index := 0#32
  let c1_i32_625 : BitVec 32 := 1#32
  let c1_i32_626 : BitVec 32 := 1#32
  let arg10 : BitVec 32 := Scf.iv c1_i32_625 c1_i32_626 k0_t4
  let c0_i32_652 : BitVec 32 := 0#32
  let v1054 : BitVec 32 := Scalar.subi arg10 c0_i32_652
  let c0_i32_653 : BitVec 32 := 0#32
  let v1055 : BitVec 32 := Scalar.addi v1054 c0_i32_653
  let c128_i32_654 : BitVec 32 := 128#32
  let v1056 : BitVec 32 := Scalar.muli v1055 c128_i32_654
  let v1057 : BitVec 32 := Scalar.addi v1056 c0_i32_655
  let v1058 : BitVec 32 := v1057
  let v1059 : Index := Scalar.indexCast v1058
  let c0_657 : Index := 0#32
  ![0, v1059.toNat, 0]
def k0_mult74 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c1_i32_663 : BitVec 32 := 1#32
  let v1068 : BitVec 32 := Scalar.subi arg10 c1_i32_663
  let c16_i32_664 : BitVec 32 := 16#32
  let c1_i32_660 : BitVec 32 := 1#32
  let v1066 : BitVec 1 := Scalar.cmpi .slt arg10 c1_i32_660
  let c1_i32_661 : BitVec 32 := 1#32
  let c0_i32_662 : BitVec 32 := 0#32
  let v1067 : BitVec 32 := Scalar.select v1066 c1_i32_661 c0_i32_662
  let v1069 : BitVec 32 := Scalar.muli c16_i32_664 v1067
  let v1070 : BitVec 32 := Scalar.addi v1068 v1069
  let c128_i32_665 : BitVec 32 := 128#32
  let v1071 : BitVec 32 := Scalar.muli v1070 c128_i32_665
  let c0_i32_666 : BitVec 32 := 0#32
  let v1072 : BitVec 32 := Scalar.addi v1071 c0_i32_666
  v1072
def k0_off16 (k0_t4 : Fin k0_t4_loop.trips) (c0_i32_667 : BitVec 32) (c1_i32_660 : BitVec 32) (c1_i32_663 : BitVec 32) (c0_i32_666 : BitVec 32) : Fin 3 → Nat :=
  let c1_i32_625 : BitVec 32 := 1#32
  let c1_i32_626 : BitVec 32 := 1#32
  let arg10 : BitVec 32 := Scf.iv c1_i32_625 c1_i32_626 k0_t4
  let v1066 : BitVec 1 := Scalar.cmpi .slt arg10 c1_i32_660
  let c1_i32_661 : BitVec 32 := 1#32
  let c0_i32_662 : BitVec 32 := 0#32
  let v1067 : BitVec 32 := Scalar.select v1066 c1_i32_661 c0_i32_662
  let v1074 : BitVec 32 := Scalar.addi c0_i32_667 v1067
  let v1075 : Index := Scalar.indexCast v1074
  let v1068 : BitVec 32 := Scalar.subi arg10 c1_i32_663
  let c16_i32_664 : BitVec 32 := 16#32
  let v1069 : BitVec 32 := Scalar.muli c16_i32_664 v1067
  let v1070 : BitVec 32 := Scalar.addi v1068 v1069
  let c128_i32_665 : BitVec 32 := 128#32
  let v1071 : BitVec 32 := Scalar.muli v1070 c128_i32_665
  let v1072 : BitVec 32 := Scalar.addi v1071 c0_i32_666
  let v1073 : BitVec 32 := v1072
  let v1076 : Index := Scalar.indexCast v1073
  let c0_668 : Index := 0#32
  ![v1075.toNat, v1076.toNat, 0]
def k0_off16_at (r : Fin 58) : BitVec 32 × BitVec 32 × BitVec 32 × BitVec 32 :=
  if r.val < 29 then
    if r.val < 14 then
      if r.val < 7 then
        if r.val < 3 then
          if r.val < 1 then
            (0#32, 1#32, 1#32, 0#32)
          else
            if r.val < 2 then
              (0#32, 2#32, 2#32, 0#32)
            else
              (0#32, 3#32, 3#32, 0#32)
        else
          if r.val < 5 then
            if r.val < 4 then
              (0#32, 4#32, 4#32, 0#32)
            else
              (0#32, 5#32, 5#32, 0#32)
          else
            if r.val < 6 then
              (0#32, 6#32, 6#32, 0#32)
            else
              (0#32, 7#32, 7#32, 0#32)
      else
        if r.val < 10 then
          if r.val < 8 then
            (0#32, 8#32, 8#32, 0#32)
          else
            if r.val < 9 then
              (0#32, 9#32, 9#32, 0#32)
            else
              (0#32, 10#32, 10#32, 0#32)
        else
          if r.val < 12 then
            if r.val < 11 then
              (0#32, 11#32, 11#32, 0#32)
            else
              (0#32, 12#32, 12#32, 0#32)
          else
            if r.val < 13 then
              (0#32, 13#32, 13#32, 0#32)
            else
              (0#32, 14#32, 14#32, 0#32)
    else
      if r.val < 21 then
        if r.val < 17 then
          if r.val < 15 then
            (0#32, 15#32, 15#32, 0#32)
          else
            if r.val < 16 then
              (1#32, 1#32, 1#32, 0#32)
            else
              (1#32, 2#32, 2#32, 0#32)
        else
          if r.val < 19 then
            if r.val < 18 then
              (1#32, 3#32, 3#32, 0#32)
            else
              (1#32, 4#32, 4#32, 0#32)
          else
            if r.val < 20 then
              (1#32, 5#32, 5#32, 0#32)
            else
              (1#32, 6#32, 6#32, 0#32)
      else
        if r.val < 25 then
          if r.val < 23 then
            if r.val < 22 then
              (1#32, 7#32, 7#32, 0#32)
            else
              (1#32, 8#32, 8#32, 0#32)
          else
            if r.val < 24 then
              (1#32, 9#32, 9#32, 0#32)
            else
              (1#32, 10#32, 10#32, 0#32)
        else
          if r.val < 27 then
            if r.val < 26 then
              (1#32, 11#32, 11#32, 0#32)
            else
              (1#32, 12#32, 12#32, 0#32)
          else
            if r.val < 28 then
              (1#32, 13#32, 13#32, 0#32)
            else
              (1#32, 14#32, 14#32, 0#32)
  else
    if r.val < 43 then
      if r.val < 36 then
        if r.val < 32 then
          if r.val < 30 then
            (0#32, 1#32, 1#32, 64#32)
          else
            if r.val < 31 then
              (0#32, 2#32, 2#32, 64#32)
            else
              (0#32, 3#32, 3#32, 64#32)
        else
          if r.val < 34 then
            if r.val < 33 then
              (0#32, 4#32, 4#32, 64#32)
            else
              (0#32, 5#32, 5#32, 64#32)
          else
            if r.val < 35 then
              (0#32, 6#32, 6#32, 64#32)
            else
              (0#32, 7#32, 7#32, 64#32)
      else
        if r.val < 39 then
          if r.val < 37 then
            (0#32, 8#32, 8#32, 64#32)
          else
            if r.val < 38 then
              (0#32, 9#32, 9#32, 64#32)
            else
              (0#32, 10#32, 10#32, 64#32)
        else
          if r.val < 41 then
            if r.val < 40 then
              (0#32, 11#32, 11#32, 64#32)
            else
              (0#32, 12#32, 12#32, 64#32)
          else
            if r.val < 42 then
              (0#32, 13#32, 13#32, 64#32)
            else
              (0#32, 14#32, 14#32, 64#32)
    else
      if r.val < 50 then
        if r.val < 46 then
          if r.val < 44 then
            (0#32, 15#32, 15#32, 64#32)
          else
            if r.val < 45 then
              (1#32, 1#32, 1#32, 64#32)
            else
              (1#32, 2#32, 2#32, 64#32)
        else
          if r.val < 48 then
            if r.val < 47 then
              (1#32, 3#32, 3#32, 64#32)
            else
              (1#32, 4#32, 4#32, 64#32)
          else
            if r.val < 49 then
              (1#32, 5#32, 5#32, 64#32)
            else
              (1#32, 6#32, 6#32, 64#32)
      else
        if r.val < 54 then
          if r.val < 52 then
            if r.val < 51 then
              (1#32, 7#32, 7#32, 64#32)
            else
              (1#32, 8#32, 8#32, 64#32)
          else
            if r.val < 53 then
              (1#32, 9#32, 9#32, 64#32)
            else
              (1#32, 10#32, 10#32, 64#32)
        else
          if r.val < 56 then
            if r.val < 55 then
              (1#32, 11#32, 11#32, 64#32)
            else
              (1#32, 12#32, 12#32, 64#32)
          else
            if r.val < 57 then
              (1#32, 13#32, 13#32, 64#32)
            else
              (1#32, 14#32, 14#32, 64#32)
def k0_mult75 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c2_i32_673 : BitVec 32 := 2#32
  let v1086 : BitVec 32 := Scalar.subi arg10 c2_i32_673
  let c16_i32_674 : BitVec 32 := 16#32
  let c2_i32 : BitVec 32 := 2#32
  let v1084 : BitVec 1 := Scalar.cmpi .slt arg10 c2_i32
  let c1_i32_671 : BitVec 32 := 1#32
  let c0_i32_672 : BitVec 32 := 0#32
  let v1085 : BitVec 32 := Scalar.select v1084 c1_i32_671 c0_i32_672
  let v1087 : BitVec 32 := Scalar.muli c16_i32_674 v1085
  let v1088 : BitVec 32 := Scalar.addi v1086 v1087
  let c128_i32_675 : BitVec 32 := 128#32
  let v1089 : BitVec 32 := Scalar.muli v1088 c128_i32_675
  let c0_i32_676 : BitVec 32 := 0#32
  let v1090 : BitVec 32 := Scalar.addi v1089 c0_i32_676
  v1090
def k0_mult76 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c3_i32_683 : BitVec 32 := 3#32
  let v1104 : BitVec 32 := Scalar.subi arg10 c3_i32_683
  let c16_i32_684 : BitVec 32 := 16#32
  let c3_i32 : BitVec 32 := 3#32
  let v1102 : BitVec 1 := Scalar.cmpi .slt arg10 c3_i32
  let c1_i32_681 : BitVec 32 := 1#32
  let c0_i32_682 : BitVec 32 := 0#32
  let v1103 : BitVec 32 := Scalar.select v1102 c1_i32_681 c0_i32_682
  let v1105 : BitVec 32 := Scalar.muli c16_i32_684 v1103
  let v1106 : BitVec 32 := Scalar.addi v1104 v1105
  let c128_i32_685 : BitVec 32 := 128#32
  let v1107 : BitVec 32 := Scalar.muli v1106 c128_i32_685
  let c0_i32_686 : BitVec 32 := 0#32
  let v1108 : BitVec 32 := Scalar.addi v1107 c0_i32_686
  v1108
def k0_mult77 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c4_i32_693 : BitVec 32 := 4#32
  let v1122 : BitVec 32 := Scalar.subi arg10 c4_i32_693
  let c16_i32_694 : BitVec 32 := 16#32
  let c4_i32 : BitVec 32 := 4#32
  let v1120 : BitVec 1 := Scalar.cmpi .slt arg10 c4_i32
  let c1_i32_691 : BitVec 32 := 1#32
  let c0_i32_692 : BitVec 32 := 0#32
  let v1121 : BitVec 32 := Scalar.select v1120 c1_i32_691 c0_i32_692
  let v1123 : BitVec 32 := Scalar.muli c16_i32_694 v1121
  let v1124 : BitVec 32 := Scalar.addi v1122 v1123
  let c128_i32_695 : BitVec 32 := 128#32
  let v1125 : BitVec 32 := Scalar.muli v1124 c128_i32_695
  let c0_i32_696 : BitVec 32 := 0#32
  let v1126 : BitVec 32 := Scalar.addi v1125 c0_i32_696
  v1126
def k0_mult78 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c5_i32_703 : BitVec 32 := 5#32
  let v1140 : BitVec 32 := Scalar.subi arg10 c5_i32_703
  let c16_i32_704 : BitVec 32 := 16#32
  let c5_i32 : BitVec 32 := 5#32
  let v1138 : BitVec 1 := Scalar.cmpi .slt arg10 c5_i32
  let c1_i32_701 : BitVec 32 := 1#32
  let c0_i32_702 : BitVec 32 := 0#32
  let v1139 : BitVec 32 := Scalar.select v1138 c1_i32_701 c0_i32_702
  let v1141 : BitVec 32 := Scalar.muli c16_i32_704 v1139
  let v1142 : BitVec 32 := Scalar.addi v1140 v1141
  let c128_i32_705 : BitVec 32 := 128#32
  let v1143 : BitVec 32 := Scalar.muli v1142 c128_i32_705
  let c0_i32_706 : BitVec 32 := 0#32
  let v1144 : BitVec 32 := Scalar.addi v1143 c0_i32_706
  v1144
def k0_mult79 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c6_i32_713 : BitVec 32 := 6#32
  let v1158 : BitVec 32 := Scalar.subi arg10 c6_i32_713
  let c16_i32_714 : BitVec 32 := 16#32
  let c6_i32 : BitVec 32 := 6#32
  let v1156 : BitVec 1 := Scalar.cmpi .slt arg10 c6_i32
  let c1_i32_711 : BitVec 32 := 1#32
  let c0_i32_712 : BitVec 32 := 0#32
  let v1157 : BitVec 32 := Scalar.select v1156 c1_i32_711 c0_i32_712
  let v1159 : BitVec 32 := Scalar.muli c16_i32_714 v1157
  let v1160 : BitVec 32 := Scalar.addi v1158 v1159
  let c128_i32_715 : BitVec 32 := 128#32
  let v1161 : BitVec 32 := Scalar.muli v1160 c128_i32_715
  let c0_i32_716 : BitVec 32 := 0#32
  let v1162 : BitVec 32 := Scalar.addi v1161 c0_i32_716
  v1162
def k0_mult80 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c7_i32_723 : BitVec 32 := 7#32
  let v1176 : BitVec 32 := Scalar.subi arg10 c7_i32_723
  let c16_i32_724 : BitVec 32 := 16#32
  let c7_i32 : BitVec 32 := 7#32
  let v1174 : BitVec 1 := Scalar.cmpi .slt arg10 c7_i32
  let c1_i32_721 : BitVec 32 := 1#32
  let c0_i32_722 : BitVec 32 := 0#32
  let v1175 : BitVec 32 := Scalar.select v1174 c1_i32_721 c0_i32_722
  let v1177 : BitVec 32 := Scalar.muli c16_i32_724 v1175
  let v1178 : BitVec 32 := Scalar.addi v1176 v1177
  let c128_i32_725 : BitVec 32 := 128#32
  let v1179 : BitVec 32 := Scalar.muli v1178 c128_i32_725
  let c0_i32_726 : BitVec 32 := 0#32
  let v1180 : BitVec 32 := Scalar.addi v1179 c0_i32_726
  v1180
def k0_mult81 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c8_i32_733 : BitVec 32 := 8#32
  let v1194 : BitVec 32 := Scalar.subi arg10 c8_i32_733
  let c16_i32_734 : BitVec 32 := 16#32
  let c8_i32 : BitVec 32 := 8#32
  let v1192 : BitVec 1 := Scalar.cmpi .slt arg10 c8_i32
  let c1_i32_731 : BitVec 32 := 1#32
  let c0_i32_732 : BitVec 32 := 0#32
  let v1193 : BitVec 32 := Scalar.select v1192 c1_i32_731 c0_i32_732
  let v1195 : BitVec 32 := Scalar.muli c16_i32_734 v1193
  let v1196 : BitVec 32 := Scalar.addi v1194 v1195
  let c128_i32_735 : BitVec 32 := 128#32
  let v1197 : BitVec 32 := Scalar.muli v1196 c128_i32_735
  let c0_i32_736 : BitVec 32 := 0#32
  let v1198 : BitVec 32 := Scalar.addi v1197 c0_i32_736
  v1198
def k0_mult82 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c9_i32_743 : BitVec 32 := 9#32
  let v1212 : BitVec 32 := Scalar.subi arg10 c9_i32_743
  let c16_i32_744 : BitVec 32 := 16#32
  let c9_i32 : BitVec 32 := 9#32
  let v1210 : BitVec 1 := Scalar.cmpi .slt arg10 c9_i32
  let c1_i32_741 : BitVec 32 := 1#32
  let c0_i32_742 : BitVec 32 := 0#32
  let v1211 : BitVec 32 := Scalar.select v1210 c1_i32_741 c0_i32_742
  let v1213 : BitVec 32 := Scalar.muli c16_i32_744 v1211
  let v1214 : BitVec 32 := Scalar.addi v1212 v1213
  let c128_i32_745 : BitVec 32 := 128#32
  let v1215 : BitVec 32 := Scalar.muli v1214 c128_i32_745
  let c0_i32_746 : BitVec 32 := 0#32
  let v1216 : BitVec 32 := Scalar.addi v1215 c0_i32_746
  v1216
def k0_mult83 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c10_i32_753 : BitVec 32 := 10#32
  let v1230 : BitVec 32 := Scalar.subi arg10 c10_i32_753
  let c16_i32_754 : BitVec 32 := 16#32
  let c10_i32 : BitVec 32 := 10#32
  let v1228 : BitVec 1 := Scalar.cmpi .slt arg10 c10_i32
  let c1_i32_751 : BitVec 32 := 1#32
  let c0_i32_752 : BitVec 32 := 0#32
  let v1229 : BitVec 32 := Scalar.select v1228 c1_i32_751 c0_i32_752
  let v1231 : BitVec 32 := Scalar.muli c16_i32_754 v1229
  let v1232 : BitVec 32 := Scalar.addi v1230 v1231
  let c128_i32_755 : BitVec 32 := 128#32
  let v1233 : BitVec 32 := Scalar.muli v1232 c128_i32_755
  let c0_i32_756 : BitVec 32 := 0#32
  let v1234 : BitVec 32 := Scalar.addi v1233 c0_i32_756
  v1234
def k0_mult84 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c11_i32_763 : BitVec 32 := 11#32
  let v1248 : BitVec 32 := Scalar.subi arg10 c11_i32_763
  let c16_i32_764 : BitVec 32 := 16#32
  let c11_i32 : BitVec 32 := 11#32
  let v1246 : BitVec 1 := Scalar.cmpi .slt arg10 c11_i32
  let c1_i32_761 : BitVec 32 := 1#32
  let c0_i32_762 : BitVec 32 := 0#32
  let v1247 : BitVec 32 := Scalar.select v1246 c1_i32_761 c0_i32_762
  let v1249 : BitVec 32 := Scalar.muli c16_i32_764 v1247
  let v1250 : BitVec 32 := Scalar.addi v1248 v1249
  let c128_i32_765 : BitVec 32 := 128#32
  let v1251 : BitVec 32 := Scalar.muli v1250 c128_i32_765
  let c0_i32_766 : BitVec 32 := 0#32
  let v1252 : BitVec 32 := Scalar.addi v1251 c0_i32_766
  v1252
def k0_mult85 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c12_i32_773 : BitVec 32 := 12#32
  let v1266 : BitVec 32 := Scalar.subi arg10 c12_i32_773
  let c16_i32_774 : BitVec 32 := 16#32
  let c12_i32 : BitVec 32 := 12#32
  let v1264 : BitVec 1 := Scalar.cmpi .slt arg10 c12_i32
  let c1_i32_771 : BitVec 32 := 1#32
  let c0_i32_772 : BitVec 32 := 0#32
  let v1265 : BitVec 32 := Scalar.select v1264 c1_i32_771 c0_i32_772
  let v1267 : BitVec 32 := Scalar.muli c16_i32_774 v1265
  let v1268 : BitVec 32 := Scalar.addi v1266 v1267
  let c128_i32_775 : BitVec 32 := 128#32
  let v1269 : BitVec 32 := Scalar.muli v1268 c128_i32_775
  let c0_i32_776 : BitVec 32 := 0#32
  let v1270 : BitVec 32 := Scalar.addi v1269 c0_i32_776
  v1270
def k0_mult86 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c13_i32_783 : BitVec 32 := 13#32
  let v1284 : BitVec 32 := Scalar.subi arg10 c13_i32_783
  let c16_i32_784 : BitVec 32 := 16#32
  let c13_i32 : BitVec 32 := 13#32
  let v1282 : BitVec 1 := Scalar.cmpi .slt arg10 c13_i32
  let c1_i32_781 : BitVec 32 := 1#32
  let c0_i32_782 : BitVec 32 := 0#32
  let v1283 : BitVec 32 := Scalar.select v1282 c1_i32_781 c0_i32_782
  let v1285 : BitVec 32 := Scalar.muli c16_i32_784 v1283
  let v1286 : BitVec 32 := Scalar.addi v1284 v1285
  let c128_i32_785 : BitVec 32 := 128#32
  let v1287 : BitVec 32 := Scalar.muli v1286 c128_i32_785
  let c0_i32_786 : BitVec 32 := 0#32
  let v1288 : BitVec 32 := Scalar.addi v1287 c0_i32_786
  v1288
def k0_mult87 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c14_i32_793 : BitVec 32 := 14#32
  let v1302 : BitVec 32 := Scalar.subi arg10 c14_i32_793
  let c16_i32_794 : BitVec 32 := 16#32
  let c14_i32 : BitVec 32 := 14#32
  let v1300 : BitVec 1 := Scalar.cmpi .slt arg10 c14_i32
  let c1_i32_791 : BitVec 32 := 1#32
  let c0_i32_792 : BitVec 32 := 0#32
  let v1301 : BitVec 32 := Scalar.select v1300 c1_i32_791 c0_i32_792
  let v1303 : BitVec 32 := Scalar.muli c16_i32_794 v1301
  let v1304 : BitVec 32 := Scalar.addi v1302 v1303
  let c128_i32_795 : BitVec 32 := 128#32
  let v1305 : BitVec 32 := Scalar.muli v1304 c128_i32_795
  let c0_i32_796 : BitVec 32 := 0#32
  let v1306 : BitVec 32 := Scalar.addi v1305 c0_i32_796
  v1306
def k0_mult88 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c15_i32_804 : BitVec 32 := 15#32
  let v1320 : BitVec 32 := Scalar.subi arg10 c15_i32_804
  let c16_i32_805 : BitVec 32 := 16#32
  let c15_i32_801 : BitVec 32 := 15#32
  let v1318 : BitVec 1 := Scalar.cmpi .slt arg10 c15_i32_801
  let c1_i32_802 : BitVec 32 := 1#32
  let c0_i32_803 : BitVec 32 := 0#32
  let v1319 : BitVec 32 := Scalar.select v1318 c1_i32_802 c0_i32_803
  let v1321 : BitVec 32 := Scalar.muli c16_i32_805 v1319
  let v1322 : BitVec 32 := Scalar.addi v1320 v1321
  let c128_i32_806 : BitVec 32 := 128#32
  let v1323 : BitVec 32 := Scalar.muli v1322 c128_i32_806
  let c0_i32_807 : BitVec 32 := 0#32
  let v1324 : BitVec 32 := Scalar.addi v1323 c0_i32_807
  v1324
def k0_mult89 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c0_i32_812 : BitVec 32 := 0#32
  let v1336 : BitVec 32 := Scalar.subi arg10 c0_i32_812
  let c0_i32_813 : BitVec 32 := 0#32
  let v1337 : BitVec 32 := Scalar.addi v1336 c0_i32_813
  let c128_i32_814 : BitVec 32 := 128#32
  let v1338 : BitVec 32 := Scalar.muli v1337 c128_i32_814
  let c0_i32_815 : BitVec 32 := 0#32
  let v1339 : BitVec 32 := Scalar.addi v1338 c0_i32_815
  v1339
def k0_off17 (k0_t4 : Fin k0_t4_loop.trips) (c0_i32_815 : BitVec 32) : Fin 3 → Nat :=
  let c1_816 : Index := 1#32
  let c1_i32_625 : BitVec 32 := 1#32
  let c1_i32_626 : BitVec 32 := 1#32
  let arg10 : BitVec 32 := Scf.iv c1_i32_625 c1_i32_626 k0_t4
  let c0_i32_812 : BitVec 32 := 0#32
  let v1336 : BitVec 32 := Scalar.subi arg10 c0_i32_812
  let c0_i32_813 : BitVec 32 := 0#32
  let v1337 : BitVec 32 := Scalar.addi v1336 c0_i32_813
  let c128_i32_814 : BitVec 32 := 128#32
  let v1338 : BitVec 32 := Scalar.muli v1337 c128_i32_814
  let v1339 : BitVec 32 := Scalar.addi v1338 c0_i32_815
  let v1340 : BitVec 32 := v1339
  let v1341 : Index := Scalar.indexCast v1340
  let c0_817 : Index := 0#32
  ![1, v1341.toNat, 0]
def k0_mult90 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c1_i32_823 : BitVec 32 := 1#32
  let v1351 : BitVec 32 := Scalar.subi arg10 c1_i32_823
  let c16_i32_824 : BitVec 32 := 16#32
  let c1_i32_820 : BitVec 32 := 1#32
  let v1349 : BitVec 1 := Scalar.cmpi .slt arg10 c1_i32_820
  let c1_i32_821 : BitVec 32 := 1#32
  let c0_i32_822 : BitVec 32 := 0#32
  let v1350 : BitVec 32 := Scalar.select v1349 c1_i32_821 c0_i32_822
  let v1352 : BitVec 32 := Scalar.muli c16_i32_824 v1350
  let v1353 : BitVec 32 := Scalar.addi v1351 v1352
  let c128_i32_825 : BitVec 32 := 128#32
  let v1354 : BitVec 32 := Scalar.muli v1353 c128_i32_825
  let c0_i32_826 : BitVec 32 := 0#32
  let v1355 : BitVec 32 := Scalar.addi v1354 c0_i32_826
  v1355
def k0_mult91 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c2_i32_834 : BitVec 32 := 2#32
  let v1369 : BitVec 32 := Scalar.subi arg10 c2_i32_834
  let c16_i32_835 : BitVec 32 := 16#32
  let c2_i32_831 : BitVec 32 := 2#32
  let v1367 : BitVec 1 := Scalar.cmpi .slt arg10 c2_i32_831
  let c1_i32_832 : BitVec 32 := 1#32
  let c0_i32_833 : BitVec 32 := 0#32
  let v1368 : BitVec 32 := Scalar.select v1367 c1_i32_832 c0_i32_833
  let v1370 : BitVec 32 := Scalar.muli c16_i32_835 v1368
  let v1371 : BitVec 32 := Scalar.addi v1369 v1370
  let c128_i32_836 : BitVec 32 := 128#32
  let v1372 : BitVec 32 := Scalar.muli v1371 c128_i32_836
  let c0_i32_837 : BitVec 32 := 0#32
  let v1373 : BitVec 32 := Scalar.addi v1372 c0_i32_837
  v1373
def k0_mult92 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c3_i32_845 : BitVec 32 := 3#32
  let v1387 : BitVec 32 := Scalar.subi arg10 c3_i32_845
  let c16_i32_846 : BitVec 32 := 16#32
  let c3_i32_842 : BitVec 32 := 3#32
  let v1385 : BitVec 1 := Scalar.cmpi .slt arg10 c3_i32_842
  let c1_i32_843 : BitVec 32 := 1#32
  let c0_i32_844 : BitVec 32 := 0#32
  let v1386 : BitVec 32 := Scalar.select v1385 c1_i32_843 c0_i32_844
  let v1388 : BitVec 32 := Scalar.muli c16_i32_846 v1386
  let v1389 : BitVec 32 := Scalar.addi v1387 v1388
  let c128_i32_847 : BitVec 32 := 128#32
  let v1390 : BitVec 32 := Scalar.muli v1389 c128_i32_847
  let c0_i32_848 : BitVec 32 := 0#32
  let v1391 : BitVec 32 := Scalar.addi v1390 c0_i32_848
  v1391
def k0_mult93 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c4_i32_856 : BitVec 32 := 4#32
  let v1405 : BitVec 32 := Scalar.subi arg10 c4_i32_856
  let c16_i32_857 : BitVec 32 := 16#32
  let c4_i32_853 : BitVec 32 := 4#32
  let v1403 : BitVec 1 := Scalar.cmpi .slt arg10 c4_i32_853
  let c1_i32_854 : BitVec 32 := 1#32
  let c0_i32_855 : BitVec 32 := 0#32
  let v1404 : BitVec 32 := Scalar.select v1403 c1_i32_854 c0_i32_855
  let v1406 : BitVec 32 := Scalar.muli c16_i32_857 v1404
  let v1407 : BitVec 32 := Scalar.addi v1405 v1406
  let c128_i32_858 : BitVec 32 := 128#32
  let v1408 : BitVec 32 := Scalar.muli v1407 c128_i32_858
  let c0_i32_859 : BitVec 32 := 0#32
  let v1409 : BitVec 32 := Scalar.addi v1408 c0_i32_859
  v1409
def k0_mult94 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c5_i32_867 : BitVec 32 := 5#32
  let v1423 : BitVec 32 := Scalar.subi arg10 c5_i32_867
  let c16_i32_868 : BitVec 32 := 16#32
  let c5_i32_864 : BitVec 32 := 5#32
  let v1421 : BitVec 1 := Scalar.cmpi .slt arg10 c5_i32_864
  let c1_i32_865 : BitVec 32 := 1#32
  let c0_i32_866 : BitVec 32 := 0#32
  let v1422 : BitVec 32 := Scalar.select v1421 c1_i32_865 c0_i32_866
  let v1424 : BitVec 32 := Scalar.muli c16_i32_868 v1422
  let v1425 : BitVec 32 := Scalar.addi v1423 v1424
  let c128_i32_869 : BitVec 32 := 128#32
  let v1426 : BitVec 32 := Scalar.muli v1425 c128_i32_869
  let c0_i32_870 : BitVec 32 := 0#32
  let v1427 : BitVec 32 := Scalar.addi v1426 c0_i32_870
  v1427
def k0_mult95 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c6_i32_878 : BitVec 32 := 6#32
  let v1441 : BitVec 32 := Scalar.subi arg10 c6_i32_878
  let c16_i32_879 : BitVec 32 := 16#32
  let c6_i32_875 : BitVec 32 := 6#32
  let v1439 : BitVec 1 := Scalar.cmpi .slt arg10 c6_i32_875
  let c1_i32_876 : BitVec 32 := 1#32
  let c0_i32_877 : BitVec 32 := 0#32
  let v1440 : BitVec 32 := Scalar.select v1439 c1_i32_876 c0_i32_877
  let v1442 : BitVec 32 := Scalar.muli c16_i32_879 v1440
  let v1443 : BitVec 32 := Scalar.addi v1441 v1442
  let c128_i32_880 : BitVec 32 := 128#32
  let v1444 : BitVec 32 := Scalar.muli v1443 c128_i32_880
  let c0_i32_881 : BitVec 32 := 0#32
  let v1445 : BitVec 32 := Scalar.addi v1444 c0_i32_881
  v1445
def k0_mult96 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c7_i32_889 : BitVec 32 := 7#32
  let v1459 : BitVec 32 := Scalar.subi arg10 c7_i32_889
  let c16_i32_890 : BitVec 32 := 16#32
  let c7_i32_886 : BitVec 32 := 7#32
  let v1457 : BitVec 1 := Scalar.cmpi .slt arg10 c7_i32_886
  let c1_i32_887 : BitVec 32 := 1#32
  let c0_i32_888 : BitVec 32 := 0#32
  let v1458 : BitVec 32 := Scalar.select v1457 c1_i32_887 c0_i32_888
  let v1460 : BitVec 32 := Scalar.muli c16_i32_890 v1458
  let v1461 : BitVec 32 := Scalar.addi v1459 v1460
  let c128_i32_891 : BitVec 32 := 128#32
  let v1462 : BitVec 32 := Scalar.muli v1461 c128_i32_891
  let c0_i32_892 : BitVec 32 := 0#32
  let v1463 : BitVec 32 := Scalar.addi v1462 c0_i32_892
  v1463
def k0_mult97 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c8_i32_900 : BitVec 32 := 8#32
  let v1477 : BitVec 32 := Scalar.subi arg10 c8_i32_900
  let c16_i32_901 : BitVec 32 := 16#32
  let c8_i32_897 : BitVec 32 := 8#32
  let v1475 : BitVec 1 := Scalar.cmpi .slt arg10 c8_i32_897
  let c1_i32_898 : BitVec 32 := 1#32
  let c0_i32_899 : BitVec 32 := 0#32
  let v1476 : BitVec 32 := Scalar.select v1475 c1_i32_898 c0_i32_899
  let v1478 : BitVec 32 := Scalar.muli c16_i32_901 v1476
  let v1479 : BitVec 32 := Scalar.addi v1477 v1478
  let c128_i32_902 : BitVec 32 := 128#32
  let v1480 : BitVec 32 := Scalar.muli v1479 c128_i32_902
  let c0_i32_903 : BitVec 32 := 0#32
  let v1481 : BitVec 32 := Scalar.addi v1480 c0_i32_903
  v1481
def k0_mult98 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c9_i32_911 : BitVec 32 := 9#32
  let v1495 : BitVec 32 := Scalar.subi arg10 c9_i32_911
  let c16_i32_912 : BitVec 32 := 16#32
  let c9_i32_908 : BitVec 32 := 9#32
  let v1493 : BitVec 1 := Scalar.cmpi .slt arg10 c9_i32_908
  let c1_i32_909 : BitVec 32 := 1#32
  let c0_i32_910 : BitVec 32 := 0#32
  let v1494 : BitVec 32 := Scalar.select v1493 c1_i32_909 c0_i32_910
  let v1496 : BitVec 32 := Scalar.muli c16_i32_912 v1494
  let v1497 : BitVec 32 := Scalar.addi v1495 v1496
  let c128_i32_913 : BitVec 32 := 128#32
  let v1498 : BitVec 32 := Scalar.muli v1497 c128_i32_913
  let c0_i32_914 : BitVec 32 := 0#32
  let v1499 : BitVec 32 := Scalar.addi v1498 c0_i32_914
  v1499
def k0_mult99 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c10_i32_922 : BitVec 32 := 10#32
  let v1513 : BitVec 32 := Scalar.subi arg10 c10_i32_922
  let c16_i32_923 : BitVec 32 := 16#32
  let c10_i32_919 : BitVec 32 := 10#32
  let v1511 : BitVec 1 := Scalar.cmpi .slt arg10 c10_i32_919
  let c1_i32_920 : BitVec 32 := 1#32
  let c0_i32_921 : BitVec 32 := 0#32
  let v1512 : BitVec 32 := Scalar.select v1511 c1_i32_920 c0_i32_921
  let v1514 : BitVec 32 := Scalar.muli c16_i32_923 v1512
  let v1515 : BitVec 32 := Scalar.addi v1513 v1514
  let c128_i32_924 : BitVec 32 := 128#32
  let v1516 : BitVec 32 := Scalar.muli v1515 c128_i32_924
  let c0_i32_925 : BitVec 32 := 0#32
  let v1517 : BitVec 32 := Scalar.addi v1516 c0_i32_925
  v1517
def k0_mult100 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c11_i32_933 : BitVec 32 := 11#32
  let v1531 : BitVec 32 := Scalar.subi arg10 c11_i32_933
  let c16_i32_934 : BitVec 32 := 16#32
  let c11_i32_930 : BitVec 32 := 11#32
  let v1529 : BitVec 1 := Scalar.cmpi .slt arg10 c11_i32_930
  let c1_i32_931 : BitVec 32 := 1#32
  let c0_i32_932 : BitVec 32 := 0#32
  let v1530 : BitVec 32 := Scalar.select v1529 c1_i32_931 c0_i32_932
  let v1532 : BitVec 32 := Scalar.muli c16_i32_934 v1530
  let v1533 : BitVec 32 := Scalar.addi v1531 v1532
  let c128_i32_935 : BitVec 32 := 128#32
  let v1534 : BitVec 32 := Scalar.muli v1533 c128_i32_935
  let c0_i32_936 : BitVec 32 := 0#32
  let v1535 : BitVec 32 := Scalar.addi v1534 c0_i32_936
  v1535
def k0_mult101 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c12_i32_944 : BitVec 32 := 12#32
  let v1549 : BitVec 32 := Scalar.subi arg10 c12_i32_944
  let c16_i32_945 : BitVec 32 := 16#32
  let c12_i32_941 : BitVec 32 := 12#32
  let v1547 : BitVec 1 := Scalar.cmpi .slt arg10 c12_i32_941
  let c1_i32_942 : BitVec 32 := 1#32
  let c0_i32_943 : BitVec 32 := 0#32
  let v1548 : BitVec 32 := Scalar.select v1547 c1_i32_942 c0_i32_943
  let v1550 : BitVec 32 := Scalar.muli c16_i32_945 v1548
  let v1551 : BitVec 32 := Scalar.addi v1549 v1550
  let c128_i32_946 : BitVec 32 := 128#32
  let v1552 : BitVec 32 := Scalar.muli v1551 c128_i32_946
  let c0_i32_947 : BitVec 32 := 0#32
  let v1553 : BitVec 32 := Scalar.addi v1552 c0_i32_947
  v1553
def k0_mult102 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c13_i32_955 : BitVec 32 := 13#32
  let v1567 : BitVec 32 := Scalar.subi arg10 c13_i32_955
  let c16_i32_956 : BitVec 32 := 16#32
  let c13_i32_952 : BitVec 32 := 13#32
  let v1565 : BitVec 1 := Scalar.cmpi .slt arg10 c13_i32_952
  let c1_i32_953 : BitVec 32 := 1#32
  let c0_i32_954 : BitVec 32 := 0#32
  let v1566 : BitVec 32 := Scalar.select v1565 c1_i32_953 c0_i32_954
  let v1568 : BitVec 32 := Scalar.muli c16_i32_956 v1566
  let v1569 : BitVec 32 := Scalar.addi v1567 v1568
  let c128_i32_957 : BitVec 32 := 128#32
  let v1570 : BitVec 32 := Scalar.muli v1569 c128_i32_957
  let c0_i32_958 : BitVec 32 := 0#32
  let v1571 : BitVec 32 := Scalar.addi v1570 c0_i32_958
  v1571
def k0_mult103 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c14_i32_966 : BitVec 32 := 14#32
  let v1585 : BitVec 32 := Scalar.subi arg10 c14_i32_966
  let c16_i32_967 : BitVec 32 := 16#32
  let c14_i32_963 : BitVec 32 := 14#32
  let v1583 : BitVec 1 := Scalar.cmpi .slt arg10 c14_i32_963
  let c1_i32_964 : BitVec 32 := 1#32
  let c0_i32_965 : BitVec 32 := 0#32
  let v1584 : BitVec 32 := Scalar.select v1583 c1_i32_964 c0_i32_965
  let v1586 : BitVec 32 := Scalar.muli c16_i32_967 v1584
  let v1587 : BitVec 32 := Scalar.addi v1585 v1586
  let c128_i32_968 : BitVec 32 := 128#32
  let v1588 : BitVec 32 := Scalar.muli v1587 c128_i32_968
  let c0_i32_969 : BitVec 32 := 0#32
  let v1589 : BitVec 32 := Scalar.addi v1588 c0_i32_969
  v1589
def k0_off18 (k0_t4 : Fin k0_t4_loop.trips) (c0_i32_651 : BitVec 32) : Fin 2 → Nat :=
  let c1_i32_625 : BitVec 32 := 1#32
  let c1_i32_626 : BitVec 32 := 1#32
  let arg10 : BitVec 32 := Scf.iv c1_i32_625 c1_i32_626 k0_t4
  let c128_i32_650 : BitVec 32 := 128#32
  let v1051 : BitVec 32 := Scalar.muli arg10 c128_i32_650
  let v1052 : BitVec 32 := Scalar.addi v1051 c0_i32_651
  let v1053 : BitVec 32 := v1052
  let v1605 : Index := Scalar.indexCast v1053
  let c0_976 : Index := 0#32
  ![v1605.toNat, 0]
def k0_mult104 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c128_i32_977 : BitVec 32 := 128#32
  let v1609 : BitVec 32 := Scalar.muli arg10 c128_i32_977
  let c64_i32_978 : BitVec 32 := 64#32
  let v1610 : BitVec 32 := Scalar.addi v1609 c64_i32_978
  v1610
def k0_mult105 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c0_i32_979 : BitVec 32 := 0#32
  let v1612 : BitVec 32 := Scalar.subi arg10 c0_i32_979
  let c0_i32_980 : BitVec 32 := 0#32
  let v1613 : BitVec 32 := Scalar.addi v1612 c0_i32_980
  let c128_i32_981 : BitVec 32 := 128#32
  let v1614 : BitVec 32 := Scalar.muli v1613 c128_i32_981
  let c64_i32_982 : BitVec 32 := 64#32
  let v1615 : BitVec 32 := Scalar.addi v1614 c64_i32_982
  v1615
def k0_mult106 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c1_i32_990 : BitVec 32 := 1#32
  let v1626 : BitVec 32 := Scalar.subi arg10 c1_i32_990
  let c16_i32_991 : BitVec 32 := 16#32
  let c1_i32_987 : BitVec 32 := 1#32
  let v1624 : BitVec 1 := Scalar.cmpi .slt arg10 c1_i32_987
  let c1_i32_988 : BitVec 32 := 1#32
  let c0_i32_989 : BitVec 32 := 0#32
  let v1625 : BitVec 32 := Scalar.select v1624 c1_i32_988 c0_i32_989
  let v1627 : BitVec 32 := Scalar.muli c16_i32_991 v1625
  let v1628 : BitVec 32 := Scalar.addi v1626 v1627
  let c128_i32_992 : BitVec 32 := 128#32
  let v1629 : BitVec 32 := Scalar.muli v1628 c128_i32_992
  let c64_i32_993 : BitVec 32 := 64#32
  let v1630 : BitVec 32 := Scalar.addi v1629 c64_i32_993
  v1630
def k0_mult107 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c2_i32_1001 : BitVec 32 := 2#32
  let v1644 : BitVec 32 := Scalar.subi arg10 c2_i32_1001
  let c16_i32_1002 : BitVec 32 := 16#32
  let c2_i32_998 : BitVec 32 := 2#32
  let v1642 : BitVec 1 := Scalar.cmpi .slt arg10 c2_i32_998
  let c1_i32_999 : BitVec 32 := 1#32
  let c0_i32_1000 : BitVec 32 := 0#32
  let v1643 : BitVec 32 := Scalar.select v1642 c1_i32_999 c0_i32_1000
  let v1645 : BitVec 32 := Scalar.muli c16_i32_1002 v1643
  let v1646 : BitVec 32 := Scalar.addi v1644 v1645
  let c128_i32_1003 : BitVec 32 := 128#32
  let v1647 : BitVec 32 := Scalar.muli v1646 c128_i32_1003
  let c64_i32_1004 : BitVec 32 := 64#32
  let v1648 : BitVec 32 := Scalar.addi v1647 c64_i32_1004
  v1648
def k0_mult108 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c3_i32_1012 : BitVec 32 := 3#32
  let v1662 : BitVec 32 := Scalar.subi arg10 c3_i32_1012
  let c16_i32_1013 : BitVec 32 := 16#32
  let c3_i32_1009 : BitVec 32 := 3#32
  let v1660 : BitVec 1 := Scalar.cmpi .slt arg10 c3_i32_1009
  let c1_i32_1010 : BitVec 32 := 1#32
  let c0_i32_1011 : BitVec 32 := 0#32
  let v1661 : BitVec 32 := Scalar.select v1660 c1_i32_1010 c0_i32_1011
  let v1663 : BitVec 32 := Scalar.muli c16_i32_1013 v1661
  let v1664 : BitVec 32 := Scalar.addi v1662 v1663
  let c128_i32_1014 : BitVec 32 := 128#32
  let v1665 : BitVec 32 := Scalar.muli v1664 c128_i32_1014
  let c64_i32_1015 : BitVec 32 := 64#32
  let v1666 : BitVec 32 := Scalar.addi v1665 c64_i32_1015
  v1666
def k0_mult109 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c4_i32_1023 : BitVec 32 := 4#32
  let v1680 : BitVec 32 := Scalar.subi arg10 c4_i32_1023
  let c16_i32_1024 : BitVec 32 := 16#32
  let c4_i32_1020 : BitVec 32 := 4#32
  let v1678 : BitVec 1 := Scalar.cmpi .slt arg10 c4_i32_1020
  let c1_i32_1021 : BitVec 32 := 1#32
  let c0_i32_1022 : BitVec 32 := 0#32
  let v1679 : BitVec 32 := Scalar.select v1678 c1_i32_1021 c0_i32_1022
  let v1681 : BitVec 32 := Scalar.muli c16_i32_1024 v1679
  let v1682 : BitVec 32 := Scalar.addi v1680 v1681
  let c128_i32_1025 : BitVec 32 := 128#32
  let v1683 : BitVec 32 := Scalar.muli v1682 c128_i32_1025
  let c64_i32_1026 : BitVec 32 := 64#32
  let v1684 : BitVec 32 := Scalar.addi v1683 c64_i32_1026
  v1684
def k0_mult110 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c5_i32_1034 : BitVec 32 := 5#32
  let v1698 : BitVec 32 := Scalar.subi arg10 c5_i32_1034
  let c16_i32_1035 : BitVec 32 := 16#32
  let c5_i32_1031 : BitVec 32 := 5#32
  let v1696 : BitVec 1 := Scalar.cmpi .slt arg10 c5_i32_1031
  let c1_i32_1032 : BitVec 32 := 1#32
  let c0_i32_1033 : BitVec 32 := 0#32
  let v1697 : BitVec 32 := Scalar.select v1696 c1_i32_1032 c0_i32_1033
  let v1699 : BitVec 32 := Scalar.muli c16_i32_1035 v1697
  let v1700 : BitVec 32 := Scalar.addi v1698 v1699
  let c128_i32_1036 : BitVec 32 := 128#32
  let v1701 : BitVec 32 := Scalar.muli v1700 c128_i32_1036
  let c64_i32_1037 : BitVec 32 := 64#32
  let v1702 : BitVec 32 := Scalar.addi v1701 c64_i32_1037
  v1702
def k0_mult111 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c6_i32_1045 : BitVec 32 := 6#32
  let v1716 : BitVec 32 := Scalar.subi arg10 c6_i32_1045
  let c16_i32_1046 : BitVec 32 := 16#32
  let c6_i32_1042 : BitVec 32 := 6#32
  let v1714 : BitVec 1 := Scalar.cmpi .slt arg10 c6_i32_1042
  let c1_i32_1043 : BitVec 32 := 1#32
  let c0_i32_1044 : BitVec 32 := 0#32
  let v1715 : BitVec 32 := Scalar.select v1714 c1_i32_1043 c0_i32_1044
  let v1717 : BitVec 32 := Scalar.muli c16_i32_1046 v1715
  let v1718 : BitVec 32 := Scalar.addi v1716 v1717
  let c128_i32_1047 : BitVec 32 := 128#32
  let v1719 : BitVec 32 := Scalar.muli v1718 c128_i32_1047
  let c64_i32_1048 : BitVec 32 := 64#32
  let v1720 : BitVec 32 := Scalar.addi v1719 c64_i32_1048
  v1720
def k0_mult112 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c7_i32_1056 : BitVec 32 := 7#32
  let v1734 : BitVec 32 := Scalar.subi arg10 c7_i32_1056
  let c16_i32_1057 : BitVec 32 := 16#32
  let c7_i32_1053 : BitVec 32 := 7#32
  let v1732 : BitVec 1 := Scalar.cmpi .slt arg10 c7_i32_1053
  let c1_i32_1054 : BitVec 32 := 1#32
  let c0_i32_1055 : BitVec 32 := 0#32
  let v1733 : BitVec 32 := Scalar.select v1732 c1_i32_1054 c0_i32_1055
  let v1735 : BitVec 32 := Scalar.muli c16_i32_1057 v1733
  let v1736 : BitVec 32 := Scalar.addi v1734 v1735
  let c128_i32_1058 : BitVec 32 := 128#32
  let v1737 : BitVec 32 := Scalar.muli v1736 c128_i32_1058
  let c64_i32_1059 : BitVec 32 := 64#32
  let v1738 : BitVec 32 := Scalar.addi v1737 c64_i32_1059
  v1738
def k0_mult113 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c8_i32_1067 : BitVec 32 := 8#32
  let v1752 : BitVec 32 := Scalar.subi arg10 c8_i32_1067
  let c16_i32_1068 : BitVec 32 := 16#32
  let c8_i32_1064 : BitVec 32 := 8#32
  let v1750 : BitVec 1 := Scalar.cmpi .slt arg10 c8_i32_1064
  let c1_i32_1065 : BitVec 32 := 1#32
  let c0_i32_1066 : BitVec 32 := 0#32
  let v1751 : BitVec 32 := Scalar.select v1750 c1_i32_1065 c0_i32_1066
  let v1753 : BitVec 32 := Scalar.muli c16_i32_1068 v1751
  let v1754 : BitVec 32 := Scalar.addi v1752 v1753
  let c128_i32_1069 : BitVec 32 := 128#32
  let v1755 : BitVec 32 := Scalar.muli v1754 c128_i32_1069
  let c64_i32_1070 : BitVec 32 := 64#32
  let v1756 : BitVec 32 := Scalar.addi v1755 c64_i32_1070
  v1756
def k0_mult114 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c9_i32_1078 : BitVec 32 := 9#32
  let v1770 : BitVec 32 := Scalar.subi arg10 c9_i32_1078
  let c16_i32_1079 : BitVec 32 := 16#32
  let c9_i32_1075 : BitVec 32 := 9#32
  let v1768 : BitVec 1 := Scalar.cmpi .slt arg10 c9_i32_1075
  let c1_i32_1076 : BitVec 32 := 1#32
  let c0_i32_1077 : BitVec 32 := 0#32
  let v1769 : BitVec 32 := Scalar.select v1768 c1_i32_1076 c0_i32_1077
  let v1771 : BitVec 32 := Scalar.muli c16_i32_1079 v1769
  let v1772 : BitVec 32 := Scalar.addi v1770 v1771
  let c128_i32_1080 : BitVec 32 := 128#32
  let v1773 : BitVec 32 := Scalar.muli v1772 c128_i32_1080
  let c64_i32_1081 : BitVec 32 := 64#32
  let v1774 : BitVec 32 := Scalar.addi v1773 c64_i32_1081
  v1774
def k0_mult115 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c10_i32_1089 : BitVec 32 := 10#32
  let v1788 : BitVec 32 := Scalar.subi arg10 c10_i32_1089
  let c16_i32_1090 : BitVec 32 := 16#32
  let c10_i32_1086 : BitVec 32 := 10#32
  let v1786 : BitVec 1 := Scalar.cmpi .slt arg10 c10_i32_1086
  let c1_i32_1087 : BitVec 32 := 1#32
  let c0_i32_1088 : BitVec 32 := 0#32
  let v1787 : BitVec 32 := Scalar.select v1786 c1_i32_1087 c0_i32_1088
  let v1789 : BitVec 32 := Scalar.muli c16_i32_1090 v1787
  let v1790 : BitVec 32 := Scalar.addi v1788 v1789
  let c128_i32_1091 : BitVec 32 := 128#32
  let v1791 : BitVec 32 := Scalar.muli v1790 c128_i32_1091
  let c64_i32_1092 : BitVec 32 := 64#32
  let v1792 : BitVec 32 := Scalar.addi v1791 c64_i32_1092
  v1792
def k0_mult116 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c11_i32_1100 : BitVec 32 := 11#32
  let v1806 : BitVec 32 := Scalar.subi arg10 c11_i32_1100
  let c16_i32_1101 : BitVec 32 := 16#32
  let c11_i32_1097 : BitVec 32 := 11#32
  let v1804 : BitVec 1 := Scalar.cmpi .slt arg10 c11_i32_1097
  let c1_i32_1098 : BitVec 32 := 1#32
  let c0_i32_1099 : BitVec 32 := 0#32
  let v1805 : BitVec 32 := Scalar.select v1804 c1_i32_1098 c0_i32_1099
  let v1807 : BitVec 32 := Scalar.muli c16_i32_1101 v1805
  let v1808 : BitVec 32 := Scalar.addi v1806 v1807
  let c128_i32_1102 : BitVec 32 := 128#32
  let v1809 : BitVec 32 := Scalar.muli v1808 c128_i32_1102
  let c64_i32_1103 : BitVec 32 := 64#32
  let v1810 : BitVec 32 := Scalar.addi v1809 c64_i32_1103
  v1810
def k0_mult117 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c12_i32_1111 : BitVec 32 := 12#32
  let v1824 : BitVec 32 := Scalar.subi arg10 c12_i32_1111
  let c16_i32_1112 : BitVec 32 := 16#32
  let c12_i32_1108 : BitVec 32 := 12#32
  let v1822 : BitVec 1 := Scalar.cmpi .slt arg10 c12_i32_1108
  let c1_i32_1109 : BitVec 32 := 1#32
  let c0_i32_1110 : BitVec 32 := 0#32
  let v1823 : BitVec 32 := Scalar.select v1822 c1_i32_1109 c0_i32_1110
  let v1825 : BitVec 32 := Scalar.muli c16_i32_1112 v1823
  let v1826 : BitVec 32 := Scalar.addi v1824 v1825
  let c128_i32_1113 : BitVec 32 := 128#32
  let v1827 : BitVec 32 := Scalar.muli v1826 c128_i32_1113
  let c64_i32_1114 : BitVec 32 := 64#32
  let v1828 : BitVec 32 := Scalar.addi v1827 c64_i32_1114
  v1828
def k0_mult118 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c13_i32_1122 : BitVec 32 := 13#32
  let v1842 : BitVec 32 := Scalar.subi arg10 c13_i32_1122
  let c16_i32_1123 : BitVec 32 := 16#32
  let c13_i32_1119 : BitVec 32 := 13#32
  let v1840 : BitVec 1 := Scalar.cmpi .slt arg10 c13_i32_1119
  let c1_i32_1120 : BitVec 32 := 1#32
  let c0_i32_1121 : BitVec 32 := 0#32
  let v1841 : BitVec 32 := Scalar.select v1840 c1_i32_1120 c0_i32_1121
  let v1843 : BitVec 32 := Scalar.muli c16_i32_1123 v1841
  let v1844 : BitVec 32 := Scalar.addi v1842 v1843
  let c128_i32_1124 : BitVec 32 := 128#32
  let v1845 : BitVec 32 := Scalar.muli v1844 c128_i32_1124
  let c64_i32_1125 : BitVec 32 := 64#32
  let v1846 : BitVec 32 := Scalar.addi v1845 c64_i32_1125
  v1846
def k0_mult119 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c14_i32_1133 : BitVec 32 := 14#32
  let v1860 : BitVec 32 := Scalar.subi arg10 c14_i32_1133
  let c16_i32_1134 : BitVec 32 := 16#32
  let c14_i32_1130 : BitVec 32 := 14#32
  let v1858 : BitVec 1 := Scalar.cmpi .slt arg10 c14_i32_1130
  let c1_i32_1131 : BitVec 32 := 1#32
  let c0_i32_1132 : BitVec 32 := 0#32
  let v1859 : BitVec 32 := Scalar.select v1858 c1_i32_1131 c0_i32_1132
  let v1861 : BitVec 32 := Scalar.muli c16_i32_1134 v1859
  let v1862 : BitVec 32 := Scalar.addi v1860 v1861
  let c128_i32_1135 : BitVec 32 := 128#32
  let v1863 : BitVec 32 := Scalar.muli v1862 c128_i32_1135
  let c64_i32_1136 : BitVec 32 := 64#32
  let v1864 : BitVec 32 := Scalar.addi v1863 c64_i32_1136
  v1864
def k0_mult120 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c15_i32_1144 : BitVec 32 := 15#32
  let v1878 : BitVec 32 := Scalar.subi arg10 c15_i32_1144
  let c16_i32_1145 : BitVec 32 := 16#32
  let c15_i32_1141 : BitVec 32 := 15#32
  let v1876 : BitVec 1 := Scalar.cmpi .slt arg10 c15_i32_1141
  let c1_i32_1142 : BitVec 32 := 1#32
  let c0_i32_1143 : BitVec 32 := 0#32
  let v1877 : BitVec 32 := Scalar.select v1876 c1_i32_1142 c0_i32_1143
  let v1879 : BitVec 32 := Scalar.muli c16_i32_1145 v1877
  let v1880 : BitVec 32 := Scalar.addi v1878 v1879
  let c128_i32_1146 : BitVec 32 := 128#32
  let v1881 : BitVec 32 := Scalar.muli v1880 c128_i32_1146
  let c64_i32_1147 : BitVec 32 := 64#32
  let v1882 : BitVec 32 := Scalar.addi v1881 c64_i32_1147
  v1882
def k0_mult121 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c0_i32_1152 : BitVec 32 := 0#32
  let v1894 : BitVec 32 := Scalar.subi arg10 c0_i32_1152
  let c0_i32_1153 : BitVec 32 := 0#32
  let v1895 : BitVec 32 := Scalar.addi v1894 c0_i32_1153
  let c128_i32_1154 : BitVec 32 := 128#32
  let v1896 : BitVec 32 := Scalar.muli v1895 c128_i32_1154
  let c64_i32_1155 : BitVec 32 := 64#32
  let v1897 : BitVec 32 := Scalar.addi v1896 c64_i32_1155
  v1897
def k0_mult122 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c1_i32_1163 : BitVec 32 := 1#32
  let v1909 : BitVec 32 := Scalar.subi arg10 c1_i32_1163
  let c16_i32_1164 : BitVec 32 := 16#32
  let c1_i32_1160 : BitVec 32 := 1#32
  let v1907 : BitVec 1 := Scalar.cmpi .slt arg10 c1_i32_1160
  let c1_i32_1161 : BitVec 32 := 1#32
  let c0_i32_1162 : BitVec 32 := 0#32
  let v1908 : BitVec 32 := Scalar.select v1907 c1_i32_1161 c0_i32_1162
  let v1910 : BitVec 32 := Scalar.muli c16_i32_1164 v1908
  let v1911 : BitVec 32 := Scalar.addi v1909 v1910
  let c128_i32_1165 : BitVec 32 := 128#32
  let v1912 : BitVec 32 := Scalar.muli v1911 c128_i32_1165
  let c64_i32_1166 : BitVec 32 := 64#32
  let v1913 : BitVec 32 := Scalar.addi v1912 c64_i32_1166
  v1913
def k0_mult123 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c2_i32_1174 : BitVec 32 := 2#32
  let v1927 : BitVec 32 := Scalar.subi arg10 c2_i32_1174
  let c16_i32_1175 : BitVec 32 := 16#32
  let c2_i32_1171 : BitVec 32 := 2#32
  let v1925 : BitVec 1 := Scalar.cmpi .slt arg10 c2_i32_1171
  let c1_i32_1172 : BitVec 32 := 1#32
  let c0_i32_1173 : BitVec 32 := 0#32
  let v1926 : BitVec 32 := Scalar.select v1925 c1_i32_1172 c0_i32_1173
  let v1928 : BitVec 32 := Scalar.muli c16_i32_1175 v1926
  let v1929 : BitVec 32 := Scalar.addi v1927 v1928
  let c128_i32_1176 : BitVec 32 := 128#32
  let v1930 : BitVec 32 := Scalar.muli v1929 c128_i32_1176
  let c64_i32_1177 : BitVec 32 := 64#32
  let v1931 : BitVec 32 := Scalar.addi v1930 c64_i32_1177
  v1931
def k0_mult124 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c3_i32_1185 : BitVec 32 := 3#32
  let v1945 : BitVec 32 := Scalar.subi arg10 c3_i32_1185
  let c16_i32_1186 : BitVec 32 := 16#32
  let c3_i32_1182 : BitVec 32 := 3#32
  let v1943 : BitVec 1 := Scalar.cmpi .slt arg10 c3_i32_1182
  let c1_i32_1183 : BitVec 32 := 1#32
  let c0_i32_1184 : BitVec 32 := 0#32
  let v1944 : BitVec 32 := Scalar.select v1943 c1_i32_1183 c0_i32_1184
  let v1946 : BitVec 32 := Scalar.muli c16_i32_1186 v1944
  let v1947 : BitVec 32 := Scalar.addi v1945 v1946
  let c128_i32_1187 : BitVec 32 := 128#32
  let v1948 : BitVec 32 := Scalar.muli v1947 c128_i32_1187
  let c64_i32_1188 : BitVec 32 := 64#32
  let v1949 : BitVec 32 := Scalar.addi v1948 c64_i32_1188
  v1949
def k0_mult125 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c4_i32_1196 : BitVec 32 := 4#32
  let v1963 : BitVec 32 := Scalar.subi arg10 c4_i32_1196
  let c16_i32_1197 : BitVec 32 := 16#32
  let c4_i32_1193 : BitVec 32 := 4#32
  let v1961 : BitVec 1 := Scalar.cmpi .slt arg10 c4_i32_1193
  let c1_i32_1194 : BitVec 32 := 1#32
  let c0_i32_1195 : BitVec 32 := 0#32
  let v1962 : BitVec 32 := Scalar.select v1961 c1_i32_1194 c0_i32_1195
  let v1964 : BitVec 32 := Scalar.muli c16_i32_1197 v1962
  let v1965 : BitVec 32 := Scalar.addi v1963 v1964
  let c128_i32_1198 : BitVec 32 := 128#32
  let v1966 : BitVec 32 := Scalar.muli v1965 c128_i32_1198
  let c64_i32_1199 : BitVec 32 := 64#32
  let v1967 : BitVec 32 := Scalar.addi v1966 c64_i32_1199
  v1967
def k0_mult126 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c5_i32_1207 : BitVec 32 := 5#32
  let v1981 : BitVec 32 := Scalar.subi arg10 c5_i32_1207
  let c16_i32_1208 : BitVec 32 := 16#32
  let c5_i32_1204 : BitVec 32 := 5#32
  let v1979 : BitVec 1 := Scalar.cmpi .slt arg10 c5_i32_1204
  let c1_i32_1205 : BitVec 32 := 1#32
  let c0_i32_1206 : BitVec 32 := 0#32
  let v1980 : BitVec 32 := Scalar.select v1979 c1_i32_1205 c0_i32_1206
  let v1982 : BitVec 32 := Scalar.muli c16_i32_1208 v1980
  let v1983 : BitVec 32 := Scalar.addi v1981 v1982
  let c128_i32_1209 : BitVec 32 := 128#32
  let v1984 : BitVec 32 := Scalar.muli v1983 c128_i32_1209
  let c64_i32_1210 : BitVec 32 := 64#32
  let v1985 : BitVec 32 := Scalar.addi v1984 c64_i32_1210
  v1985
def k0_mult127 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c6_i32_1218 : BitVec 32 := 6#32
  let v1999 : BitVec 32 := Scalar.subi arg10 c6_i32_1218
  let c16_i32_1219 : BitVec 32 := 16#32
  let c6_i32_1215 : BitVec 32 := 6#32
  let v1997 : BitVec 1 := Scalar.cmpi .slt arg10 c6_i32_1215
  let c1_i32_1216 : BitVec 32 := 1#32
  let c0_i32_1217 : BitVec 32 := 0#32
  let v1998 : BitVec 32 := Scalar.select v1997 c1_i32_1216 c0_i32_1217
  let v2000 : BitVec 32 := Scalar.muli c16_i32_1219 v1998
  let v2001 : BitVec 32 := Scalar.addi v1999 v2000
  let c128_i32_1220 : BitVec 32 := 128#32
  let v2002 : BitVec 32 := Scalar.muli v2001 c128_i32_1220
  let c64_i32_1221 : BitVec 32 := 64#32
  let v2003 : BitVec 32 := Scalar.addi v2002 c64_i32_1221
  v2003
def k0_mult128 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c7_i32_1229 : BitVec 32 := 7#32
  let v2017 : BitVec 32 := Scalar.subi arg10 c7_i32_1229
  let c16_i32_1230 : BitVec 32 := 16#32
  let c7_i32_1226 : BitVec 32 := 7#32
  let v2015 : BitVec 1 := Scalar.cmpi .slt arg10 c7_i32_1226
  let c1_i32_1227 : BitVec 32 := 1#32
  let c0_i32_1228 : BitVec 32 := 0#32
  let v2016 : BitVec 32 := Scalar.select v2015 c1_i32_1227 c0_i32_1228
  let v2018 : BitVec 32 := Scalar.muli c16_i32_1230 v2016
  let v2019 : BitVec 32 := Scalar.addi v2017 v2018
  let c128_i32_1231 : BitVec 32 := 128#32
  let v2020 : BitVec 32 := Scalar.muli v2019 c128_i32_1231
  let c64_i32_1232 : BitVec 32 := 64#32
  let v2021 : BitVec 32 := Scalar.addi v2020 c64_i32_1232
  v2021
def k0_mult129 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c8_i32_1240 : BitVec 32 := 8#32
  let v2035 : BitVec 32 := Scalar.subi arg10 c8_i32_1240
  let c16_i32_1241 : BitVec 32 := 16#32
  let c8_i32_1237 : BitVec 32 := 8#32
  let v2033 : BitVec 1 := Scalar.cmpi .slt arg10 c8_i32_1237
  let c1_i32_1238 : BitVec 32 := 1#32
  let c0_i32_1239 : BitVec 32 := 0#32
  let v2034 : BitVec 32 := Scalar.select v2033 c1_i32_1238 c0_i32_1239
  let v2036 : BitVec 32 := Scalar.muli c16_i32_1241 v2034
  let v2037 : BitVec 32 := Scalar.addi v2035 v2036
  let c128_i32_1242 : BitVec 32 := 128#32
  let v2038 : BitVec 32 := Scalar.muli v2037 c128_i32_1242
  let c64_i32_1243 : BitVec 32 := 64#32
  let v2039 : BitVec 32 := Scalar.addi v2038 c64_i32_1243
  v2039
def k0_mult130 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c9_i32_1251 : BitVec 32 := 9#32
  let v2053 : BitVec 32 := Scalar.subi arg10 c9_i32_1251
  let c16_i32_1252 : BitVec 32 := 16#32
  let c9_i32_1248 : BitVec 32 := 9#32
  let v2051 : BitVec 1 := Scalar.cmpi .slt arg10 c9_i32_1248
  let c1_i32_1249 : BitVec 32 := 1#32
  let c0_i32_1250 : BitVec 32 := 0#32
  let v2052 : BitVec 32 := Scalar.select v2051 c1_i32_1249 c0_i32_1250
  let v2054 : BitVec 32 := Scalar.muli c16_i32_1252 v2052
  let v2055 : BitVec 32 := Scalar.addi v2053 v2054
  let c128_i32_1253 : BitVec 32 := 128#32
  let v2056 : BitVec 32 := Scalar.muli v2055 c128_i32_1253
  let c64_i32_1254 : BitVec 32 := 64#32
  let v2057 : BitVec 32 := Scalar.addi v2056 c64_i32_1254
  v2057
def k0_mult131 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c10_i32_1262 : BitVec 32 := 10#32
  let v2071 : BitVec 32 := Scalar.subi arg10 c10_i32_1262
  let c16_i32_1263 : BitVec 32 := 16#32
  let c10_i32_1259 : BitVec 32 := 10#32
  let v2069 : BitVec 1 := Scalar.cmpi .slt arg10 c10_i32_1259
  let c1_i32_1260 : BitVec 32 := 1#32
  let c0_i32_1261 : BitVec 32 := 0#32
  let v2070 : BitVec 32 := Scalar.select v2069 c1_i32_1260 c0_i32_1261
  let v2072 : BitVec 32 := Scalar.muli c16_i32_1263 v2070
  let v2073 : BitVec 32 := Scalar.addi v2071 v2072
  let c128_i32_1264 : BitVec 32 := 128#32
  let v2074 : BitVec 32 := Scalar.muli v2073 c128_i32_1264
  let c64_i32_1265 : BitVec 32 := 64#32
  let v2075 : BitVec 32 := Scalar.addi v2074 c64_i32_1265
  v2075
def k0_mult132 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c11_i32_1273 : BitVec 32 := 11#32
  let v2089 : BitVec 32 := Scalar.subi arg10 c11_i32_1273
  let c16_i32_1274 : BitVec 32 := 16#32
  let c11_i32_1270 : BitVec 32 := 11#32
  let v2087 : BitVec 1 := Scalar.cmpi .slt arg10 c11_i32_1270
  let c1_i32_1271 : BitVec 32 := 1#32
  let c0_i32_1272 : BitVec 32 := 0#32
  let v2088 : BitVec 32 := Scalar.select v2087 c1_i32_1271 c0_i32_1272
  let v2090 : BitVec 32 := Scalar.muli c16_i32_1274 v2088
  let v2091 : BitVec 32 := Scalar.addi v2089 v2090
  let c128_i32_1275 : BitVec 32 := 128#32
  let v2092 : BitVec 32 := Scalar.muli v2091 c128_i32_1275
  let c64_i32_1276 : BitVec 32 := 64#32
  let v2093 : BitVec 32 := Scalar.addi v2092 c64_i32_1276
  v2093
def k0_mult133 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c12_i32_1284 : BitVec 32 := 12#32
  let v2107 : BitVec 32 := Scalar.subi arg10 c12_i32_1284
  let c16_i32_1285 : BitVec 32 := 16#32
  let c12_i32_1281 : BitVec 32 := 12#32
  let v2105 : BitVec 1 := Scalar.cmpi .slt arg10 c12_i32_1281
  let c1_i32_1282 : BitVec 32 := 1#32
  let c0_i32_1283 : BitVec 32 := 0#32
  let v2106 : BitVec 32 := Scalar.select v2105 c1_i32_1282 c0_i32_1283
  let v2108 : BitVec 32 := Scalar.muli c16_i32_1285 v2106
  let v2109 : BitVec 32 := Scalar.addi v2107 v2108
  let c128_i32_1286 : BitVec 32 := 128#32
  let v2110 : BitVec 32 := Scalar.muli v2109 c128_i32_1286
  let c64_i32_1287 : BitVec 32 := 64#32
  let v2111 : BitVec 32 := Scalar.addi v2110 c64_i32_1287
  v2111
def k0_mult134 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c13_i32_1295 : BitVec 32 := 13#32
  let v2125 : BitVec 32 := Scalar.subi arg10 c13_i32_1295
  let c16_i32_1296 : BitVec 32 := 16#32
  let c13_i32_1292 : BitVec 32 := 13#32
  let v2123 : BitVec 1 := Scalar.cmpi .slt arg10 c13_i32_1292
  let c1_i32_1293 : BitVec 32 := 1#32
  let c0_i32_1294 : BitVec 32 := 0#32
  let v2124 : BitVec 32 := Scalar.select v2123 c1_i32_1293 c0_i32_1294
  let v2126 : BitVec 32 := Scalar.muli c16_i32_1296 v2124
  let v2127 : BitVec 32 := Scalar.addi v2125 v2126
  let c128_i32_1297 : BitVec 32 := 128#32
  let v2128 : BitVec 32 := Scalar.muli v2127 c128_i32_1297
  let c64_i32_1298 : BitVec 32 := 64#32
  let v2129 : BitVec 32 := Scalar.addi v2128 c64_i32_1298
  v2129
def k0_mult135 (k0_t4 : Fin k0_t4_loop.trips) : BitVec 32 :=
  let c1_i32_625 : BitVec 32 := 1#32
  let c1_i32_626 : BitVec 32 := 1#32
  let arg10 : BitVec 32 := Scf.iv c1_i32_625 c1_i32_626 k0_t4
  let c14_i32_1306 : BitVec 32 := 14#32
  let v2143 : BitVec 32 := Scalar.subi arg10 c14_i32_1306
  let c16_i32_1307 : BitVec 32 := 16#32
  let c14_i32_1303 : BitVec 32 := 14#32
  let v2141 : BitVec 1 := Scalar.cmpi .slt arg10 c14_i32_1303
  let c1_i32_1304 : BitVec 32 := 1#32
  let c0_i32_1305 : BitVec 32 := 0#32
  let v2142 : BitVec 32 := Scalar.select v2141 c1_i32_1304 c0_i32_1305
  let v2144 : BitVec 32 := Scalar.muli c16_i32_1307 v2142
  let v2145 : BitVec 32 := Scalar.addi v2143 v2144
  let c128_i32_1308 : BitVec 32 := 128#32
  let v2146 : BitVec 32 := Scalar.muli v2145 c128_i32_1308
  let c64_i32_1309 : BitVec 32 := 64#32
  let v2147 : BitVec 32 := Scalar.addi v2146 c64_i32_1309
  v2147
def k0_mult136 : BitVec 32 :=
  let c1920_i32 : BitVec 32 := 1920#32
  c1920_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x768 : Shape := ⟨2, ![32768, 768]⟩
abbrev S2x3x256 : Shape := ⟨3, ![2, 3, 256]⟩
abbrev S2x31x256 : Shape := ⟨3, ![2, 31, 256]⟩
abbrev S2x256 : Shape := ⟨2, ![2, 256]⟩
abbrev S16x16x128x768 : Shape := ⟨4, ![16, 16, 128, 768]⟩
abbrev S16x128x16x768 : Shape := ⟨4, ![16, 128, 16, 768]⟩
abbrev S16x2048x768 : Shape := ⟨3, ![16, 2048, 768]⟩
abbrev S16x2048x256 : Shape := ⟨3, ![16, 2048, 256]⟩
abbrev S1x3x256 : Shape := ⟨3, ![1, 3, 256]⟩
abbrev S3x256 : Shape := ⟨2, ![3, 256]⟩
abbrev S_ : Shape := ⟨0, ![]⟩
abbrev S16x2050x256 : Shape := ⟨3, ![16, 2050, 256]⟩
abbrev S1x256 : Shape := ⟨2, ![1, 256]⟩
abbrev S256 : Shape := ⟨1, ![256]⟩
abbrev S1x1x256 : Shape := ⟨3, ![1, 1, 256]⟩
abbrev S1x31x256 : Shape := ⟨3, ![1, 31, 256]⟩
abbrev S31x256 : Shape := ⟨2, ![31, 256]⟩
abbrev S16x2078x256 : Shape := ⟨3, ![16, 2078, 256]⟩
abbrev S16x2048 : Shape := ⟨2, ![16, 2048]⟩
abbrev S16x2048x1 : Shape := ⟨3, ![16, 2048, 1]⟩
abbrev S16x2048x512 : Shape := ⟨3, ![16, 2048, 512]⟩
abbrev S16x128x16x512 : Shape := ⟨4, ![16, 128, 16, 512]⟩
abbrev S16x16x128x512 : Shape := ⟨4, ![16, 16, 128, 512]⟩
abbrev S32768x512 : Shape := ⟨2, ![32768, 512]⟩

abbrev nBuf : Space → Nat
  | .hbm => 317
  | .vmem => 0
  | .smem => 0
  | _ => 0

abbrev hbmTy0_0 (i : Nat) : BufTy := match i % 128 with
  | 0 => ⟨S32768x768, .f32⟩
  | 1 => ⟨S2x3x256, .f32⟩
  | 2 => ⟨S2x31x256, .f32⟩
  | 3 => ⟨S2x256, .f32⟩
  | 4 => ⟨S2x256, .f32⟩
  | 5 => ⟨S2x256, .f32⟩
  | 6 => ⟨S16x16x128x768, .f32⟩
  | 7 => ⟨S16x128x16x768, .f32⟩
  | 8 => ⟨S16x2048x768, .f32⟩
  | 9 => ⟨S16x2048x256, .f32⟩
  | 10 => ⟨S16x2048x256, .f32⟩
  | 11 => ⟨S16x2048x256, .f32⟩
  | 12 => ⟨S1x3x256, .f32⟩
  | 13 => ⟨S3x256, .f32⟩
  | 14 => ⟨S_, .i32⟩
  | 15 => ⟨S_, .f32⟩
  | 16 => ⟨S16x2050x256, .f32⟩
  | 17 => ⟨S1x256, .f32⟩
  | 18 => ⟨S256, .f32⟩
  | 19 => ⟨S16x2048x256, .f32⟩
  | 20 => ⟨S1x1x256, .f32⟩
  | 21 => ⟨S16x2048x256, .f32⟩
  | 22 => ⟨S16x2048x256, .f32⟩
  | 23 => ⟨S_, .f32⟩
  | 24 => ⟨S16x2048x256, .f32⟩
  | 25 => ⟨S16x2048x256, .f32⟩
  | 26 => ⟨S1x256, .f32⟩
  | 27 => ⟨S256, .f32⟩
  | 28 => ⟨S16x2048x256, .f32⟩
  | 29 => ⟨S1x1x256, .f32⟩
  | 30 => ⟨S16x2048x256, .f32⟩
  | 31 => ⟨S16x2048x256, .f32⟩
  | 32 => ⟨S16x2048x256, .f32⟩
  | 33 => ⟨S1x256, .f32⟩
  | 34 => ⟨S256, .f32⟩
  | 35 => ⟨S16x2048x256, .f32⟩
  | 36 => ⟨S1x1x256, .f32⟩
  | 37 => ⟨S16x2048x256, .f32⟩
  | 38 => ⟨S16x2048x256, .f32⟩
  | 39 => ⟨S16x2048x256, .f32⟩
  | 40 => ⟨S16x2048x256, .f32⟩
  | 41 => ⟨S1x31x256, .f32⟩
  | 42 => ⟨S31x256, .f32⟩
  | 43 => ⟨S_, .i32⟩
  | 44 => ⟨S_, .f32⟩
  | 45 => ⟨S16x2078x256, .f32⟩
  | 46 => ⟨S1x256, .f32⟩
  | 47 => ⟨S256, .f32⟩
  | 48 => ⟨S16x2048x256, .f32⟩
  | 49 => ⟨S1x1x256, .f32⟩
  | 50 => ⟨S16x2048x256, .f32⟩
  | 51 => ⟨S16x2048x256, .f32⟩
  | 52 => ⟨S_, .f32⟩
  | 53 => ⟨S16x2048x256, .f32⟩
  | 54 => ⟨S16x2048x256, .f32⟩
  | 55 => ⟨S1x256, .f32⟩
  | 56 => ⟨S256, .f32⟩
  | 57 => ⟨S16x2048x256, .f32⟩
  | 58 => ⟨S1x1x256, .f32⟩
  | 59 => ⟨S16x2048x256, .f32⟩
  | 60 => ⟨S16x2048x256, .f32⟩
  | 61 => ⟨S16x2048x256, .f32⟩
  | 62 => ⟨S1x256, .f32⟩
  | 63 => ⟨S256, .f32⟩
  | 64 => ⟨S16x2048x256, .f32⟩
  | 65 => ⟨S1x1x256, .f32⟩
  | 66 => ⟨S16x2048x256, .f32⟩
  | 67 => ⟨S16x2048x256, .f32⟩
  | 68 => ⟨S16x2048x256, .f32⟩
  | 69 => ⟨S1x256, .f32⟩
  | 70 => ⟨S256, .f32⟩
  | 71 => ⟨S16x2048x256, .f32⟩
  | 72 => ⟨S1x1x256, .f32⟩
  | 73 => ⟨S16x2048x256, .f32⟩
  | 74 => ⟨S16x2048x256, .f32⟩
  | 75 => ⟨S16x2048x256, .f32⟩
  | 76 => ⟨S1x256, .f32⟩
  | 77 => ⟨S256, .f32⟩
  | 78 => ⟨S16x2048x256, .f32⟩
  | 79 => ⟨S1x1x256, .f32⟩
  | 80 => ⟨S16x2048x256, .f32⟩
  | 81 => ⟨S16x2048x256, .f32⟩
  | 82 => ⟨S16x2048x256, .f32⟩
  | 83 => ⟨S1x256, .f32⟩
  | 84 => ⟨S256, .f32⟩
  | 85 => ⟨S16x2048x256, .f32⟩
  | 86 => ⟨S1x1x256, .f32⟩
  | 87 => ⟨S16x2048x256, .f32⟩
  | 88 => ⟨S16x2048x256, .f32⟩
  | 89 => ⟨S16x2048x256, .f32⟩
  | 90 => ⟨S1x256, .f32⟩
  | 91 => ⟨S256, .f32⟩
  | 92 => ⟨S16x2048x256, .f32⟩
  | 93 => ⟨S1x1x256, .f32⟩
  | 94 => ⟨S16x2048x256, .f32⟩
  | 95 => ⟨S16x2048x256, .f32⟩
  | 96 => ⟨S16x2048x256, .f32⟩
  | 97 => ⟨S1x256, .f32⟩
  | 98 => ⟨S256, .f32⟩
  | 99 => ⟨S16x2048x256, .f32⟩
  | 100 => ⟨S1x1x256, .f32⟩
  | 101 => ⟨S16x2048x256, .f32⟩
  | 102 => ⟨S16x2048x256, .f32⟩
  | 103 => ⟨S16x2048x256, .f32⟩
  | 104 => ⟨S1x256, .f32⟩
  | 105 => ⟨S256, .f32⟩
  | 106 => ⟨S16x2048x256, .f32⟩
  | 107 => ⟨S1x1x256, .f32⟩
  | 108 => ⟨S16x2048x256, .f32⟩
  | 109 => ⟨S16x2048x256, .f32⟩
  | 110 => ⟨S16x2048x256, .f32⟩
  | 111 => ⟨S1x256, .f32⟩
  | 112 => ⟨S256, .f32⟩
  | 113 => ⟨S16x2048x256, .f32⟩
  | 114 => ⟨S1x1x256, .f32⟩
  | 115 => ⟨S16x2048x256, .f32⟩
  | 116 => ⟨S16x2048x256, .f32⟩
  | 117 => ⟨S16x2048x256, .f32⟩
  | 118 => ⟨S1x256, .f32⟩
  | 119 => ⟨S256, .f32⟩
  | 120 => ⟨S16x2048x256, .f32⟩
  | 121 => ⟨S1x1x256, .f32⟩
  | 122 => ⟨S16x2048x256, .f32⟩
  | 123 => ⟨S16x2048x256, .f32⟩
  | 124 => ⟨S16x2048x256, .f32⟩
  | 125 => ⟨S1x256, .f32⟩
  | 126 => ⟨S256, .f32⟩
  | 127 => ⟨S16x2048x256, .f32⟩
  | _ => ⟨S32768x768, .f32⟩

abbrev hbmTy0_1 (i : Nat) : BufTy := match i % 128 with
  | 0 => ⟨S1x1x256, .f32⟩
  | 1 => ⟨S16x2048x256, .f32⟩
  | 2 => ⟨S16x2048x256, .f32⟩
  | 3 => ⟨S16x2048x256, .f32⟩
  | 4 => ⟨S1x256, .f32⟩
  | 5 => ⟨S256, .f32⟩
  | 6 => ⟨S16x2048x256, .f32⟩
  | 7 => ⟨S1x1x256, .f32⟩
  | 8 => ⟨S16x2048x256, .f32⟩
  | 9 => ⟨S16x2048x256, .f32⟩
  | 10 => ⟨S16x2048x256, .f32⟩
  | 11 => ⟨S1x256, .f32⟩
  | 12 => ⟨S256, .f32⟩
  | 13 => ⟨S16x2048x256, .f32⟩
  | 14 => ⟨S1x1x256, .f32⟩
  | 15 => ⟨S16x2048x256, .f32⟩
  | 16 => ⟨S16x2048x256, .f32⟩
  | 17 => ⟨S16x2048x256, .f32⟩
  | 18 => ⟨S1x256, .f32⟩
  | 19 => ⟨S256, .f32⟩
  | 20 => ⟨S16x2048x256, .f32⟩
  | 21 => ⟨S1x1x256, .f32⟩
  | 22 => ⟨S16x2048x256, .f32⟩
  | 23 => ⟨S16x2048x256, .f32⟩
  | 24 => ⟨S16x2048x256, .f32⟩
  | 25 => ⟨S1x256, .f32⟩
  | 26 => ⟨S256, .f32⟩
  | 27 => ⟨S16x2048x256, .f32⟩
  | 28 => ⟨S1x1x256, .f32⟩
  | 29 => ⟨S16x2048x256, .f32⟩
  | 30 => ⟨S16x2048x256, .f32⟩
  | 31 => ⟨S16x2048x256, .f32⟩
  | 32 => ⟨S1x256, .f32⟩
  | 33 => ⟨S256, .f32⟩
  | 34 => ⟨S16x2048x256, .f32⟩
  | 35 => ⟨S1x1x256, .f32⟩
  | 36 => ⟨S16x2048x256, .f32⟩
  | 37 => ⟨S16x2048x256, .f32⟩
  | 38 => ⟨S16x2048x256, .f32⟩
  | 39 => ⟨S1x256, .f32⟩
  | 40 => ⟨S256, .f32⟩
  | 41 => ⟨S16x2048x256, .f32⟩
  | 42 => ⟨S1x1x256, .f32⟩
  | 43 => ⟨S16x2048x256, .f32⟩
  | 44 => ⟨S16x2048x256, .f32⟩
  | 45 => ⟨S16x2048x256, .f32⟩
  | 46 => ⟨S1x256, .f32⟩
  | 47 => ⟨S256, .f32⟩
  | 48 => ⟨S16x2048x256, .f32⟩
  | 49 => ⟨S1x1x256, .f32⟩
  | 50 => ⟨S16x2048x256, .f32⟩
  | 51 => ⟨S16x2048x256, .f32⟩
  | 52 => ⟨S16x2048x256, .f32⟩
  | 53 => ⟨S1x256, .f32⟩
  | 54 => ⟨S256, .f32⟩
  | 55 => ⟨S16x2048x256, .f32⟩
  | 56 => ⟨S1x1x256, .f32⟩
  | 57 => ⟨S16x2048x256, .f32⟩
  | 58 => ⟨S16x2048x256, .f32⟩
  | 59 => ⟨S16x2048x256, .f32⟩
  | 60 => ⟨S1x256, .f32⟩
  | 61 => ⟨S256, .f32⟩
  | 62 => ⟨S16x2048x256, .f32⟩
  | 63 => ⟨S1x1x256, .f32⟩
  | 64 => ⟨S16x2048x256, .f32⟩
  | 65 => ⟨S16x2048x256, .f32⟩
  | 66 => ⟨S16x2048x256, .f32⟩
  | 67 => ⟨S1x256, .f32⟩
  | 68 => ⟨S256, .f32⟩
  | 69 => ⟨S16x2048x256, .f32⟩
  | 70 => ⟨S1x1x256, .f32⟩
  | 71 => ⟨S16x2048x256, .f32⟩
  | 72 => ⟨S16x2048x256, .f32⟩
  | 73 => ⟨S16x2048x256, .f32⟩
  | 74 => ⟨S1x256, .f32⟩
  | 75 => ⟨S256, .f32⟩
  | 76 => ⟨S16x2048x256, .f32⟩
  | 77 => ⟨S1x1x256, .f32⟩
  | 78 => ⟨S16x2048x256, .f32⟩
  | 79 => ⟨S16x2048x256, .f32⟩
  | 80 => ⟨S16x2048x256, .f32⟩
  | 81 => ⟨S1x256, .f32⟩
  | 82 => ⟨S256, .f32⟩
  | 83 => ⟨S16x2048x256, .f32⟩
  | 84 => ⟨S1x1x256, .f32⟩
  | 85 => ⟨S16x2048x256, .f32⟩
  | 86 => ⟨S16x2048x256, .f32⟩
  | 87 => ⟨S16x2048x256, .f32⟩
  | 88 => ⟨S1x256, .f32⟩
  | 89 => ⟨S256, .f32⟩
  | 90 => ⟨S16x2048x256, .f32⟩
  | 91 => ⟨S1x1x256, .f32⟩
  | 92 => ⟨S16x2048x256, .f32⟩
  | 93 => ⟨S16x2048x256, .f32⟩
  | 94 => ⟨S16x2048x256, .f32⟩
  | 95 => ⟨S1x256, .f32⟩
  | 96 => ⟨S256, .f32⟩
  | 97 => ⟨S16x2048x256, .f32⟩
  | 98 => ⟨S1x1x256, .f32⟩
  | 99 => ⟨S16x2048x256, .f32⟩
  | 100 => ⟨S16x2048x256, .f32⟩
  | 101 => ⟨S16x2048x256, .f32⟩
  | 102 => ⟨S1x256, .f32⟩
  | 103 => ⟨S256, .f32⟩
  | 104 => ⟨S16x2048x256, .f32⟩
  | 105 => ⟨S1x1x256, .f32⟩
  | 106 => ⟨S16x2048x256, .f32⟩
  | 107 => ⟨S16x2048x256, .f32⟩
  | 108 => ⟨S16x2048x256, .f32⟩
  | 109 => ⟨S1x256, .f32⟩
  | 110 => ⟨S256, .f32⟩
  | 111 => ⟨S16x2048x256, .f32⟩
  | 112 => ⟨S1x1x256, .f32⟩
  | 113 => ⟨S16x2048x256, .f32⟩
  | 114 => ⟨S16x2048x256, .f32⟩
  | 115 => ⟨S16x2048x256, .f32⟩
  | 116 => ⟨S1x256, .f32⟩
  | 117 => ⟨S256, .f32⟩
  | 118 => ⟨S16x2048x256, .f32⟩
  | 119 => ⟨S1x1x256, .f32⟩
  | 120 => ⟨S16x2048x256, .f32⟩
  | 121 => ⟨S16x2048x256, .f32⟩
  | 122 => ⟨S16x2048x256, .f32⟩
  | 123 => ⟨S1x256, .f32⟩
  | 124 => ⟨S256, .f32⟩
  | 125 => ⟨S16x2048x256, .f32⟩
  | 126 => ⟨S1x1x256, .f32⟩
  | 127 => ⟨S16x2048x256, .f32⟩
  | _ => ⟨S32768x768, .f32⟩

abbrev hbmTy0_2 (i : Nat) : BufTy := match i % 128 with
  | 0 => ⟨S16x2048x256, .f32⟩
  | 1 => ⟨S16x2048x256, .f32⟩
  | 2 => ⟨S1x256, .f32⟩
  | 3 => ⟨S256, .f32⟩
  | 4 => ⟨S16x2048x256, .f32⟩
  | 5 => ⟨S1x1x256, .f32⟩
  | 6 => ⟨S16x2048x256, .f32⟩
  | 7 => ⟨S16x2048x256, .f32⟩
  | 8 => ⟨S16x2048x256, .f32⟩
  | 9 => ⟨S1x256, .f32⟩
  | 10 => ⟨S256, .f32⟩
  | 11 => ⟨S1x1x256, .f32⟩
  | 12 => ⟨S16x2048x256, .f32⟩
  | 13 => ⟨S16x2048x256, .f32⟩
  | 14 => ⟨S1x256, .f32⟩
  | 15 => ⟨S256, .f32⟩
  | 16 => ⟨S1x256, .f32⟩
  | 17 => ⟨S256, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S16x2048x256, .f32⟩
  | 25 => ⟨S16x2048x256, .f32⟩
  | 26 => ⟨S16x2048x256, .f32⟩
  | 27 => ⟨S_, .f32⟩
  | 28 => ⟨S16x2048, .f32⟩
  | 29 => ⟨S16x2048x1, .f32⟩
  | 30 => ⟨S_, .f32⟩
  | 31 => ⟨S16x2048x1, .f32⟩
  | 32 => ⟨S16x2048x1, .f32⟩
  | 33 => ⟨S16x2048x256, .f32⟩
  | 34 => ⟨S16x2048x256, .f32⟩
  | 35 => ⟨S_, .f32⟩
  | 36 => ⟨S16x2048x1, .f32⟩
  | 37 => ⟨S16x2048x1, .f32⟩
  | 38 => ⟨S16x2048x1, .f32⟩
  | 39 => ⟨S16x2048x256, .f32⟩
  | 40 => ⟨S16x2048x256, .f32⟩
  | 41 => ⟨S1x1x256, .f32⟩
  | 42 => ⟨S16x2048x256, .f32⟩
  | 43 => ⟨S16x2048x256, .f32⟩
  | 44 => ⟨S1x1x256, .f32⟩
  | 45 => ⟨S16x2048x256, .f32⟩
  | 46 => ⟨S16x2048x256, .f32⟩
  | 47 => ⟨S16x2048x256, .f32⟩
  | 48 => ⟨S16x2048x256, .f32⟩
  | 49 => ⟨S_, .f32⟩
  | 50 => ⟨S16x2048x256, .f32⟩
  | 51 => ⟨S16x2048x256, .f32⟩
  | 52 => ⟨S_, .f32⟩
  | 53 => ⟨S16x2048x256, .f32⟩
  | 54 => ⟨S16x2048x256, .f32⟩
  | 55 => ⟨S16x2048x256, .f32⟩
  | 56 => ⟨S16x2048x512, .f32⟩
  | 57 => ⟨S16x128x16x512, .f32⟩
  | 58 => ⟨S16x16x128x512, .f32⟩
  | 59 => ⟨S32768x512, .f32⟩
  | 60 => ⟨S32768x512, .bf16⟩
  | _ => ⟨S32768x768, .f32⟩

abbrev hbmTy (i : Nat) : BufTy := match i / 128 with
  | 0 => hbmTy0_0 i
  | 1 => hbmTy0_1 i
  | 2 => hbmTy0_2 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_0 : Ref sig .tc := ⟨.hbm, 43, rfl⟩
abbrev main_call1_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_v260 : Ref sig .tc := ⟨.hbm, 272, rfl⟩
abbrev main_v261 : Ref sig .tc := ⟨.hbm, 273, rfl⟩
abbrev main_cst_2 : Ref sig .tc := ⟨.hbm, 274, rfl⟩
abbrev main_v262 : Ref sig .tc := ⟨.hbm, 275, rfl⟩
abbrev main_v263 : Ref sig .tc := ⟨.hbm, 276, rfl⟩
abbrev main_cst_3 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_cst_4 : Ref sig .tc := ⟨.hbm, 283, rfl⟩
abbrev main_v269 : Ref sig .tc := ⟨.hbm, 284, rfl⟩
abbrev main_v270 : Ref sig .tc := ⟨.hbm, 285, rfl⟩
abbrev main_cst_5 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_cst_6 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_call2_v0 : Ref sig .tc := ⟨.hbm, 303, rfl⟩
abbrev main_call2_v1 : Ref sig .tc := ⟨.hbm, 304, rfl⟩
abbrev main_call2_cst : Ref sig .tc := ⟨.hbm, 305, rfl⟩
abbrev main_call2_v2 : Ref sig .tc := ⟨.hbm, 306, rfl⟩
abbrev main_call2_v3 : Ref sig .tc := ⟨.hbm, 307, rfl⟩
abbrev main_call2_cst_0 : Ref sig .tc := ⟨.hbm, 308, rfl⟩
abbrev main_call2_v4 : Ref sig .tc := ⟨.hbm, 309, rfl⟩
abbrev main_call2_v5 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩

abbrev nD : Nat := 1
abbrev τ : Topo := Topo.v7x

variable {F : FTy → Type} [FloatOps F]
-- ==== Inproj.lean ====
abbrev S32768x1024 : Shape := ⟨2, ![32768, 1024]⟩
abbrev S2x1024 : Shape := ⟨2, ![2, 1024]⟩
abbrev S2x1024x2816 : Shape := ⟨3, ![2, 1024, 2816]⟩
abbrev S1x1024 : Shape := ⟨2, ![1, 1024]⟩
abbrev S1024 : Shape := ⟨1, ![1024]⟩
abbrev S32768x1536 : Shape := ⟨2, ![32768, 1536]⟩
abbrev S32768x768 : Shape := ⟨2, ![32768, 768]⟩
abbrev S1024x1024 : Shape := ⟨2, ![1024, 1024]⟩
abbrev S1x1024x2816 : Shape := ⟨3, ![1, 1024, 2816]⟩
abbrev S1024x1536 : Shape := ⟨2, ![1024, 1536]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1x1024x1536 : Shape := ⟨3, ![1, 1024, 1536]⟩
abbrev S256x1536 : Shape := ⟨2, ![256, 1536]⟩
abbrev S1x1024x1280 : Shape := ⟨3, ![1, 1024, 1280]⟩
abbrev S1024x1280 : Shape := ⟨2, ![1024, 1280]⟩
abbrev S256x1280 : Shape := ⟨2, ![256, 1280]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S1x1024, .f32⟩
  | .hbm, ⟨4, _⟩ => ⟨S1024, .f32⟩
  | .hbm, ⟨5, _⟩ => ⟨S2x1024x2816, .bf16⟩
  | .hbm, ⟨6, _⟩ => ⟨S1x1024, .f32⟩
  | .hbm, ⟨7, _⟩ => ⟨S32768x1536, .f32⟩
  | .hbm, ⟨8, _⟩ => ⟨S32768x768, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1024x1536, .f32⟩
  | .local _ .vmem, ⟨5, _⟩ => ⟨S1024x1536, .f32⟩
  | .local _ .vmem, ⟨6, _⟩ => ⟨S1024x768, .f32⟩
  | .local _ .vmem, ⟨7, _⟩ => ⟨S1024x768, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojRefIdeal.lean ====
abbrev S32768x1024 : Shape := ⟨2, ![32768, 1024]⟩
abbrev S2x1024 : Shape := ⟨2, ![2, 1024]⟩
abbrev S2x1024x2816 : Shape := ⟨3, ![2, 1024, 2816]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S32768x2816 : Shape := ⟨2, ![32768, 2816]⟩
abbrev S32768x512 : Shape := ⟨2, ![32768, 512]⟩
abbrev S32768x256 : Shape := ⟨2, ![32768, 256]⟩
abbrev S32768x1536 : Shape := ⟨2, ![32768, 1536]⟩
abbrev S32768x768 : Shape := ⟨2, ![32768, 768]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x2816, .f32⟩
  | .hbm, ⟨22, _⟩ => ⟨S1024x2816, .f32⟩
  | .hbm, ⟨23, _⟩ => ⟨S32768x2816, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x1536, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S_, .f32⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Ffn.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S16x128x16x1024 : Shape := ⟨4, ![16, 128, 16, 1024]⟩
abbrev S32768x1024 : Shape := ⟨2, ![32768, 1024]⟩
abbrev S1x128x8x1024 : Shape := ⟨4, ![1, 128, 8, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1x128x1x1024 : Shape := ⟨4, ![1, 128, 1, 1024]⟩
abbrev S128x1024 : Shape := ⟨2, ![128, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S16x128x16x1024, .f32⟩
  | .hbm, ⟨11, _⟩ => ⟨S1x1024, .f32⟩
  | .hbm, ⟨12, _⟩ => ⟨S32768x1024, .f32⟩
  | .local _ .vmem, ⟨0, _⟩ => ⟨S1x128x8x1024, .f32⟩
  | .local _ .vmem, ⟨1, _⟩ => ⟨S1x128x8x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S16x2048x1024 : Shape := ⟨3, ![16, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩
abbrev S16x128x16x1024 : Shape := ⟨4, ![16, 128, 16, 1024]⟩
abbrev S16x16x128x1024 : Shape := ⟨4, ![16, 16, 128, 1024]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x128x16x1024, .f32⟩
  | .hbm, ⟨47, _⟩ => ⟨S16x16x128x1024, .f32⟩
  | .hbm, ⟨48, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Last.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x512 : Shape := ⟨2, ![32768, 512]⟩
abbrev S2x1024x1024 : Shape := ⟨3, ![2, 1024, 1024]⟩
abbrev S1024 : Shape := ⟨1, ![1024]⟩
abbrev S1x1024 : Shape := ⟨2, ![1, 1024]⟩
abbrev S16x128x16x1024 : Shape := ⟨4, ![16, 128, 16, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x512 : Shape := ⟨2, ![1024, 512]⟩
abbrev S1x1024x1024 : Shape := ⟨3, ![1, 1024, 1024]⟩
abbrev S1x128x8x1024 : Shape := ⟨4, ![1, 128, 8, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩
abbrev S128x1024 : Shape := ⟨2, ![128, 1024]⟩
abbrev S1x128x1x1024 : Shape := ⟨4, ![1, 128, 1, 1024]⟩
abbrev S16x2048x1024 : Shape := ⟨3, ![16, 2048, 1024]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x512, .bf16⟩
  | .hbm, ⟨6, _⟩ => ⟨S32768x512, .bf16⟩
  | .hbm, ⟨7, _⟩ => ⟨S2x1024x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S2x1024x2816, .bf16⟩
  | .hbm, ⟨12, _⟩ => ⟨S2x1024x2816, .bf16⟩
  | .hbm, ⟨13, _⟩ => ⟨S2x2816x1024, .bf16⟩
  | .hbm, ⟨14, _⟩ => ⟨S2x1024x1024, .bf16⟩
  | .hbm, ⟨15, _⟩ => ⟨S1x1024, .f32⟩
  | .hbm, ⟨16, _⟩ => ⟨S1x1024, .f32⟩
  | .hbm, ⟨17, _⟩ => ⟨S16x128x16x1024, .f32⟩
  | .hbm, ⟨18, _⟩ => ⟨S16x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x1024x1024, .bf16⟩
  | .local _ .vmem, ⟨11, _⟩ => ⟨S1x1024, .f32⟩
  | .local _ .vmem, ⟨12, _⟩ => ⟨S1x128x8x1024, .f32⟩
  | .local _ .vmem, ⟨13, _⟩ => ⟨S1x128x8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LastRefIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x512 : Shape := ⟨2, ![32768, 512]⟩
abbrev S2x1024x1024 : Shape := ⟨3, ![2, 1024, 1024]⟩
abbrev S1024 : Shape := ⟨1, ![1024]⟩
abbrev S16x16x128x1024 : Shape := ⟨4, ![16, 16, 128, 1024]⟩
abbrev S16x128x16x1024 : Shape := ⟨4, ![16, 128, 16, 1024]⟩
abbrev S16x2048x1024 : Shape := ⟨3, ![16, 2048, 1024]⟩
abbrev S16x16x128x512 : Shape := ⟨4, ![16, 16, 128, 512]⟩
abbrev S16x128x16x512 : Shape := ⟨4, ![16, 128, 16, 512]⟩
abbrev S16x2048x512 : Shape := ⟨3, ![16, 2048, 512]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x512, .bf16⟩
  | .hbm, ⟨6, _⟩ => ⟨S32768x512, .bf16⟩
  | .hbm, ⟨7, _⟩ => ⟨S2x1024x1024, .f32⟩
  | .hbm, ⟨8, _⟩ => ⟨S1024, .f32⟩
  | .hbm, ⟨9, _⟩ => ⟨S16x16x128x1024, .f32⟩
  | .hbm, ⟨10, _⟩ => ⟨S16x128x16x1024, .f32⟩
  | .hbm, ⟨11, _⟩ => ⟨S16x2048x1024, .f32⟩
  | .hbm, ⟨12, _⟩ => ⟨S16x16x128x512, .bf16⟩
  | .hbm, ⟨13, _⟩ => ⟨S16x128x16x512, .bf16⟩
  | .hbm, ⟨14, _⟩ => ⟨S16x2048x512, .bf16⟩
  | .hbm, ⟨15, _⟩ => ⟨S16x16x128x512, .bf16⟩
  | .hbm, ⟨16, _⟩ => ⟨S16x128x16x512, .bf16⟩
  | .hbm, ⟨17, _⟩ => ⟨S16x2048x512, .bf16⟩
  | .hbm, ⟨18, _⟩ => ⟨S16x2048x1024, .bf16⟩
  | .hbm, ⟨19, _⟩ => ⟨S16x2048x1024, .f32⟩
  | .hbm, ⟨20, _⟩ => ⟨S1x1024x1024, .f32⟩
  | .hbm, ⟨21, _⟩ => ⟨S1024x1024, .f32⟩
  | .hbm, ⟨22, _⟩ => ⟨S16x2048x1024, .f32⟩
  | .hbm, ⟨23, _⟩ => ⟨S16x2048x1024, .f32⟩
  | .hbm, ⟨24, _⟩ => ⟨S1x1024, .f32⟩
  | .hbm, ⟨25, _⟩ => ⟨S1024, .f32⟩
  | .hbm, ⟨26, _⟩ => ⟨S16x2048x1024, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S1x1x1024, .f32⟩
  | .hbm, ⟨40, _⟩ => ⟨S16x2048x1024, .f32⟩
  | .hbm, ⟨41, _⟩ => ⟨S16x2048x1024, .f32⟩
  | .hbm, ⟨42, _⟩ => ⟨S1x1024x2816, .f32⟩
  | .hbm, ⟨43, _⟩ => ⟨S1024x2816, .f32⟩
  | .hbm, ⟨44, _⟩ => ⟨S1x1024x2816, .f32⟩
  | .hbm, ⟨45, _⟩ => ⟨S1024x2816, .f32⟩
  | .hbm, ⟨46, _⟩ => ⟨S1x2816x1024, .f32⟩
  | .hbm, ⟨47, _⟩ => ⟨S2816x1024, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S_, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S16x2048x1024, .f32⟩
  | .hbm, ⟨61, _⟩ => ⟨S_, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_3 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Mix.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x512 : Shape := ⟨2, ![32768, 512]⟩
abbrev S2x1024x1024 : Shape := ⟨3, ![2, 1024, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x512 : Shape := ⟨2, ![1024, 512]⟩
abbrev S1x1024x1024 : Shape := ⟨3, ![1, 1024, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 16
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x512, .bf16⟩
  | .hbm, ⟨6, _⟩ => ⟨S32768x512, .bf16⟩
  | .hbm, ⟨7, _⟩ => ⟨S2x1024x1024, .f32⟩
  | .hbm, ⟨8, _⟩ => ⟨S1x1024, .f32⟩
  | .hbm, ⟨9, _⟩ => ⟨S1024, .f32⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S2x1024x1024, .bf16⟩
  | .hbm, ⟨14, _⟩ => ⟨S1x1024, .f32⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x512 : Shape := ⟨2, ![32768, 512]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x512, .bf16⟩
  | .hbm, ⟨6, _⟩ => ⟨S32768x512, .bf16⟩
  | .hbm, ⟨7, _⟩ => ⟨S2x1024x1024, .f32⟩
  | .hbm, ⟨8, _⟩ => ⟨S32768x1024, .bf16⟩
  | .hbm, ⟨9, _⟩ => ⟨S32768x1024, .f32⟩
  | .hbm, ⟨10, _⟩ => ⟨S1x1024x1024, .f32⟩
  | .hbm, ⟨11, _⟩ => ⟨S1024x1024, .f32⟩
  | .hbm, ⟨12, _⟩ => ⟨S32768x1024, .f32⟩
  | .hbm, ⟨13, _⟩ => ⟨S32768x1024, .f32⟩
  | .hbm, ⟨14, _⟩ => ⟨S1x1024, .f32⟩
  | .hbm, ⟨15, _⟩ => ⟨S1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S1x1024x2816, .f32⟩
  | .hbm, ⟨33, _⟩ => ⟨S1024x2816, .f32⟩
  | .hbm, ⟨34, _⟩ => ⟨S1x1024x2816, .f32⟩
  | .hbm, ⟨35, _⟩ => ⟨S1024x2816, .f32⟩
  | .hbm, ⟨36, _⟩ => ⟨S1x2816x1024, .f32⟩
  | .hbm, ⟨37, _⟩ => ⟨S2816x1024, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S_, .f32⟩
  | .hbm, ⟨42, _⟩ => ⟨S32768x2816, .f32⟩
  | .hbm, ⟨43, _⟩ => ⟨S32768x2816, .f32⟩
  | .hbm, ⟨44, _⟩ => ⟨S_, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Next.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 12
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NextRefIdeal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.ConvRun.lean ====
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 8000000 in
/-- One run of the body: the six inputs are read only, and what is stored in the output is one
list of pieces, over whatever the output and the two scratch buffers held before. -/
@[irreducible] def bodyRun (c : Dev nD) (i : grid0.Coords) (arg1 : Memref sig .tc .vmem S2048x768 .f32) (harg1 : arg1.IsWhole) (arg2 : Memref sig .tc .vmem S3x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2048x512 .bf16) (harg7 : arg7.IsWhole) (arg8 : Memref sig .tc .vmem S3x2048x256 .f32) (harg8 : arg8.IsWhole) (arg9 : Memref sig .tc .vmem S2048x256 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    { L : BufTy.Contents (Elt F) arg7.view.ty → BufTy.Contents (Elt F) arg8.view.ty → BufTy.Contents (Elt F) arg9.view.ty → List (View.Piece (Elt F) S2048x512 .bf16) //
      ∀ (E : Set ℕ) (f7 : BufTy.Contents (Elt F) arg7.view.ty) (f8 : BufTy.Contents (Elt F) arg8.view.ty) (f9 : BufTy.Contents (Elt F) arg9.view.ty),
      (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp (MT nD τ sig Unit (Elt F) ℕ (UR sig nD τ) ℕ))
      ⊢ wp frame (wpE (defs₀ (F := F)) Variants.none (c : Thread nD τ) none) E (cc0_conv_mixers (F := F) i arg1 harg1 arg2 harg2 arg3 harg3 arg4 harg4 arg5 harg5 arg6 harg6 arg7 harg7 arg8 harg8 arg9 harg9)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) f7 (L f7 f8 f9))) ∗ (∃ g, (arg8.view.loc (c : Thread nD τ) ↦[arg8.view.set]{fullShare} g)) ∗ (∃ g, (arg9.view.loc (c : Thread nD τ) ↦[arg9.view.set]{fullShare} g)))) } := by
  refine ⟨?_, fun E f7 f8 f9 => ?run⟩
  case run =>
    sl_unfold [cc0_conv_mixers]
    iintro ⟨H1, H2, H3, H4, H5, H6, H7, H8, H9⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Cert.KernelIdeal.Hand
end
-- ==== Proof.ConvFrame.lean ====
module

public import proofs.«01_k».proof.Proof.ConvRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body over any buffers: the inputs' are left as they are, the output's is left at the pieces
over some earlier contents. -/
theorem sound_kernel (c : Dev nD) (i : grid0.Coords) (arg1 : Memref sig .tc .vmem S2048x768 .f32) (harg1 : arg1.IsWhole) (arg2 : Memref sig .tc .vmem S3x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2048x512 .bf16) (harg7 : arg7.IsWhole) (arg8 : Memref sig .tc .vmem S3x2048x256 .f32) (harg8 : arg8.IsWhole) (arg9 : Memref sig .tc .vmem S2048x256 .f32) (harg9 : arg9.IsWhole)
    (x1 : S2048x768.Idx → Elt F .f32) (x2 : S3x256.Idx → Elt F .f32) (x3 : S31x256.Idx → Elt F .f32) (x4 : S1x256.Idx → Elt F .f32) (x5 : S1x256.Idx → Elt F .f32) (x6 : S1x256.Idx → Elt F .f32) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
      ∗ (∃ Y, owns (c : Thread nD τ) arg7 fullShare Y) ∗ (∃ Y, owns (c : Thread nD τ) arg8 fullShare Y)
      ∗ (∃ Y, owns (c : Thread nD τ) arg9 fullShare Y)) : sProp 𝕄)
    ⊢ wp frame (wpE (defs₀ (F := F)) Variants.none c none) Set.univ (cc0_conv_mixers (F := F) i arg1 harg1 arg2 harg2 arg3 harg3 arg4 harg4 arg5 harg5 arg6 harg6 arg7 harg7 arg8 harg8 arg9 harg9) (fun _ =>
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
      ∗ (∃ Y, ⌜∃ X1 X2 X3 X4 X5 X6 f7 f8 f9, (arg1.view.read (Elt F) X1 = x1 ∧ arg2.view.read (Elt F) X2 = x2 ∧ arg3.view.read (Elt F) X3 = x3 ∧ arg4.view.read (Elt F) X4 = x4 ∧ arg5.view.read (Elt F) X5 = x5 ∧ arg6.view.read (Elt F) X6 = x6) ∧
          arg7.view.read (Elt F) (arg7.view.writes (Elt F) f7
            ((bodyRun c i arg1 harg1 arg2 harg2 arg3 harg3 arg4 harg4 arg5 harg5 arg6 harg6 arg7 harg7 arg8 harg8 arg9 harg9 X1 X2 X3 X4 X5 X6).1 f7 f8 f9)) = Y⌝ ∗ owns (c : Thread nD τ) arg7 fullShare Y)
      ∗ (∃ Y, owns (c : Thread nD τ) arg8 fullShare Y) ∗ (∃ Y, owns (c : Thread nD τ) arg9 fullShare Y))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%Y7, %f7, -, H7⟩, ⟨%Y8, %f8, -, H8⟩, ⟨%Y9, %f9, -, H9⟩⟩
  iapply (wp_wand_r (Fr := frame) (wpE := wpE (defs₀ (F := F)) Variants.none c none))
  isplitl [H1 H2 H3 H4 H5 H6 H7 H8 H9]
  · iapply ((bodyRun (F := F) c i arg1 harg1 arg2 harg2 arg3 harg3 arg4 harg4 arg5 harg5 arg6 harg6 arg7 harg7 arg8 harg8 arg9 harg9 f1 f2 f3 f4 f5 f6).2 Set.univ f7 f8 f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H1, H2, H3, H4, H5, H6, H7, ⟨%g8, H8⟩, ⟨%g9, H9⟩⟩
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists _; isplitr
    swap
    · iexists _; isplitr
      swap; · iexact H7
      ipureintro; rfl
    ipureintro
    exact ⟨f1, f2, f3, f4, f5, f6, f7, f8, f9, ⟨h1, h2, h3, h4, h5, h6⟩, rfl⟩
  isplitl [H8]
  · iexists _; iexists g8; isplitr; · ipureintro; rfl
    iexact H8
  iexists _; iexists g9; isplitr; · ipureintro; rfl
  iexact H9

/-- The pieces one run of the body at point `t` stores in the output's buffer. -/
def piecesAt (c : Dev nD) (t : Fin cfg0.N)
    (X1 : BufTy.Contents (Elt F) (st0_0 t).view.ty)
    (X2 : BufTy.Contents (Elt F) (st0_1 t).view.ty)
    (X3 : BufTy.Contents (Elt F) (st0_2 t).view.ty)
    (X4 : BufTy.Contents (Elt F) (st0_3 t).view.ty)
    (X5 : BufTy.Contents (Elt F) (st0_4 t).view.ty)
    (X6 : BufTy.Contents (Elt F) (st0_5 t).view.ty) :=
  (bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) X1 X2 X3 X4 X5 X6).1

/-- What the output's buffer may hold after the body at point `t`: the pieces over some earlier
contents of the output and of the two scratch buffers, the inputs' buffers holding their blocks. -/
def Out (c : Dev nD) (t : Fin cfg0.N) (Y : S2048x512.Idx → Elt F .bf16) : Prop :=
  ∃ (X1 : BufTy.Contents (Elt F) (st0_0 t).view.ty)
    (X2 : BufTy.Contents (Elt F) (st0_1 t).view.ty)
    (X3 : BufTy.Contents (Elt F) (st0_2 t).view.ty)
    (X4 : BufTy.Contents (Elt F) (st0_3 t).view.ty)
    (X5 : BufTy.Contents (Elt F) (st0_4 t).view.ty)
    (X6 : BufTy.Contents (Elt F) (st0_5 t).view.ty)
    (f7 : BufTy.Contents (Elt F) (st0_6 t).view.ty)
    (f8 : BufTy.Contents (Elt F) (Memref.whole cc0_scratch0).view.ty)
    (f9 : BufTy.Contents (Elt F) (Memref.whole cc0_scratch1).view.ty),
    ((st0_0 t).view.read (Elt F) X1 = iblk m c 0 t ∧
    (st0_1 t).view.read (Elt F) X2 = iblk m c 1 t ∧
    (st0_2 t).view.read (Elt F) X3 = iblk m c 2 t ∧
    (st0_3 t).view.read (Elt F) X4 = iblk m c 3 t ∧
    (st0_4 t).view.read (Elt F) X5 = iblk m c 4 t ∧
    (st0_5 t).view.read (Elt F) X6 = iblk m c 5 t) ∧
    (st0_6 t).view.read (Elt F) ((st0_6 t).view.writes (Elt F) f7 (piecesAt c t X1 X2 X3 X4 X5 X6 f7 f8 f9)) = Y

/-- The proof data: each input's buffer at its block, the output's at a stated family `O`. -/
def dats (O : Dev nD → Fin cfg0.N → S2048x512.Idx → Elt F .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O c t
  Φ _ := Pipeline.ΦA spec0 c
  q _ := fullShare
  owed _ := 0

variable (O : Dev nD → Fin cfg0.N → S2048x512.Idx → Elt F .bf16)

theorem A_eq (c : Dev nD) (w : Fin cfg0.W) :
    (dats m O 0 c).A w = V m c (Pipeline.arrRef spec0 w) := by dsimp only [dats]

theorem after_0 (c : Dev nD) (t : Fin cfg0.N) :
    (dats m O 0 c).after 0 t = iblk m c 0 t := by dsimp only [dats]
theorem after_1 (c : Dev nD) (t : Fin cfg0.N) :
    (dats m O 0 c).after 1 t = iblk m c 1 t := by dsimp only [dats]
theorem after_2 (c : Dev nD) (t : Fin cfg0.N) :
    (dats m O 0 c).after 2 t = iblk m c 2 t := by dsimp only [dats]
theorem after_3 (c : Dev nD) (t : Fin cfg0.N) :
    (dats m O 0 c).after 3 t = iblk m c 3 t := by dsimp only [dats]
theorem after_4 (c : Dev nD) (t : Fin cfg0.N) :
    (dats m O 0 c).after 4 t = iblk m c 4 t := by dsimp only [dats]
theorem after_5 (c : Dev nD) (t : Fin cfg0.N) :
    (dats m O 0 c).after 5 t = iblk m c 5 t := by dsimp only [dats]
theorem after_6 (c : Dev nD) (t : Fin cfg0.N) :
    (dats m O 0 c).after 6 t = O c t := by dsimp only [dats]

theorem before_0 (c : Dev nD) (t : Fin cfg0.N) (d) :
    (dats m O 0 c).before 0 t d = iblk m c 0 t :=
  before0_0_of m (dats m O 0 c) (A_eq m O c 0) (after_0 m O c) t d
theorem before_1 (c : Dev nD) (t : Fin cfg0.N) (d) :
    (dats m O 0 c).before 1 t d = iblk m c 1 t :=
  before0_1_of m (dats m O 0 c) (A_eq m O c 1) (after_1 m O c) t d
theorem before_2 (c : Dev nD) (t : Fin cfg0.N) (d) :
    (dats m O 0 c).before 2 t d = iblk m c 2 t :=
  before0_2_of m (dats m O 0 c) (A_eq m O c 2) (after_2 m O c) t d
theorem before_3 (c : Dev nD) (t : Fin cfg0.N) (d) :
    (dats m O 0 c).before 3 t d = iblk m c 3 t :=
  before0_3_of m (dats m O 0 c) (A_eq m O c 3) (after_3 m O c) t d
theorem before_4 (c : Dev nD) (t : Fin cfg0.N) (d) :
    (dats m O 0 c).before 4 t d = iblk m c 4 t :=
  before0_4_of m (dats m O 0 c) (A_eq m O c 4) (after_4 m O c) t d
theorem before_5 (c : Dev nD) (t : Fin cfg0.N) (d) :
    (dats m O 0 c).before 5 t d = iblk m c 5 t :=
  before0_5_of m (dats m O 0 c) (A_eq m O c 5) (after_5 m O c) t d

/-- The body at point `t`, from the invariant and the buffers to the same, the output's buffer at
contents the body may leave there. -/
theorem body_out (c : Dev nD) (t : Fin cfg0.N) :
    (iprop((Pipeline.ΦA spec0 c : sProp 𝕄)
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ Y, owns (c : Thread nD τ) (st0_6 t) fullShare Y)) : sProp 𝕄)
    ⊢ wp frame (wpE (defs₀ (F := F)) Variants.none c none) Set.univ (bodyAt0 t) (fun _ =>
      iprop((Pipeline.ΦA spec0 c : sProp 𝕄)
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ Y, ⌜Out m c t Y⌝ ∗ owns (c : Thread nD τ) (st0_6 t) fullShare Y))) := by
  unfold Pipeline.ΦA bodyAt0
  rw [scopedRest0_eq, ← (Memref.isWhole_whole cc0_scratch0).exists_owns_eq (c := (c : Thread nD τ)) fullShare,
    ← (Memref.isWhole_whole cc0_scratch1).exists_owns_eq (c := (c : Thread nD τ)) fullShare]
  iintro ⟨⟨⟨H8, H9⟩, Hp⟩, H0, H1, H2, H3, H4, H5, H6⟩
  iapply (wp_wand_r (Fr := frame) (wpE := wpE (defs₀ (F := F)) Variants.none c none))
  isplitl [H0 H1 H2 H3 H4 H5 H6 H8 H9]
  · iapply (sound_kernel c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    iexact H9
  iintro %_ ⟨H0, H1, H2, H3, H4, H5, ⟨%Y, %hY, H6⟩, H8, H9⟩
  isplitl [H8 H9 Hp]
  · isplitl [H8 H9]
    · isplitl [H8]; · iexact H8
      iexact H9
    iexact Hp
  isplitl [H0]; · iexact H0
  isplitl [H1]; · iexact H1
  isplitl [H2]; · iexact H2
  isplitl [H3]; · iexact H3
  isplitl [H4]; · iexact H4
  isplitl [H5]; · iexact H5
  iexists Y; isplitr
  · ipureintro
    obtain ⟨f0, f1, f2, f3, f4, f5, f6, f8, f9, hh⟩ := hY
    exact ⟨f0, f1, f2, f3, f4, f5, f6, f8, f9, hh⟩
  iexact H6

/-- The body at point `t` with the output at any contents before and after. -/
theorem body_forget (c : Dev nD) (t : Fin cfg0.N) :
    (iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d))
    ∗ (∃ d, owns (c : Thread nD τ) (st0_5 t) fullShare ((dats m O 0 c).before 5 t d))
    ∗ (∃ Y, owns (c : Thread nD τ) (st0_6 t) fullShare Y)) : sProp 𝕄)
    ⊢ wp frame (wpE (defs₀ (F := F)) Variants.none c none) Set.univ (bodyAt0 t) (fun _ =>
      iprop((dats m O 0 c).Φ t.succ ∗ (dats m O 0 c).owesAt () t.succ
    ∗ owns (c : Thread nD τ) (st0_0 t) fullShare ((dats m O 0 c).after 0 t)
    ∗ owns (c : Thread nD τ) (st0_1 t) fullShare ((dats m O 0 c).after 1 t)
    ∗ owns (c : Thread nD τ) (st0_2 t) fullShare ((dats m O 0 c).after 2 t)
    ∗ owns (c : Thread nD τ) (st0_3 t) fullShare ((dats m O 0 c).after 3 t)
    ∗ owns (c : Thread nD τ) (st0_4 t) fullShare ((dats m O 0 c).after 4 t)
    ∗ owns (c : Thread nD τ) (st0_5 t) fullShare ((dats m O 0 c).after 5 t)
    ∗ (∃ Y, owns (c : Thread nD τ) (st0_6 t) fullShare Y))) := by
  simp only [before_0, before_1, before_2, before_3, before_4, before_5]
  rw [show (dats m O 0 c).Φ t.succ = (Pipeline.ΦA spec0 c : sProp 𝕄) from rfl,
    show (dats m O 0 c).Φ t.castSucc = (Pipeline.ΦA spec0 c : sProp 𝕄) from rfl,
    show (dats m O 0 c).owesAt () t.succ = (dats m O 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (wp_wand_r (Fr := frame) (wpE := wpE (defs₀ (F := F)) Variants.none c none))
  isplitl [HΦ H0 H1 H2 H3 H4 H5 H6]
  · iapply (body_out m c t)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iexists _; iexact H6
  iintro %_ ⟨HΦ, H0, H1, H2, H3, H4, H5, ⟨%Y, %hY, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at point `t`, where all it may leave in the output is the family `O`. -/
theorem body_exact (c : Dev nD) (t : Fin cfg0.N) (h : ∀ Y, Out m c t Y → Y = O c t) :
    (iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d))
    ∗ (∃ d, owns (c : Thread nD τ) (st0_5 t) fullShare ((dats m O 0 c).before 5 t d))
    ∗ (∃ d, owns (c : Thread nD τ) (st0_6 t) fullShare ((dats m O 0 c).before 6 t d))) : sProp 𝕄)
    ⊢ wp frame (wpE (defs₀ (F := F)) Variants.none c none) Set.univ (bodyAt0 t) (fun _ =>
      iprop((dats m O 0 c).Φ t.succ ∗ (dats m O 0 c).owesAt () t.succ
    ∗ owns (c : Thread nD τ) (st0_0 t) fullShare ((dats m O 0 c).after 0 t)
    ∗ owns (c : Thread nD τ) (st0_1 t) fullShare ((dats m O 0 c).after 1 t)
    ∗ owns (c : Thread nD τ) (st0_2 t) fullShare ((dats m O 0 c).after 2 t)
    ∗ owns (c : Thread nD τ) (st0_3 t) fullShare ((dats m O 0 c).after 3 t)
    ∗ owns (c : Thread nD τ) (st0_4 t) fullShare ((dats m O 0 c).after 4 t)
    ∗ owns (c : Thread nD τ) (st0_5 t) fullShare ((dats m O 0 c).after 5 t)
    ∗ owns (c : Thread nD τ) (st0_6 t) fullShare ((dats m O 0 c).after 6 t))) := by
  simp only [before_0, before_1, before_2, before_3, before_4, before_5]
  rw [show (dats m O 0 c).Φ t.succ = (Pipeline.ΦA spec0 c : sProp 𝕄) from rfl,
    show (dats m O 0 c).Φ t.castSucc = (Pipeline.ΦA spec0 c : sProp 𝕄) from rfl,
    show (dats m O 0 c).owesAt () t.succ = (dats m O 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (wp_wand_r (Fr := frame) (wpE := wpE (defs₀ (F := F)) Variants.none c none))
  isplitl [HΦ H0 H1 H2 H3 H4 H5 H6]
  · iapply (body_out m c t)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iexists _; iexact H6
  iintro %_ ⟨HΦ, H0, H1, H2, H3, H4, H5, ⟨%Y, %hY, H6⟩⟩
  obtain rfl := h Y hY
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The windows the frame says nothing of: the output alone. -/
def fgt : Fin cfg0.W → Bool := fun w => decide (w.val = 6)

theorem obligation_forget (c : Dev nD) :
    BodyObligationLoose (dats m O 0 c) (defs₀ (F := F)) Variants.none () Set.univ fgt := fun t => by
  rw [bigSep_W0, bigSep_W0, defs₀_row]
  exact triple_restated (body_forget m O c t) rfl .rfl fun _ => .rfl

theorem obligation_exact (h : ∀ c t Y, Out m c t Y → Y = O c t) (c : Dev nD) :
    BodyObligation (dats m O 0 c) (defs₀ (F := F)) Variants.none () Set.univ := fun t => by
  rw [bigSep_W0, bigSep_W0, defs₀_row]
  exact triple_restated (body_exact m O c t (h c t)) rfl .rfl fun _ => .rfl

set_option backward.isDefEq.respectTransparency.types false in
set_option maxHeartbeats 800000 in
/-- The run where all the body may leave in the output is the family `O`. -/
theorem run_main (h : ∀ c t Y, Out m c t Y → Y = O c t) :
    θ_run defs (onTc (τ := τ) (main (F := F))) (s₀ m ρ)
      (Pipeline.FramePost cfgs (dats m O) 0 (V m)) :=
  Pipeline.θ_run_frame cfgs (dats m O) 0 launch0 defs₀ Variants.none m ρ main
    (hbody := fun c => (obligation_exact m O h c).loose)
    (hshare := fun c => (dats m O 0 c).share_full fun _ => rfl) (howed := fun _ _ => rfl)
    (V := V m) (hmain := hmain m Variants.none) (hA := A_eq m O) (hΦ := fun _ _ => rfl)

/-- Some contents for the output, of which the frame says nothing. -/
def anyO : Dev nD → Fin cfg0.N → S2048x512.Idx → Elt F .bf16 := fun _ _ _ => FloatOps.ofBits .bf16 0

set_option backward.isDefEq.respectTransparency.types false in
set_option maxHeartbeats 800000 in
/-- The run with the output forgotten, every counter at zero at the end. -/
theorem run_forget : θ_run defs (onTc (τ := τ) (main (F := F))) (s₀ m ρ)
    (fun r => Pipeline.RDat.FramePost cfg0 (fun c => (dats m anyO 0 c).toRForget fgt) (V m) r
      ∧ r.2.sem = fun _ => 0) :=
  Pipeline.θ_run_frame_forget (Q' := _) cfgs (dats m anyO) 0 launch0 defs₀ Variants.none fgt m ρ main
    (hbody := fun c => obligation_forget m anyO c)
    (hshare := fun c => (dats m anyO 0 c).share_full fun _ => rfl) (howed := fun _ _ => rfl)
    (V := V m) (hmain := hmain m Variants.none) (hA := A_eq m anyO) (hΦ := fun _ _ => rfl)

/-- The frame: the arguments end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePost.arr_in h.1 c 0 rfl).trans ((A_eq m anyO c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_forget m ρ)

end Cert.KernelIdeal.Hand
end
-- ==== Proof.ConvSame.lean ====
/- The two printed kernels of the convolution mixers are one text: the frame of one is the frame of the other. -/
module

public import proofs.«01_k».proof.Proof.ConvFrame
public import proofs.«01_k».proof.Proof.Gen.Kernel
public import proofs.«01_k».proof.Defs

@[expose] public section

set_option maxRecDepth 100000

namespace Cert.Kernel.Hand

open Idealize.ShloMosaic Idealize.ShloMosaic.TcCoe

theorem body_eq : Cert.Kernel.cc0_conv_mixers (F := Bits) = Cert.KernelIdeal.cc0_conv_mixers (F := Bits) := by
  unfold Cert.Kernel.cc0_conv_mixers Cert.KernelIdeal.cc0_conv_mixers
  rfl

theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    dsimp only
    rw [body_eq]
    rfl

theorem defs_eq : Cert.Kernel.defs (F := Bits) = Cert.KernelIdeal.defs (F := Bits) := by
  unfold Cert.Kernel.defs Cert.KernelIdeal.defs
  rw [defs0_eq]
  rfl

/-- The kernel as printed leaves its arguments unchanged and its semaphores at zero. -/
theorem frame : Cert.quiescent_Kernel := by
  intro m ρ _
  rw [defs_eq]
  exact Cert.KernelIdeal.Hand.frame (F := Bits) m ρ

end Cert.Kernel.Hand

end
-- ==== Proof.ConvTile.lean ====
module

public import proofs.«01_k».proof.Proof.ConvRun
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- What a shifted copy of a class-major array holds: copy `d` at row `n` is the array `d` places
earlier in the same class, and zero before the class begins. -/
def slab (z : ℕ → ℕ → EReal) (o d n ch : ℕ) : EReal := if d ≤ n % 128 then z (n - d) (o + ch) else 0

/-- Tap `s` of the convolution at place `p` of class `q`: the sequence `s` places earlier. -/
def tap (z : ℕ → ℕ → EReal) (o q p ch s : ℕ) : EReal :=
  slab z o (s / 16 + if q < s % 16 then 1 else 0) ((q + 16 * (if q < s % 16 then 1 else 0) - s % 16) * 128 + p) ch

/-- The taps summed in order, the latest first. -/
def acc (w T : ℕ → EReal) : ℕ → EReal
  | 0 => w 0 * T 0
  | s + 1 => acc w T s + w (s + 1) * T (s + 1)

/-- The three shifted copies, as one buffer's contents. -/
def slabs (z : ℕ → ℕ → EReal) (o : ℕ) : Vec Ideal S3x2048x256 .f32 := fun x => slab z o (x 0).val (x 1).val (x 2).val

theorem off16_eq : ∀ k : Fin k0_t4_loop.trips, ∀ wh < 2, ∀ pt < 16, ∀ h < 2,
    k0_off16 k (BitVec.ofNat 32 wh) (BitVec.ofNat 32 pt) (BitVec.ofNat 32 pt) (BitVec.ofNat 32 (64 * h))
      = ![wh + (if k.val + 1 < pt then 1 else 0),
          (k.val + 1 + 16 * (if k.val + 1 < pt then 1 else 0) - pt) * 128 + 64 * h, 0] := by
  decide +kernel

theorem ld_slab (m : Memref sig .tc .vmem S3x2048x256 .f32) (z : ℕ → ℕ → EReal) (o n : ℕ) (f : BufTy.Contents (Elt Ideal) m.view.ty)
    (hf : ∀ x, (x 0).val < n → m.view.read (Elt Ideal) f x = slabs z o x) {off : Fin 3 → ℕ} (D R : ℕ)
    (hoff : off = ![D, R, 0]) (h : ∀ a, off a + S1x64x256.size a ≤ S3x2048x256.size a) (hD : D < n) (a : Fin 64) (b : Fin 256) :
    m.view.readAt (Elt Ideal) (Rect.unit (s := S3x2048x256) off S1x64x256.size h).toLoadRect f (ix3 0 a b)
      = slab z o D (R + a.val) b.val := by
  subst hoff
  rw [View.readAt_apply, hf]
  · unfold slabs
    simp
    done
  · simpa using hD

theorem ld_row {n : ℕ} (m : Memref sig .tc .vmem ⟨2, ![n, 256]⟩ .f32) (w : ℕ → ℕ → EReal) (f : BufTy.Contents (Elt Ideal) m.view.ty)
    (hf : ∀ x, m.view.read (Elt Ideal) f x = w (x 0).val (x 1).val) (j : ℕ)
    (h : ∀ a, (![j, 0] : Fin 2 → ℕ) a + S1x256.size a ≤ (⟨2, ![n, 256]⟩ : Shape).size a) (b : Fin 256) :
    m.view.readAt (Elt Ideal) (Rect.unit (s := ⟨2, ![n, 256]⟩) ![j, 0] S1x256.size h).toLoadRect f (ix2 0 b) = w j b.val := by
  rw [View.readAt_apply, hf]
  simp

section
variable (arg3 : Memref sig .tc .vmem S31x256 .f32) (arg4 : Memref sig .tc .vmem S1x256 .f32)
  (arg8 : Memref sig .tc .vmem S3x2048x256 .f32)
  (X3 : BufTy.Contents (Elt Ideal) arg3.view.ty) (X4 : BufTy.Contents (Elt Ideal) arg4.view.ty)
  (X8 : BufTy.Contents (Elt Ideal) arg8.view.ty) (k : Fin k0_t4_loop.trips)
  (z : ℕ → ℕ → EReal) (cw cb : ℕ → ℕ → EReal)
  (h3 : ∀ x, arg3.view.read (Elt Ideal) X3 x = cw (x 0).val (x 1).val)
  (h4 : ∀ x, arg4.view.read (Elt Ideal) X4 x = cb (x 0).val (x 1).val)
  (h8 : ∀ x, (x 0).val < 3 → arg8.view.read (Elt Ideal) X8 x = slabs z 512 x)

include h8 in
theorem tap16 (wh pt h : ℕ) (hwh : wh < 2) (hpt : pt < 16) (hh : h < 2) (i1) (a : Fin 64) (b : Fin 256) (p : ℕ) (hp : p = 64 * h + a.val) :
    View.readAt (Elt Ideal) arg8.view (Rect.unit (s := S3x2048x256) (k0_off16 k (BitVec.ofNat 32 wh) (BitVec.ofNat 32 pt)
      (BitVec.ofNat 32 pt) (BitVec.ofNat 32 (64 * h))) S1x64x256.size i1).toLoadRect X8 (ix3 0 a b)
      = tap z 512 (k.val + 1) p b.val (16 * wh + pt) := by
  subst hp
  rw [ld_slab arg8 z 512 3 X8 h8 _ _ (off16_eq k wh hwh pt hpt h hh) i1 (by split <;> omega)]
  unfold tap
  rw [show (16 * wh + pt) / 16 = wh by omega, show (16 * wh + pt) % 16 = pt by omega, Nat.add_assoc _ (64 * h)]

include h8 in
theorem tap15 (h : Fin 2) (i1) (a : Fin 64) (b : Fin 256) (p : ℕ) (hp : p = 64 * h + a.val) :
    View.readAt (Elt Ideal) arg8.view (Rect.unit (s := S3x2048x256) (k0_off15 k (BitVec.ofNat 32 (64 * h.val))) S1x64x256.size i1).toLoadRect X8 (ix3 0 a b)
      = tap z 512 (k.val + 1) p b.val 0 := by
  subst hp
  rw [ld_slab arg8 z 512 3 X8 h8 _ _ (k0_off15_eq k h) i1 (by omega)]
  unfold tap
  rw [if_neg (by omega)]
  congr 1; omega

include h8 in
theorem tap17 (h : Fin 2) (i1) (a : Fin 64) (b : Fin 256) (p : ℕ) (hp : p = 64 * h + a.val) :
    View.readAt (Elt Ideal) arg8.view (Rect.unit (s := S3x2048x256) (k0_off17 k (BitVec.ofNat 32 (64 * h.val))) S1x64x256.size i1).toLoadRect X8 (ix3 0 a b)
      = tap z 512 (k.val + 1) p b.val 16 := by
  subst hp
  rw [ld_slab arg8 z 512 3 X8 h8 _ _ (k0_off17_eq k h) i1 (by omega)]
  unfold tap
  rw [if_neg (by omega)]
  congr 1; omega

include h3 h4 h8

theorem tile0 (a : Fin 64) (b : Fin 256) (i1 i2 i3 i4) :
    k0_pay26 (F := Ideal) (trip_k0_t4.sl.r_19 arg3 arg8 X3 X8 k) (trip_k0_t4.sl.r_20 arg8 X8 k)
      (View.readAt (Elt Ideal) arg3.view (Rect.unit (s := S31x256) ![1, 0] S1x256.size i3).toLoadRect X3)
      (View.readAt (Elt Ideal) arg8.view (Rect.unit (s := S3x2048x256) (k0_off16 k 1#32 14#32 14#32 0#32) S1x64x256.size i4).toLoadRect X8)
      (View.readAt (Elt Ideal) arg3.view (Rect.unit (s := S31x256) ![0, 0] S1x256.size i1).toLoadRect X3)
      (View.readAt (Elt Ideal) arg4.view (Rect.unit (s := S1x256) ![0, 0] S1x256.size i2).toLoadRect X4) (ix2 a b)
      = acc (fun s => cw (30 - s) b.val) (tap z 512 (k.val + 1) (64 * 0 + a.val) b.val) 30 + cb 0 b.val := by
  pointwise [trip_k0_t4.sl.r_20, k0_pay25, trip_k0_t4.sl.r_19, trip_k0_t4.sl.r_18, trip_k0_t4.sl.r_17, trip_k0_t4.sl.r_16, trip_k0_t4.sl.r_15, trip_k0_t4.sl.r_14, trip_k0_t4.sl.r_13, trip_k0_t4.sl.r_12, trip_k0_t4.sl.r_11, k0_pay16, trip_k0_t4.sl.r_10, k0_pay15, trip_k0_t4.sl.r_9, trip_k0_t4.sl.r_8, trip_k0_t4.sl.r_7, k0_pay13, trip_k0_t4.sl.r_6, trip_k0_t4.sl.r_5, k0_pay11, trip_k0_t4.sl.r_4, trip_k0_t4.sl.r_3, trip_k0_t4.sl.r_2, trip_k0_t4.sl.r_1, trip_k0_t4.sl.r, k0_pay7, k0_pay8, k0_pay9, k0_pay10, k0_pay12, k0_pay14, k0_pay17, k0_pay18, k0_pay19, k0_pay20, k0_pay21, k0_pay22, k0_pay23, k0_pay24, k0_pay26, trip_k0_t4.sl.r_43, k0_pay48, trip_k0_t4.sl.r_42, trip_k0_t4.sl.r_41, k0_pay46, trip_k0_t4.sl.r_40, trip_k0_t4.sl.r_39, trip_k0_t4.sl.r_38, trip_k0_t4.sl.r_37, trip_k0_t4.sl.r_36, trip_k0_t4.sl.r_35, trip_k0_t4.sl.r_34, trip_k0_t4.sl.r_33, trip_k0_t4.sl.r_32, trip_k0_t4.sl.r_31, k0_pay37, trip_k0_t4.sl.r_30, trip_k0_t4.sl.r_29, k0_pay35, trip_k0_t4.sl.r_28, k0_pay34, trip_k0_t4.sl.r_27, trip_k0_t4.sl.r_26, k0_pay32, trip_k0_t4.sl.r_25, trip_k0_t4.sl.r_24, k0_pay30, trip_k0_t4.sl.r_23, trip_k0_t4.sl.r_22, trip_k0_t4.sl.r_21, k0_pay27, k0_pay28, k0_pay29, k0_pay31, k0_pay33, k0_pay36, k0_pay38, k0_pay39, k0_pay40, k0_pay41, k0_pay42, k0_pay43, k0_pay44, k0_pay45, k0_pay47, k0_pay93, k0_pay6]
  simp only [acc]
  refine congrArg₂ (· + ·) ?_ (ld_row arg4 cb X4 h4 0 _ b)
  refine congrArg₂ (· + ·) ?_ (congrArg₂ (· * ·) (ld_row arg3 cw X3 h3 0 _ b) (tap16 arg8 X8 k z h8 1 14 0 (by decide) (by decide) (by decide) _ a b _ (by omega)))
  refine congrArg₂ (· + ·) ?_ (congrArg₂ (· * ·) (ld_row arg3 cw X3 h3 1 _ b) (tap16 arg8 X8 k z h8 1 13 0 (by decide) (by decide) (by decide) _ a b _ (by omega)))
  refine congrArg₂ (· + ·) ?_ (congrArg₂ (· * ·) (ld_row arg3 cw X3 h3 2 _ b) (tap16 arg8 X8 k z h8 1 12 0 (by decide) (by decide) (by decide) _ a b _ (by omega)))
  refine congrArg₂ (· + ·) ?_ (congrArg₂ (· * ·) (ld_row arg3 cw X3 h3 3 _ b) (tap16 arg8 X8 k z h8 1 11 0 (by decide) (by decide) (by decide) _ a b _ (by omega)))
  refine congrArg₂ (· + ·) ?_ (congrArg₂ (· * ·) (ld_row arg3 cw X3 h3 4 _ b) (tap16 arg8 X8 k z h8 1 10 0 (by decide) (by decide) (by decide) _ a b _ (by omega)))
  refine congrArg₂ (· + ·) ?_ (congrArg₂ (· * ·) (ld_row arg3 cw X3 h3 5 _ b) (tap16 arg8 X8 k z h8 1 9 0 (by decide) (by decide) (by decide) _ a b _ (by omega)))
  refine congrArg₂ (· + ·) ?_ (congrArg₂ (· * ·) (ld_row arg3 cw X3 h3 6 _ b) (tap16 arg8 X8 k z h8 1 8 0 (by decide) (by decide) (by decide) _ a b _ (by omega)))
  refine congrArg₂ (· + ·) ?_ (congrArg₂ (· * ·) (ld_row arg3 cw X3 h3 7 _ b) (tap16 arg8 X8 k z h8 1 7 0 (by decide) (by decide) (by decide) _ a b _ (by omega)))
  refine congrArg₂ (· + ·) ?_ (congrArg₂ (· * ·) (ld_row arg3 cw X3 h3 8 _ b) (tap16 arg8 X8 k z h8 1 6 0 (by decide) (by decide) (by decide) _ a b _ (by omega)))
  refine congrArg₂ (· + ·) ?_ (congrArg₂ (· * ·) (ld_row arg3 cw X3 h3 9 _ b) (tap16 arg8 X8 k z h8 1 5 0 (by decide) (by decide) (by decide) _ a b _ (by omega)))
  refine congrArg₂ (· + ·) ?_ (congrArg₂ (· * ·) (ld_row arg3 cw X3 h3 10 _ b) (tap16 arg8 X8 k z h8 1 4 0 (by decide) (by decide) (by decide) _ a b _ (by omega)))
  refine congrArg₂ (· + ·) ?_ (congrArg₂ (· * ·) (ld_row arg3 cw X3 h3 11 _ b) (tap16 arg8 X8 k z h8 1 3 0 (by decide) (by decide) (by decide) _ a b _ (by omega)))
  refine congrArg₂ (· + ·) ?_ (congrArg₂ (· * ·) (ld_row arg3 cw X3 h3 12 _ b) (tap16 arg8 X8 k z h8 1 2 0 (by decide) (by decide) (by decide) _ a b _ (by omega)))
  refine congrArg₂ (· + ·) ?_ (congrArg₂ (· * ·) (ld_row arg3 cw X3 h3 13 _ b) (tap16 arg8 X8 k z h8 1 1 0 (by decide) (by decide) (by decide) _ a b _ (by omega)))
  refine congrArg₂ (· + ·) ?_ (congrArg₂ (· * ·) (ld_row arg3 cw X3 h3 14 _ b) (tap17 arg8 X8 k z h8 0 _ a b _ (by omega)))
  refine congrArg₂ (· + ·) ?_ (congrArg₂ (· * ·) (ld_row arg3 cw X3 h3 15 _ b) (tap16 arg8 X8 k z h8 0 15 0 (by decide) (by decide) (by decide) _ a b _ (by omega)))
  refine congrArg₂ (· + ·) ?_ (congrArg₂ (· * ·) (ld_row arg3 cw X3 h3 16 _ b) (tap16 arg8 X8 k z h8 0 14 0 (by decide) (by decide) (by decide) _ a b _ (by omega)))
  refine congrArg₂ (· + ·) ?_ (congrArg₂ (· * ·) (ld_row arg3 cw X3 h3 17 _ b) (tap16 arg8 X8 k z h8 0 13 0 (by decide) (by decide) (by decide) _ a b _ (by omega)))
  refine congrArg₂ (· + ·) ?_ (congrArg₂ (· * ·) (ld_row arg3 cw X3 h3 18 _ b) (tap16 arg8 X8 k z h8 0 12 0 (by decide) (by decide) (by decide) _ a b _ (by omega)))
  refine congrArg₂ (· + ·) ?_ (congrArg₂ (· * ·) (ld_row arg3 cw X3 h3 19 _ b) (tap16 arg8 X8 k z h8 0 11 0 (by decide) (by decide) (by decide) _ a b _ (by omega)))
  refine congrArg₂ (· + ·) ?_ (congrArg₂ (· * ·) (ld_row arg3 cw X3 h3 20 _ b) (tap16 arg8 X8 k z h8 0 10 0 (by decide) (by decide) (by decide) _ a b _ (by omega)))
  refine congrArg₂ (· + ·) ?_ (congrArg₂ (· * ·) (ld_row arg3 cw X3 h3 21 _ b) (tap16 arg8 X8 k z h8 0 9 0 (by decide) (by decide) (by decide) _ a b _ (by omega)))
  refine congrArg₂ (· + ·) ?_ (congrArg₂ (· * ·) (ld_row arg3 cw X3 h3 22 _ b) (tap16 arg8 X8 k z h8 0 8 0 (by decide) (by decide) (by decide) _ a b _ (by omega)))
  refine congrArg₂ (· + ·) ?_ (congrArg₂ (· * ·) (ld_row arg3 cw X3 h3 23 _ b) (tap16 arg8 X8 k z h8 0 7 0 (by decide) (by decide) (by decide) _ a b _ (by omega)))
  refine congrArg₂ (· + ·) ?_ (congrArg₂ (· * ·) (ld_row arg3 cw X3 h3 24 _ b) (tap16 arg8 X8 k z h8 0 6 0 (by decide) (by decide) (by decide) _ a b _ (by omega)))
  refine congrArg₂ (· + ·) ?_ (congrArg₂ (· * ·) (ld_row arg3 cw X3 h3 25 _ b) (tap16 arg8 X8 k z h8 0 5 0 (by decide) (by decide) (by decide) _ a b _ (by omega)))
  refine congrArg₂ (· + ·) ?_ (congrArg₂ (· * ·) (ld_row arg3 cw X3 h3 26 _ b) (tap16 arg8 X8 k z h8 0 4 0 (by decide) (by decide) (by decide) _ a b _ (by omega)))
  refine congrArg₂ (· + ·) ?_ (congrArg₂ (· * ·) (ld_row arg3 cw X3 h3 27 _ b) (tap16 arg8 X8 k z h8 0 3 0 (by decide) (by decide) (by decide) _ a b _ (by omega)))
  refine congrArg₂ (· + ·) ?_ (congrArg₂ (· * ·) (ld_row arg3 cw X3 h3 28 _ b) (tap16 arg8 X8 k z h8 0 2 0 (by decide) (by decide) (by decide) _ a b _ (by omega)))
  refine congrArg₂ (· + ·) ?_ (congrArg₂ (· * ·) (ld_row arg3 cw X3 h3 29 _ b) (tap16 arg8 X8 k z h8 0 1 0 (by decide) (by decide) (by decide) _ a b _ (by omega)))
  exact congrArg₂ (· * ·) (ld_row arg3 cw X3 h3 30 _ b) (tap15 arg8 X8 k z h8 0 _ a b _ (by omega))

theorem tile1 (a : Fin 64) (b : Fin 256) (i1 i2) :
    k0_pay93 (F := Ideal) (trip_k0_t4.sl.r_42 arg3 arg8 X3 X8 k) (trip_k0_t4.sl.r_43 arg8 X8 k)
      (View.readAt (Elt Ideal) arg3.view (Rect.unit (s := S31x256) ![0, 0] S1x256.size i1).toLoadRect X3)
      (View.readAt (Elt Ideal) arg4.view (Rect.unit (s := S1x256) ![0, 0] S1x256.size i2).toLoadRect X4) (ix2 a b)
      = acc (fun s => cw (30 - s) b.val) (tap z 512 (k.val + 1) (64 * 1 + a.val) b.val) 30 + cb 0 b.val := by
  pointwise [trip_k0_t4.sl.r_20, k0_pay25, trip_k0_t4.sl.r_19, trip_k0_t4.sl.r_18, trip_k0_t4.sl.r_17, trip_k0_t4.sl.r_16, trip_k0_t4.sl.r_15, trip_k0_t4.sl.r_14, trip_k0_t4.sl.r_13, trip_k0_t4.sl.r_12, trip_k0_t4.sl.r_11, k0_pay16, trip_k0_t4.sl.r_10, k0_pay15, trip_k0_t4.sl.r_9, trip_k0_t4.sl.r_8, trip_k0_t4.sl.r_7, k0_pay13, trip_k0_t4.sl.r_6, trip_k0_t4.sl.r_5, k0_pay11, trip_k0_t4.sl.r_4, trip_k0_t4.sl.r_3, trip_k0_t4.sl.r_2, trip_k0_t4.sl.r_1, trip_k0_t4.sl.r, k0_pay7, k0_pay8, k0_pay9, k0_pay10, k0_pay12, k0_pay14, k0_pay17, k0_pay18, k0_pay19, k0_pay20, k0_pay21, k0_pay22, k0_pay23, k0_pay24, k0_pay26, trip_k0_t4.sl.r_43, k0_pay48, trip_k0_t4.sl.r_42, trip_k0_t4.sl.r_41, k0_pay46, trip_k0_t4.sl.r_40, trip_k0_t4.sl.r_39, trip_k0_t4.sl.r_38, trip_k0_t4.sl.r_37, trip_k0_t4.sl.r_36, trip_k0_t4.sl.r_35, trip_k0_t4.sl.r_34, trip_k0_t4.sl.r_33, trip_k0_t4.sl.r_32, trip_k0_t4.sl.r_31, k0_pay37, trip_k0_t4.sl.r_30, trip_k0_t4.sl.r_29, k0_pay35, trip_k0_t4.sl.r_28, k0_pay34, trip_k0_t4.sl.r_27, trip_k0_t4.sl.r_26, k0_pay32, trip_k0_t4.sl.r_25, trip_k0_t4.sl.r_24, k0_pay30, trip_k0_t4.sl.r_23, trip_k0_t4.sl.r_22, trip_k0_t4.sl.r_21, k0_pay27, k0_pay28, k0_pay29, k0_pay31, k0_pay33, k0_pay36, k0_pay38, k0_pay39, k0_pay40, k0_pay41, k0_pay42, k0_pay43, k0_pay44, k0_pay45, k0_pay47, k0_pay93, k0_pay6]
  simp only [acc]
  refine congrArg₂ (· + ·) ?_ (ld_row arg4 cb X4 h4 0 _ b)
  refine congrArg₂ (· + ·) ?_ (congrArg₂ (· * ·) (ld_row arg3 cw X3 h3 0 _ b) (tap16 arg8 X8 k z h8 1 14 1 (by decide) (by decide) (by decide) _ a b _ rfl))
  refine congrArg₂ (· + ·) ?_ (congrArg₂ (· * ·) (ld_row arg3 cw X3 h3 1 _ b) (tap16 arg8 X8 k z h8 1 13 1 (by decide) (by decide) (by decide) _ a b _ rfl))
  refine congrArg₂ (· + ·) ?_ (congrArg₂ (· * ·) (ld_row arg3 cw X3 h3 2 _ b) (tap16 arg8 X8 k z h8 1 12 1 (by decide) (by decide) (by decide) _ a b _ rfl))
  refine congrArg₂ (· + ·) ?_ (congrArg₂ (· * ·) (ld_row arg3 cw X3 h3 3 _ b) (tap16 arg8 X8 k z h8 1 11 1 (by decide) (by decide) (by decide) _ a b _ rfl))
  refine congrArg₂ (· + ·) ?_ (congrArg₂ (· * ·) (ld_row arg3 cw X3 h3 4 _ b) (tap16 arg8 X8 k z h8 1 10 1 (by decide) (by decide) (by decide) _ a b _ rfl))
  refine congrArg₂ (· + ·) ?_ (congrArg₂ (· * ·) (ld_row arg3 cw X3 h3 5 _ b) (tap16 arg8 X8 k z h8 1 9 1 (by decide) (by decide) (by decide) _ a b _ rfl))
  refine congrArg₂ (· + ·) ?_ (congrArg₂ (· * ·) (ld_row arg3 cw X3 h3 6 _ b) (tap16 arg8 X8 k z h8 1 8 1 (by decide) (by decide) (by decide) _ a b _ rfl))
  refine congrArg₂ (· + ·) ?_ (congrArg₂ (· * ·) (ld_row arg3 cw X3 h3 7 _ b) (tap16 arg8 X8 k z h8 1 7 1 (by decide) (by decide) (by decide) _ a b _ rfl))
  refine congrArg₂ (· + ·) ?_ (congrArg₂ (· * ·) (ld_row arg3 cw X3 h3 8 _ b) (tap16 arg8 X8 k z h8 1 6 1 (by decide) (by decide) (by decide) _ a b _ rfl))
  refine congrArg₂ (· + ·) ?_ (congrArg₂ (· * ·) (ld_row arg3 cw X3 h3 9 _ b) (tap16 arg8 X8 k z h8 1 5 1 (by decide) (by decide) (by decide) _ a b _ rfl))
  refine congrArg₂ (· + ·) ?_ (congrArg₂ (· * ·) (ld_row arg3 cw X3 h3 10 _ b) (tap16 arg8 X8 k z h8 1 4 1 (by decide) (by decide) (by decide) _ a b _ rfl))
  refine congrArg₂ (· + ·) ?_ (congrArg₂ (· * ·) (ld_row arg3 cw X3 h3 11 _ b) (tap16 arg8 X8 k z h8 1 3 1 (by decide) (by decide) (by decide) _ a b _ rfl))
  refine congrArg₂ (· + ·) ?_ (congrArg₂ (· * ·) (ld_row arg3 cw X3 h3 12 _ b) (tap16 arg8 X8 k z h8 1 2 1 (by decide) (by decide) (by decide) _ a b _ rfl))
  refine congrArg₂ (· + ·) ?_ (congrArg₂ (· * ·) (ld_row arg3 cw X3 h3 13 _ b) (tap16 arg8 X8 k z h8 1 1 1 (by decide) (by decide) (by decide) _ a b _ rfl))
  refine congrArg₂ (· + ·) ?_ (congrArg₂ (· * ·) (ld_row arg3 cw X3 h3 14 _ b) (tap17 arg8 X8 k z h8 1 _ a b _ rfl))
  refine congrArg₂ (· + ·) ?_ (congrArg₂ (· * ·) (ld_row arg3 cw X3 h3 15 _ b) (tap16 arg8 X8 k z h8 0 15 1 (by decide) (by decide) (by decide) _ a b _ rfl))
  refine congrArg₂ (· + ·) ?_ (congrArg₂ (· * ·) (ld_row arg3 cw X3 h3 16 _ b) (tap16 arg8 X8 k z h8 0 14 1 (by decide) (by decide) (by decide) _ a b _ rfl))
  refine congrArg₂ (· + ·) ?_ (congrArg₂ (· * ·) (ld_row arg3 cw X3 h3 17 _ b) (tap16 arg8 X8 k z h8 0 13 1 (by decide) (by decide) (by decide) _ a b _ rfl))
  refine congrArg₂ (· + ·) ?_ (congrArg₂ (· * ·) (ld_row arg3 cw X3 h3 18 _ b) (tap16 arg8 X8 k z h8 0 12 1 (by decide) (by decide) (by decide) _ a b _ rfl))
  refine congrArg₂ (· + ·) ?_ (congrArg₂ (· * ·) (ld_row arg3 cw X3 h3 19 _ b) (tap16 arg8 X8 k z h8 0 11 1 (by decide) (by decide) (by decide) _ a b _ rfl))
  refine congrArg₂ (· + ·) ?_ (congrArg₂ (· * ·) (ld_row arg3 cw X3 h3 20 _ b) (tap16 arg8 X8 k z h8 0 10 1 (by decide) (by decide) (by decide) _ a b _ rfl))
  refine congrArg₂ (· + ·) ?_ (congrArg₂ (· * ·) (ld_row arg3 cw X3 h3 21 _ b) (tap16 arg8 X8 k z h8 0 9 1 (by decide) (by decide) (by decide) _ a b _ rfl))
  refine congrArg₂ (· + ·) ?_ (congrArg₂ (· * ·) (ld_row arg3 cw X3 h3 22 _ b) (tap16 arg8 X8 k z h8 0 8 1 (by decide) (by decide) (by decide) _ a b _ rfl))
  refine congrArg₂ (· + ·) ?_ (congrArg₂ (· * ·) (ld_row arg3 cw X3 h3 23 _ b) (tap16 arg8 X8 k z h8 0 7 1 (by decide) (by decide) (by decide) _ a b _ rfl))
  refine congrArg₂ (· + ·) ?_ (congrArg₂ (· * ·) (ld_row arg3 cw X3 h3 24 _ b) (tap16 arg8 X8 k z h8 0 6 1 (by decide) (by decide) (by decide) _ a b _ rfl))
  refine congrArg₂ (· + ·) ?_ (congrArg₂ (· * ·) (ld_row arg3 cw X3 h3 25 _ b) (tap16 arg8 X8 k z h8 0 5 1 (by decide) (by decide) (by decide) _ a b _ rfl))
  refine congrArg₂ (· + ·) ?_ (congrArg₂ (· * ·) (ld_row arg3 cw X3 h3 26 _ b) (tap16 arg8 X8 k z h8 0 4 1 (by decide) (by decide) (by decide) _ a b _ rfl))
  refine congrArg₂ (· + ·) ?_ (congrArg₂ (· * ·) (ld_row arg3 cw X3 h3 27 _ b) (tap16 arg8 X8 k z h8 0 3 1 (by decide) (by decide) (by decide) _ a b _ rfl))
  refine congrArg₂ (· + ·) ?_ (congrArg₂ (· * ·) (ld_row arg3 cw X3 h3 28 _ b) (tap16 arg8 X8 k z h8 0 2 1 (by decide) (by decide) (by decide) _ a b _ rfl))
  refine congrArg₂ (· + ·) ?_ (congrArg₂ (· * ·) (ld_row arg3 cw X3 h3 29 _ b) (tap16 arg8 X8 k z h8 0 1 1 (by decide) (by decide) (by decide) _ a b _ rfl))
  exact congrArg₂ (· * ·) (ld_row arg3 cw X3 h3 30 _ b) (tap15 arg8 X8 k z h8 1 _ a b _ rfl)
end

end Cert.KernelIdeal.Hand
end
-- ==== Proof.ConvBody.lean ====
module

public import proofs.«01_k».proof.Proof.ConvTile

@[expose] public section

set_option maxRecDepth 16384

noncomputable section

namespace Cert.KernelIdeal.Hand

open Cert.KernelIdeal Cert.KernelIdeal.Gen
open Idealize.ShloMosaic Idealize.ShloMosaic.TcCoe

theorem tap0 (z : ℕ → ℕ → EReal) (s D R h p : ℕ) (a : Fin 64) (b : Fin 256)
    (hD : s / 16 + (if 0 < s % 16 then 1 else 0) = D) (hR : (0 + 16 * (if 0 < s % 16 then 1 else 0) - s % 16) * 128 + 64 * h = R)
    (hp : p = 64 * h + a.val) : slab z 512 D (R + a.val) b.val = tap z 512 0 p b.val s := by
  subst hD hR hp
  unfold tap
  rw [Nat.add_assoc _ (64 * h)]

section
variable (c : Dev nD) (i : grid0.Coords) (arg1 : Memref sig .tc .vmem S2048x768 .f32) (harg1 : arg1.IsWhole) (arg2 : Memref sig .tc .vmem S3x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2048x512 .bf16) (harg7 : arg7.IsWhole) (arg8 : Memref sig .tc .vmem S3x2048x256 .f32) (harg8 : arg8.IsWhole) (arg9 : Memref sig .tc .vmem S2048x256 .f32) (harg9 : arg9.IsWhole)
  (X1 : BufTy.Contents (Elt Ideal) arg1.view.ty) (X3 : BufTy.Contents (Elt Ideal) arg3.view.ty) (X4 : BufTy.Contents (Elt Ideal) arg4.view.ty)
  (X8 : BufTy.Contents (Elt Ideal) arg8.view.ty)
  (z : ℕ → ℕ → EReal) (cw cb : ℕ → ℕ → EReal)
  (h3 : ∀ x, arg3.view.read (Elt Ideal) X3 x = cw (x 0).val (x 1).val)
  (h4 : ∀ x, arg4.view.read (Elt Ideal) X4 x = cb (x 0).val (x 1).val)
  (h8 : ∀ x, (x 0).val < 3 → arg8.view.read (Elt Ideal) (arg8.view.writes (Elt Ideal) X8 (pb_k0_t3 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32) ++ pb_k0_t1 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32))) x = slabs z 512 x)

include h3 h4 h8

theorem body0 (a : Fin 64) (b : Fin 256) :
    k0_pay74 (F := Ideal) (bodyRun.sl.r_19 c i arg1 harg1 arg2 harg2 arg3 harg3 arg4 harg4 arg5 harg5 arg6 harg6 arg7 harg7 arg8 harg8 arg9 harg9 X1 X3 X4 X8) (ix2 a b)
      = acc (fun s => cw (30 - s) b.val) (tap z 512 0 (64 * 0 + a.val) b.val) 30 + cb 0 b.val := by
  pointwise [bodyRun.sl.v7, bodyRun.sl.v22, bodyRun.sl.v38, bodyRun.sl.v54, bodyRun.sl.v70, bodyRun.sl.v86, bodyRun.sl.v102, bodyRun.sl.v118, bodyRun.sl.v134, bodyRun.sl.v150, bodyRun.sl.v166, bodyRun.sl.v182, bodyRun.sl.v198, bodyRun.sl.v214, bodyRun.sl.v230, bodyRun.sl.v246, bodyRun.sl.v255, bodyRun.sl.v271, bodyRun.sl.v287, bodyRun.sl.v303, bodyRun.sl.v319, bodyRun.sl.v335, bodyRun.sl.v351, bodyRun.sl.v367, bodyRun.sl.v383, bodyRun.sl.v399, bodyRun.sl.v415, bodyRun.sl.v431, bodyRun.sl.v447, bodyRun.sl.v463, bodyRun.sl.v479, bodyRun.sl.r, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
  simp only [acc]
  refine congrArg₂ (· + ·) ?_ (ld_row arg4 cb X4 h4 0 _ b)
  refine congrArg₂ (· + ·) ?_ (congrArg₂ (· * ·) (ld_row arg3 cw X3 h3 0 _ b) ((ld_slab arg8 z 512 3 _ h8 2 256 rfl _ (by decide) a b).trans (tap0 z 30 2 256 0 _ a b (by decide) (by decide) (by omega))))
  refine congrArg₂ (· + ·) ?_ (congrArg₂ (· * ·) (ld_row arg3 cw X3 h3 1 _ b) ((ld_slab arg8 z 512 3 _ h8 2 384 rfl _ (by decide) a b).trans (tap0 z 29 2 384 0 _ a b (by decide) (by decide) (by omega))))
  refine congrArg₂ (· + ·) ?_ (congrArg₂ (· * ·) (ld_row arg3 cw X3 h3 2 _ b) ((ld_slab arg8 z 512 3 _ h8 2 512 rfl _ (by decide) a b).trans (tap0 z 28 2 512 0 _ a b (by decide) (by decide) (by omega))))
  refine congrArg₂ (· + ·) ?_ (congrArg₂ (· * ·) (ld_row arg3 cw X3 h3 3 _ b) ((ld_slab arg8 z 512 3 _ h8 2 640 rfl _ (by decide) a b).trans (tap0 z 27 2 640 0 _ a b (by decide) (by decide) (by omega))))
  refine congrArg₂ (· + ·) ?_ (congrArg₂ (· * ·) (ld_row arg3 cw X3 h3 4 _ b) ((ld_slab arg8 z 512 3 _ h8 2 768 rfl _ (by decide) a b).trans (tap0 z 26 2 768 0 _ a b (by decide) (by decide) (by omega))))
  refine congrArg₂ (· + ·) ?_ (congrArg₂ (· * ·) (ld_row arg3 cw X3 h3 5 _ b) ((ld_slab arg8 z 512 3 _ h8 2 896 rfl _ (by decide) a b).trans (tap0 z 25 2 896 0 _ a b (by decide) (by decide) (by omega))))
  refine congrArg₂ (· + ·) ?_ (congrArg₂ (· * ·) (ld_row arg3 cw X3 h3 6 _ b) ((ld_slab arg8 z 512 3 _ h8 2 1024 rfl _ (by decide) a b).trans (tap0 z 24 2 1024 0 _ a b (by decide) (by decide) (by omega))))
  refine congrArg₂ (· + ·) ?_ (congrArg₂ (· * ·) (ld_row arg3 cw X3 h3 7 _ b) ((ld_slab arg8 z 512 3 _ h8 2 1152 rfl _ (by decide) a b).trans (tap0 z 23 2 1152 0 _ a b (by decide) (by decide) (by omega))))
  refine congrArg₂ (· + ·) ?_ (congrArg₂ (· * ·) (ld_row arg3 cw X3 h3 8 _ b) ((ld_slab arg8 z 512 3 _ h8 2 1280 rfl _ (by decide) a b).trans (tap0 z 22 2 1280 0 _ a b (by decide) (by decide) (by omega))))
  refine congrArg₂ (· + ·) ?_ (congrArg₂ (· * ·) (ld_row arg3 cw X3 h3 9 _ b) ((ld_slab arg8 z 512 3 _ h8 2 1408 rfl _ (by decide) a b).trans (tap0 z 21 2 1408 0 _ a b (by decide) (by decide) (by omega))))
  refine congrArg₂ (· + ·) ?_ (congrArg₂ (· * ·) (ld_row arg3 cw X3 h3 10 _ b) ((ld_slab arg8 z 512 3 _ h8 2 1536 rfl _ (by decide) a b).trans (tap0 z 20 2 1536 0 _ a b (by decide) (by decide) (by omega))))
  refine congrArg₂ (· + ·) ?_ (congrArg₂ (· * ·) (ld_row arg3 cw X3 h3 11 _ b) ((ld_slab arg8 z 512 3 _ h8 2 1664 rfl _ (by decide) a b).trans (tap0 z 19 2 1664 0 _ a b (by decide) (by decide) (by omega))))
  refine congrArg₂ (· + ·) ?_ (congrArg₂ (· * ·) (ld_row arg3 cw X3 h3 12 _ b) ((ld_slab arg8 z 512 3 _ h8 2 1792 rfl _ (by decide) a b).trans (tap0 z 18 2 1792 0 _ a b (by decide) (by decide) (by omega))))
  refine congrArg₂ (· + ·) ?_ (congrArg₂ (· * ·) (ld_row arg3 cw X3 h3 13 _ b) ((ld_slab arg8 z 512 3 _ h8 2 1920 rfl _ (by decide) a b).trans (tap0 z 17 2 1920 0 _ a b (by decide) (by decide) (by omega))))
  refine congrArg₂ (· + ·) ?_ (congrArg₂ (· * ·) (ld_row arg3 cw X3 h3 14 _ b) ((ld_slab arg8 z 512 3 _ h8 1 0 rfl _ (by decide) a b).trans (tap0 z 16 1 0 0 _ a b (by decide) (by decide) (by omega))))
  refine congrArg₂ (· + ·) ?_ (congrArg₂ (· * ·) (ld_row arg3 cw X3 h3 15 _ b) ((ld_slab arg8 z 512 3 _ h8 1 128 rfl _ (by decide) a b).trans (tap0 z 15 1 128 0 _ a b (by decide) (by decide) (by omega))))
  refine congrArg₂ (· + ·) ?_ (congrArg₂ (· * ·) (ld_row arg3 cw X3 h3 16 _ b) ((ld_slab arg8 z 512 3 _ h8 1 256 rfl _ (by decide) a b).trans (tap0 z 14 1 256 0 _ a b (by decide) (by decide) (by omega))))
  refine congrArg₂ (· + ·) ?_ (congrArg₂ (· * ·) (ld_row arg3 cw X3 h3 17 _ b) ((ld_slab arg8 z 512 3 _ h8 1 384 rfl _ (by decide) a b).trans (tap0 z 13 1 384 0 _ a b (by decide) (by decide) (by omega))))
  refine congrArg₂ (· + ·) ?_ (congrArg₂ (· * ·) (ld_row arg3 cw X3 h3 18 _ b) ((ld_slab arg8 z 512 3 _ h8 1 512 rfl _ (by decide) a b).trans (tap0 z 12 1 512 0 _ a b (by decide) (by decide) (by omega))))
  refine congrArg₂ (· + ·) ?_ (congrArg₂ (· * ·) (ld_row arg3 cw X3 h3 19 _ b) ((ld_slab arg8 z 512 3 _ h8 1 640 rfl _ (by decide) a b).trans (tap0 z 11 1 640 0 _ a b (by decide) (by decide) (by omega))))
  refine congrArg₂ (· + ·) ?_ (congrArg₂ (· * ·) (ld_row arg3 cw X3 h3 20 _ b) ((ld_slab arg8 z 512 3 _ h8 1 768 rfl _ (by decide) a b).trans (tap0 z 10 1 768 0 _ a b (by decide) (by decide) (by omega))))
  refine congrArg₂ (· + ·) ?_ (congrArg₂ (· * ·) (ld_row arg3 cw X3 h3 21 _ b) ((ld_slab arg8 z 512 3 _ h8 1 896 rfl _ (by decide) a b).trans (tap0 z 9 1 896 0 _ a b (by decide) (by decide) (by omega))))
  refine congrArg₂ (· + ·) ?_ (congrArg₂ (· * ·) (ld_row arg3 cw X3 h3 22 _ b) ((ld_slab arg8 z 512 3 _ h8 1 1024 rfl _ (by decide) a b).trans (tap0 z 8 1 1024 0 _ a b (by decide) (by decide) (by omega))))
  refine congrArg₂ (· + ·) ?_ (congrArg₂ (· * ·) (ld_row arg3 cw X3 h3 23 _ b) ((ld_slab arg8 z 512 3 _ h8 1 1152 rfl _ (by decide) a b).trans (tap0 z 7 1 1152 0 _ a b (by decide) (by decide) (by omega))))
  refine congrArg₂ (· + ·) ?_ (congrArg₂ (· * ·) (ld_row arg3 cw X3 h3 24 _ b) ((ld_slab arg8 z 512 3 _ h8 1 1280 rfl _ (by decide) a b).trans (tap0 z 6 1 1280 0 _ a b (by decide) (by decide) (by omega))))
  refine congrArg₂ (· + ·) ?_ (congrArg₂ (· * ·) (ld_row arg3 cw X3 h3 25 _ b) ((ld_slab arg8 z 512 3 _ h8 1 1408 rfl _ (by decide) a b).trans (tap0 z 5 1 1408 0 _ a b (by decide) (by decide) (by omega))))
  refine congrArg₂ (· + ·) ?_ (congrArg₂ (· * ·) (ld_row arg3 cw X3 h3 26 _ b) ((ld_slab arg8 z 512 3 _ h8 1 1536 rfl _ (by decide) a b).trans (tap0 z 4 1 1536 0 _ a b (by decide) (by decide) (by omega))))
  refine congrArg₂ (· + ·) ?_ (congrArg₂ (· * ·) (ld_row arg3 cw X3 h3 27 _ b) ((ld_slab arg8 z 512 3 _ h8 1 1664 rfl _ (by decide) a b).trans (tap0 z 3 1 1664 0 _ a b (by decide) (by decide) (by omega))))
  refine congrArg₂ (· + ·) ?_ (congrArg₂ (· * ·) (ld_row arg3 cw X3 h3 28 _ b) ((ld_slab arg8 z 512 3 _ h8 1 1792 rfl _ (by decide) a b).trans (tap0 z 2 1 1792 0 _ a b (by decide) (by decide) (by omega))))
  refine congrArg₂ (· + ·) ?_ (congrArg₂ (· * ·) (ld_row arg3 cw X3 h3 29 _ b) ((ld_slab arg8 z 512 3 _ h8 1 1920 rfl _ (by decide) a b).trans (tap0 z 1 1 1920 0 _ a b (by decide) (by decide) (by omega))))
  exact congrArg₂ (· * ·) (ld_row arg3 cw X3 h3 30 _ b) ((ld_slab arg8 z 512 3 _ h8 0 0 rfl _ (by decide) a b).trans (tap0 z 0 0 0 0 _ a b (by decide) (by decide) (by omega)))

theorem body1 (a : Fin 64) (b : Fin 256) (i0) (i1) (i4) :
    k0_pay92 (F := Ideal) (bodyRun.sl.r_37 c i arg1 harg1 arg2 harg2 arg3 harg3 arg4 harg4 arg5 harg5 arg6 harg6 arg7 harg7 arg8 harg8 arg9 harg9 X1 X3 X8) (bodyRun.sl.v953 c i arg1 harg1 arg2 harg2 arg3 harg3 arg4 harg4 arg5 harg5 arg6 harg6 arg7 harg7 arg8 harg8 arg9 harg9 X1 X8) (View.readAt (Elt Ideal) arg3.view (Rect.unit (s := S31x256) ![1, 0] S1x256.size i1).toLoadRect X3) (bodyRun.sl.v969 c i arg1 harg1 arg2 harg2 arg3 harg3 arg4 harg4 arg5 harg5 arg6 harg6 arg7 harg7 arg8 harg8 arg9 harg9 X1 X8) (View.readAt (Elt Ideal) arg3.view (Rect.unit (s := S31x256) ![0, 0] S1x256.size i0).toLoadRect X3) (View.readAt (Elt Ideal) arg4.view (Rect.unit (s := S1x256) ![0, 0] S1x256.size i4).toLoadRect X4) (ix2 a b)
      = acc (fun s => cw (30 - s) b.val) (tap z 512 0 (64 * 1 + a.val) b.val) 30 + cb 0 b.val := by
  pointwise [bodyRun.sl.v497, bodyRun.sl.v512, bodyRun.sl.v528, bodyRun.sl.v544, bodyRun.sl.v560, bodyRun.sl.v576, bodyRun.sl.v592, bodyRun.sl.v608, bodyRun.sl.v624, bodyRun.sl.v640, bodyRun.sl.v656, bodyRun.sl.v672, bodyRun.sl.v688, bodyRun.sl.v704, bodyRun.sl.v720, bodyRun.sl.v736, bodyRun.sl.v745, bodyRun.sl.v761, bodyRun.sl.v777, bodyRun.sl.v793, bodyRun.sl.v809, bodyRun.sl.v825, bodyRun.sl.v841, bodyRun.sl.v857, bodyRun.sl.v873, bodyRun.sl.v889, bodyRun.sl.v905, bodyRun.sl.v921, bodyRun.sl.v937, bodyRun.sl.v953, bodyRun.sl.v969, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
  simp only [acc]
  refine congrArg₂ (· + ·) ?_ (ld_row arg4 cb X4 h4 0 _ b)
  refine congrArg₂ (· + ·) ?_ (congrArg₂ (· * ·) (ld_row arg3 cw X3 h3 0 _ b) ((ld_slab arg8 z 512 3 _ h8 2 320 rfl _ (by decide) a b).trans (tap0 z 30 2 320 1 _ a b (by decide) (by decide) rfl)))
  refine congrArg₂ (· + ·) ?_ (congrArg₂ (· * ·) (ld_row arg3 cw X3 h3 1 _ b) ((ld_slab arg8 z 512 3 _ h8 2 448 rfl _ (by decide) a b).trans (tap0 z 29 2 448 1 _ a b (by decide) (by decide) rfl)))
  refine congrArg₂ (· + ·) ?_ (congrArg₂ (· * ·) (ld_row arg3 cw X3 h3 2 _ b) ((ld_slab arg8 z 512 3 _ h8 2 576 rfl _ (by decide) a b).trans (tap0 z 28 2 576 1 _ a b (by decide) (by decide) rfl)))
  refine congrArg₂ (· + ·) ?_ (congrArg₂ (· * ·) (ld_row arg3 cw X3 h3 3 _ b) ((ld_slab arg8 z 512 3 _ h8 2 704 rfl _ (by decide) a b).trans (tap0 z 27 2 704 1 _ a b (by decide) (by decide) rfl)))
  refine congrArg₂ (· + ·) ?_ (congrArg₂ (· * ·) (ld_row arg3 cw X3 h3 4 _ b) ((ld_slab arg8 z 512 3 _ h8 2 832 rfl _ (by decide) a b).trans (tap0 z 26 2 832 1 _ a b (by decide) (by decide) rfl)))
  refine congrArg₂ (· + ·) ?_ (congrArg₂ (· * ·) (ld_row arg3 cw X3 h3 5 _ b) ((ld_slab arg8 z 512 3 _ h8 2 960 rfl _ (by decide) a b).trans (tap0 z 25 2 960 1 _ a b (by decide) (by decide) rfl)))
  refine congrArg₂ (· + ·) ?_ (congrArg₂ (· * ·) (ld_row arg3 cw X3 h3 6 _ b) ((ld_slab arg8 z 512 3 _ h8 2 1088 rfl _ (by decide) a b).trans (tap0 z 24 2 1088 1 _ a b (by decide) (by decide) rfl)))
  refine congrArg₂ (· + ·) ?_ (congrArg₂ (· * ·) (ld_row arg3 cw X3 h3 7 _ b) ((ld_slab arg8 z 512 3 _ h8 2 1216 rfl _ (by decide) a b).trans (tap0 z 23 2 1216 1 _ a b (by decide) (by decide) rfl)))
  refine congrArg₂ (· + ·) ?_ (congrArg₂ (· * ·) (ld_row arg3 cw X3 h3 8 _ b) ((ld_slab arg8 z 512 3 _ h8 2 1344 rfl _ (by decide) a b).trans (tap0 z 22 2 1344 1 _ a b (by decide) (by decide) rfl)))
  refine congrArg₂ (· + ·) ?_ (congrArg₂ (· * ·) (ld_row arg3 cw X3 h3 9 _ b) ((ld_slab arg8 z 512 3 _ h8 2 1472 rfl _ (by decide) a b).trans (tap0 z 21 2 1472 1 _ a b (by decide) (by decide) rfl)))
  refine congrArg₂ (· + ·) ?_ (congrArg₂ (· * ·) (ld_row arg3 cw X3 h3 10 _ b) ((ld_slab arg8 z 512 3 _ h8 2 1600 rfl _ (by decide) a b).trans (tap0 z 20 2 1600 1 _ a b (by decide) (by decide) rfl)))
  refine congrArg₂ (· + ·) ?_ (congrArg₂ (· * ·) (ld_row arg3 cw X3 h3 11 _ b) ((ld_slab arg8 z 512 3 _ h8 2 1728 rfl _ (by decide) a b).trans (tap0 z 19 2 1728 1 _ a b (by decide) (by decide) rfl)))
  refine congrArg₂ (· + ·) ?_ (congrArg₂ (· * ·) (ld_row arg3 cw X3 h3 12 _ b) ((ld_slab arg8 z 512 3 _ h8 2 1856 rfl _ (by decide) a b).trans (tap0 z 18 2 1856 1 _ a b (by decide) (by decide) rfl)))
  refine congrArg₂ (· + ·) ?_ (congrArg₂ (· * ·) (ld_row arg3 cw X3 h3 13 _ b) ((ld_slab arg8 z 512 3 _ h8 2 1984 rfl _ (by decide) a b).trans (tap0 z 17 2 1984 1 _ a b (by decide) (by decide) rfl)))
  refine congrArg₂ (· + ·) ?_ (congrArg₂ (· * ·) (ld_row arg3 cw X3 h3 14 _ b) ((ld_slab arg8 z 512 3 _ h8 1 64 rfl _ (by decide) a b).trans (tap0 z 16 1 64 1 _ a b (by decide) (by decide) rfl)))
  refine congrArg₂ (· + ·) ?_ (congrArg₂ (· * ·) (ld_row arg3 cw X3 h3 15 _ b) ((ld_slab arg8 z 512 3 _ h8 1 192 rfl _ (by decide) a b).trans (tap0 z 15 1 192 1 _ a b (by decide) (by decide) rfl)))
  refine congrArg₂ (· + ·) ?_ (congrArg₂ (· * ·) (ld_row arg3 cw X3 h3 16 _ b) ((ld_slab arg8 z 512 3 _ h8 1 320 rfl _ (by decide) a b).trans (tap0 z 14 1 320 1 _ a b (by decide) (by decide) rfl)))
  refine congrArg₂ (· + ·) ?_ (congrArg₂ (· * ·) (ld_row arg3 cw X3 h3 17 _ b) ((ld_slab arg8 z 512 3 _ h8 1 448 rfl _ (by decide) a b).trans (tap0 z 13 1 448 1 _ a b (by decide) (by decide) rfl)))
  refine congrArg₂ (· + ·) ?_ (congrArg₂ (· * ·) (ld_row arg3 cw X3 h3 18 _ b) ((ld_slab arg8 z 512 3 _ h8 1 576 rfl _ (by decide) a b).trans (tap0 z 12 1 576 1 _ a b (by decide) (by decide) rfl)))
  refine congrArg₂ (· + ·) ?_ (congrArg₂ (· * ·) (ld_row arg3 cw X3 h3 19 _ b) ((ld_slab arg8 z 512 3 _ h8 1 704 rfl _ (by decide) a b).trans (tap0 z 11 1 704 1 _ a b (by decide) (by decide) rfl)))
  refine congrArg₂ (· + ·) ?_ (congrArg₂ (· * ·) (ld_row arg3 cw X3 h3 20 _ b) ((ld_slab arg8 z 512 3 _ h8 1 832 rfl _ (by decide) a b).trans (tap0 z 10 1 832 1 _ a b (by decide) (by decide) rfl)))
  refine congrArg₂ (· + ·) ?_ (congrArg₂ (· * ·) (ld_row arg3 cw X3 h3 21 _ b) ((ld_slab arg8 z 512 3 _ h8 1 960 rfl _ (by decide) a b).trans (tap0 z 9 1 960 1 _ a b (by decide) (by decide) rfl)))
  refine congrArg₂ (· + ·) ?_ (congrArg₂ (· * ·) (ld_row arg3 cw X3 h3 22 _ b) ((ld_slab arg8 z 512 3 _ h8 1 1088 rfl _ (by decide) a b).trans (tap0 z 8 1 1088 1 _ a b (by decide) (by decide) rfl)))
  refine congrArg₂ (· + ·) ?_ (congrArg₂ (· * ·) (ld_row arg3 cw X3 h3 23 _ b) ((ld_slab arg8 z 512 3 _ h8 1 1216 rfl _ (by decide) a b).trans (tap0 z 7 1 1216 1 _ a b (by decide) (by decide) rfl)))
  refine congrArg₂ (· + ·) ?_ (congrArg₂ (· * ·) (ld_row arg3 cw X3 h3 24 _ b) ((ld_slab arg8 z 512 3 _ h8 1 1344 rfl _ (by decide) a b).trans (tap0 z 6 1 1344 1 _ a b (by decide) (by decide) rfl)))
  refine congrArg₂ (· + ·) ?_ (congrArg₂ (· * ·) (ld_row arg3 cw X3 h3 25 _ b) ((ld_slab arg8 z 512 3 _ h8 1 1472 rfl _ (by decide) a b).trans (tap0 z 5 1 1472 1 _ a b (by decide) (by decide) rfl)))
  refine congrArg₂ (· + ·) ?_ (congrArg₂ (· * ·) (ld_row arg3 cw X3 h3 26 _ b) ((ld_slab arg8 z 512 3 _ h8 1 1600 rfl _ (by decide) a b).trans (tap0 z 4 1 1600 1 _ a b (by decide) (by decide) rfl)))
  refine congrArg₂ (· + ·) ?_ (congrArg₂ (· * ·) (ld_row arg3 cw X3 h3 27 _ b) ((ld_slab arg8 z 512 3 _ h8 1 1728 rfl _ (by decide) a b).trans (tap0 z 3 1 1728 1 _ a b (by decide) (by decide) rfl)))
  refine congrArg₂ (· + ·) ?_ (congrArg₂ (· * ·) (ld_row arg3 cw X3 h3 28 _ b) ((ld_slab arg8 z 512 3 _ h8 1 1856 rfl _ (by decide) a b).trans (tap0 z 2 1 1856 1 _ a b (by decide) (by decide) rfl)))
  refine congrArg₂ (· + ·) ?_ (congrArg₂ (· * ·) (ld_row arg3 cw X3 h3 29 _ b) ((ld_slab arg8 z 512 3 _ h8 1 1984 rfl _ (by decide) a b).trans (tap0 z 1 1 1984 1 _ a b (by decide) (by decide) rfl)))
  exact congrArg₂ (· * ·) (ld_row arg3 cw X3 h3 30 _ b) ((ld_slab arg8 z 512 3 _ h8 0 64 rfl _ (by decide) a b).trans (tap0 z 0 0 64 1 _ a b (by decide) (by decide) rfl))
end

end Cert.KernelIdeal.Hand
end
-- ==== Proof.ConvSlab.lean ====
module

public import proofs.«01_k».proof.Proof.ConvBody

@[expose] public section

set_option maxRecDepth 16384

noncomputable section

namespace Cert.KernelIdeal.Hand

open Cert.KernelIdeal Cert.KernelIdeal.Gen
open Idealize.ShloMosaic Idealize.ShloMosaic.TcCoe

/-- Every piece of a list holds one function's values at its own places. -/
def Agree {s : Shape} {e : EltTy} (G : Vec Ideal s e) (L : List (View.Piece (Elt Ideal) s e)) : Prop :=
  ∀ p ∈ L, ∀ x : p.1.shape.Idx, p.2 x = G (p.1.emb x)

/-- A place some piece of a list covers. -/
def Hit {s : Shape} {e : EltTy} (L : List (View.Piece (Elt Ideal) s e)) (y : s.Idx) : Prop := ∃ p ∈ L, y ∈ p.1.set

theorem agree_nil {s : Shape} {e : EltTy} (G : Vec Ideal s e) : Agree G [] := fun _ h => absurd h List.not_mem_nil

theorem agree_cons {s : Shape} {e : EltTy} {G : Vec Ideal s e} {p : View.Piece (Elt Ideal) s e} {L : List (View.Piece (Elt Ideal) s e)}
    (hp : ∀ x : p.1.shape.Idx, p.2 x = G (p.1.emb x)) (hL : Agree G L) : Agree G (p :: L) := by
  intro q hq
  rcases List.mem_cons.1 hq with h | h
  · subst h; exact hp
  · exact hL q h

theorem agree_append {s : Shape} {e : EltTy} {G : Vec Ideal s e} {L L' : List (View.Piece (Elt Ideal) s e)}
    (h : Agree G L) (h' : Agree G L') : Agree G (L ++ L') := fun p hp => (List.mem_append.1 hp).elim (h p) (h' p)

theorem hit_left {s : Shape} {e : EltTy} {L L' : List (View.Piece (Elt Ideal) s e)} {y : s.Idx} (h : Hit L y) : Hit (L ++ L') y :=
  h.imp fun _ h => ⟨List.mem_append_left _ h.1, h.2⟩

theorem hit_right {s : Shape} {e : EltTy} {L L' : List (View.Piece (Elt Ideal) s e)} {y : s.Idx} (h : Hit L' y) : Hit (L ++ L') y :=
  h.imp fun _ h => ⟨List.mem_append_right _ h.1, h.2⟩

theorem hit_head {s : Shape} {e : EltTy} {p : View.Piece (Elt Ideal) s e} {L : List (View.Piece (Elt Ideal) s e)} {y : s.Idx}
    (h : y ∈ p.1.set) : Hit (p :: L) y := ⟨p, List.mem_cons_self, h⟩

theorem hit_tail {s : Shape} {e : EltTy} {p : View.Piece (Elt Ideal) s e} {L : List (View.Piece (Elt Ideal) s e)} {y : s.Idx}
    (h : Hit L y) : Hit (p :: L) y := h.imp fun _ h => ⟨List.mem_cons_of_mem _ h.1, h.2⟩

/-- Layer normalisation of a row, gained and shifted, through the sigmoid-weighted unit. -/
def lnsilu (v : Fin 256 → EReal) (g b : EReal) (ch : Fin 256) : EReal :=
  let mu := Ideal.div (∑ x, v x) (Ideal.ofBits .f32 1132462080#32)
  let y := (v ch - mu) * Ideal.rsqrt (Ideal.div (∑ x, (v x - mu) * (v x - mu)) (Ideal.ofBits .f32 1132462080#32) + Ideal.ofBits .f32 925353388#32) * g + b
  y * Ideal.logistic y

theorem n6 (V : Vec Ideal S128x256 .f32) (g b : Vec Ideal S1x256 .f32) (a : Fin 128) (ch : Fin 256) :
    k0_pay6 (F := Ideal) V g b (ix2 a ch) = lnsilu (fun x => V (ix2 a x)) (g (ix2 0 ch)) (b (ix2 0 ch)) ch := by
  pointwise [k0_pay6]
  rfl

theorem n94 (V : Vec Ideal S128x256 .f32) (g b : Vec Ideal S1x256 .f32) (a : Fin 128) (ch : Fin 256) :
    k0_pay1 (F := Ideal) (k0_pay94 V g b) (ix2 a ch) = lnsilu (fun x => V (ix2 a x)) (g (ix2 0 ch)) (b (ix2 0 ch)) ch := by
  pointwise [k0_pay1, k0_pay94]
  rfl

theorem sge1 : ∀ a : Fin 128, IntOp.cmpi .sge (BitVec.ofNat 32 a.val) 1#32 = if 1 ≤ a.val then 1#1 else 0#1 := by decide +kernel
theorem sge2 : ∀ a : Fin 128, IntOp.cmpi .sge (BitVec.ofNat 32 a.val) 2#32 = if 2 ≤ a.val then 1#1 else 0#1 := by decide +kernel

theorem sel (a d r o ch : ℕ) (z : ℕ → ℕ → EReal) (t : EReal) (q : BitVec 1) (hq : q = if d ≤ a then 1#1 else 0#1) (ha : a < 128)
    (hr : r % 128 = 0) (ht : d ≤ a → t = z (r + (a - d)) (o + ch)) : Scalar.select q t (0 : EReal) = slab z o d (r + a) ch := by
  subst hq
  unfold slab
  rw [show (r + a) % 128 = a by omega]
  split
  · rename_i h
    rw [ht h, Nat.add_sub_assoc h]
    rfl
  · rfl

theorem ld_z {R : ℕ} (m : Memref sig .tc .vmem S2048x768 .f32) (z : ℕ → ℕ → EReal) (f : BufTy.Contents (Elt Ideal) m.view.ty)
    (hf : ∀ x, m.view.read (Elt Ideal) f x = z (x 0).val (x 1).val) {off : Fin 2 → ℕ} (r o : ℕ) (hoff : off = ![r, o])
    (h : ∀ a, off a + (![R, 256] : Fin 2 → ℕ) a ≤ S2048x768.size a) (a : Fin R) (b : Fin 256) :
    m.view.readAt (Elt Ideal) (Rect.unit (s := S2048x768) off ![R, 256] h).toLoadRect f (ix2 a b) = z (r + a.val) (o + b.val) := by
  subst hoff
  rw [View.readAt_apply, hf]
  simp

theorem piece3 {off : Fin 3 → ℕ} (z : ℕ → ℕ → EReal) (o d r : ℕ) (hoff : off = ![d, r, 0])
    (inb : ∀ a, off a + (![1, 128, 256] : Fin 3 → ℕ) a ≤ S3x2048x256.size a) (w : Vec Ideal ⟨3, ![1, 128, 256]⟩ .f32)
    (hw : ∀ (a : Fin 128) (b : Fin 256), w (ix3 0 a b) = slab z o d (r + a.val) b.val) :
    ∀ x, w x = slabs z o ((Rect.unit (s := S3x2048x256) off ![1, 128, 256] inb).emb x) := by
  subst hoff
  intro x
  have hx : x = (ix3 (0 : Fin 1) (x 1 : Fin 128) (x 2 : Fin 256) : (⟨3, ![1, 128, 256]⟩ : Shape).Idx) := by
    funext j
    match j with
    | 0 => exact Subsingleton.elim (α := Fin 1) _ _
    | 1 => rfl
    | 2 => rfl
  have h0 : (x 0).val = 0 := Nat.lt_one_iff.1 (x 0).isLt
  refine (congrArg w hx).trans ((hw (x 1) (x 2)).trans ?_)
  show slab z o d (r + (x 1).val) (x 2).val = slab z o (d + 1 * (x 0).val) (r + 1 * (x 1).val) (0 + 1 * (x 2).val)
  rw [h0, Nat.mul_zero, Nat.add_zero, Nat.one_mul, Nat.one_mul, Nat.zero_add]

theorem hit3 {off : Fin 3 → ℕ} (d r : ℕ) (hoff : off = ![d, r, 0])
    (inb : ∀ a, off a + (![1, 128, 256] : Fin 3 → ℕ) a ≤ S3x2048x256.size a) (y : S3x2048x256.Idx) (h0 : (y 0).val = d)
    (h1 : r ≤ (y 1).val) (h2 : (y 1).val < r + 128) : y ∈ (Rect.unit (s := S3x2048x256) off ![1, 128, 256] inb).set := by
  subst hoff
  rw [Rect.mem_set_unit]
  intro a
  have h3 : (y 2).val < 256 := (y 2).isLt
  match a with
  | 0 => exact ⟨h0.symm.le, by show (y 0).val < d + 1; omega⟩
  | 1 => exact ⟨h1, h2⟩
  | 2 => exact ⟨Nat.zero_le _, by show (y 2).val < 0 + 256; omega⟩

theorem t1_trips : k0_t1_loop.trips = 16 := by decide +kernel
theorem t2_trips : k0_t2_loop.trips = 32 := by decide +kernel
theorem t3_trips : k0_t3_loop.trips = 16 := by decide +kernel
theorem t4_trips : k0_t4_loop.trips = 15 := by decide +kernel

section
variable (c : Dev nD) (i : grid0.Coords) (arg1 : Memref sig .tc .vmem S2048x768 .f32) (harg1 : arg1.IsWhole) (arg2 : Memref sig .tc .vmem S3x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2048x512 .bf16) (harg7 : arg7.IsWhole) (arg8 : Memref sig .tc .vmem S3x2048x256 .f32) (harg8 : arg8.IsWhole) (arg9 : Memref sig .tc .vmem S2048x256 .f32) (harg9 : arg9.IsWhole)
  (X1 : BufTy.Contents (Elt Ideal) arg1.view.ty) (z : ℕ → ℕ → EReal)
  (h1 : ∀ x, arg1.view.read (Elt Ideal) X1 x = z (x 0).val (x 1).val)

include h1

theorem t1_trip (k : Fin k0_t1_loop.trips) :
    Agree (slabs z 256) (tripL_k0_t1 (F := Ideal) Variants.none c none i arg1 harg1 arg2 harg2 arg3 harg3 arg4 harg4 arg5 harg5 arg6 harg6 arg7 harg7 arg8 harg8 arg9 harg9 X1 k) ∧
    ∀ y : S3x2048x256.Idx, (y 0).val < 2 → 128 * k.val ≤ (y 1).val → (y 1).val < 128 * k.val + 128 →
      Hit (tripL_k0_t1 (F := Ideal) Variants.none c none i arg1 harg1 arg2 harg2 arg3 harg3 arg4 harg4 arg5 harg5 arg6 harg6 arg7 harg7 arg8 harg8 arg9 harg9 X1 k) y := by
  unfold tripL_k0_t1 trip_k0_t1
  dsimp only
  refine ⟨agree_cons (piece3 z 256 1 (128 * k.val) (k0_off3_eq k) (k0_off3_inb k) _ fun a b => ?_)
    (agree_cons (piece3 z 256 0 (128 * k.val) (k0_off2_eq k) (k0_off2_inb k) _ fun a b => ?_) (agree_nil _)), fun y h0 h2 h3 => ?_⟩
  · pointwise [k0_pay50]
    exact sel a.val 1 (128 * k.val) 256 b.val z _ _ (sge1 a) a.isLt (by omega)
      fun h => (ld_z arg1 z X1 h1 _ _ (k0_off1_eq k) _ _ _).trans (congrArg (fun n => z (128 * k.val + n) (256 + b.val)) (show (a.val + 128 - 1) % 128 = a.val - 1 by omega))
  · pointwise [k0_pay49]
    exact (ld_z arg1 z X1 h1 _ _ (k0_off1_eq k) _ a b).trans (if_pos (Nat.zero_le _)).symm
  · by_cases hy : (y 0).val = 1
    · exact hit_head (hit3 1 (128 * k.val) (k0_off3_eq k) (k0_off3_inb k) y hy h2 h3)
    · exact hit_tail (hit_head (hit3 0 (128 * k.val) (k0_off2_eq k) (k0_off2_inb k) y (by omega) h2 h3))

theorem t3_trip (k : Fin k0_t3_loop.trips) :
    Agree (slabs z 512) (tripL_k0_t3 (F := Ideal) Variants.none c none i arg1 harg1 arg2 harg2 arg3 harg3 arg4 harg4 arg5 harg5 arg6 harg6 arg7 harg7 arg8 harg8 arg9 harg9 X1 k) ∧
    ∀ y : S3x2048x256.Idx, (y 0).val < 3 → 128 * k.val ≤ (y 1).val → (y 1).val < 128 * k.val + 128 →
      Hit (tripL_k0_t3 (F := Ideal) Variants.none c none i arg1 harg1 arg2 harg2 arg3 harg3 arg4 harg4 arg5 harg5 arg6 harg6 arg7 harg7 arg8 harg8 arg9 harg9 X1 k) y := by
  unfold tripL_k0_t3 trip_k0_t3
  dsimp only
  refine ⟨agree_cons ?_ (agree_cons ?_ (agree_cons ?_ (agree_nil _))), fun y h0 h2 h3 => ?_⟩
  · refine piece3 z 512 2 (128 * k.val) (k0_off11_eq k) (k0_off11_inb k) _ fun a b => ?_
    pointwise [k0_pay54]
    exact sel a.val 2 (128 * k.val) 512 b.val z _ _ (sge2 a) a.isLt (by omega)
      fun h => (ld_z arg1 z X1 h1 _ _ (k0_off8_eq k) _ _ _).trans (congrArg (fun n => z (128 * k.val + n) (512 + b.val)) (show (a.val + 128 - 2) % 128 = a.val - 2 by omega))
  · refine piece3 z 512 1 (128 * k.val) (k0_off10_eq k) (k0_off10_inb k) _ fun a b => ?_
    pointwise [k0_pay53]
    exact sel a.val 1 (128 * k.val) 512 b.val z _ _ (sge1 a) a.isLt (by omega)
      fun h => (ld_z arg1 z X1 h1 _ _ (k0_off8_eq k) _ _ _).trans (congrArg (fun n => z (128 * k.val + n) (512 + b.val)) (show (a.val + 128 - 1) % 128 = a.val - 1 by omega))
  · refine piece3 z 512 0 (128 * k.val) (k0_off9_eq k) (k0_off9_inb k) _ fun a b => ?_
    pointwise [k0_pay52]
    exact (ld_z arg1 z X1 h1 _ _ (k0_off8_eq k) _ a b).trans (if_pos (Nat.zero_le _)).symm
  · by_cases hy : (y 0).val = 2
    · exact hit_head (hit3 2 (128 * k.val) (k0_off11_eq k) (k0_off11_inb k) y hy h2 h3)
    · by_cases hy : (y 0).val = 1
      · exact hit_tail (hit_head (hit3 1 (128 * k.val) (k0_off10_eq k) (k0_off10_inb k) y hy h2 h3))
      · exact hit_tail (hit_tail (hit_head (hit3 0 (128 * k.val) (k0_off9_eq k) (k0_off9_inb k) y (by omega) h2 h3)))

theorem t1_all : ∀ n ≤ 16, Agree (slabs z 256) (pb_k0_t1 (F := Ideal) Variants.none c none i arg1 harg1 arg2 harg2 arg3 harg3 arg4 harg4 arg5 harg5 arg6 harg6 arg7 harg7 arg8 harg8 arg9 harg9 X1 n) ∧
    ∀ y : S3x2048x256.Idx, (y 0).val < 2 → (y 1).val < 128 * n → Hit (pb_k0_t1 (F := Ideal) Variants.none c none i arg1 harg1 arg2 harg2 arg3 harg3 arg4 harg4 arg5 harg5 arg6 harg6 arg7 harg7 arg8 harg8 arg9 harg9 X1 n) y
  | 0, _ => ⟨agree_nil _, fun y _ h => absurd h (by omega)⟩
  | n + 1, hn => by
    have hk : n < k0_t1_loop.trips := by rw [t1_trips]; omega
    have ih := t1_all n (by omega)
    have ht := t1_trip c i arg1 harg1 arg2 harg2 arg3 harg3 arg4 harg4 arg5 harg5 arg6 harg6 arg7 harg7 arg8 harg8 arg9 harg9 X1 z h1 ⟨n, hk⟩
    have e := pb_k0_t1_succ (F := Ideal) Variants.none c none i arg1 harg1 arg2 harg2 arg3 harg3 arg4 harg4 arg5 harg5 arg6 harg6 arg7 harg7 arg8 harg8 arg9 harg9 X1 ⟨n, hk⟩
    dsimp only at e
    rw [e]
    refine ⟨agree_append ht.1 ih.1, fun y h0 h2 => ?_⟩
    by_cases hy : (y 1).val < 128 * n
    · exact hit_right (ih.2 y h0 hy)
    · exact hit_left (ht.2 y h0 (by show 128 * n ≤ (y 1).val; omega) (by show (y 1).val < 128 * n + 128; omega))

theorem t3_all : ∀ n ≤ 16, Agree (slabs z 512) (pb_k0_t3 (F := Ideal) Variants.none c none i arg1 harg1 arg2 harg2 arg3 harg3 arg4 harg4 arg5 harg5 arg6 harg6 arg7 harg7 arg8 harg8 arg9 harg9 X1 n) ∧
    ∀ y : S3x2048x256.Idx, (y 0).val < 3 → (y 1).val < 128 * n → Hit (pb_k0_t3 (F := Ideal) Variants.none c none i arg1 harg1 arg2 harg2 arg3 harg3 arg4 harg4 arg5 harg5 arg6 harg6 arg7 harg7 arg8 harg8 arg9 harg9 X1 n) y
  | 0, _ => ⟨agree_nil _, fun y _ h => absurd h (by omega)⟩
  | n + 1, hn => by
    have hk : n < k0_t3_loop.trips := by rw [t3_trips]; omega
    have ih := t3_all n (by omega)
    have ht := t3_trip c i arg1 harg1 arg2 harg2 arg3 harg3 arg4 harg4 arg5 harg5 arg6 harg6 arg7 harg7 arg8 harg8 arg9 harg9 X1 z h1 ⟨n, hk⟩
    have e := pb_k0_t3_succ (F := Ideal) Variants.none c none i arg1 harg1 arg2 harg2 arg3 harg3 arg4 harg4 arg5 harg5 arg6 harg6 arg7 harg7 arg8 harg8 arg9 harg9 X1 ⟨n, hk⟩
    dsimp only at e
    rw [e]
    refine ⟨agree_append ht.1 ih.1, fun y h0 h2 => ?_⟩
    by_cases hy : (y 1).val < 128 * n
    · exact hit_right (ih.2 y h0 hy)
    · exact hit_left (ht.2 y h0 (by show 128 * n ≤ (y 1).val; omega) (by show (y 1).val < 128 * n + 128; omega))

/-- After the first loop the scratch holds the shifted copies for the gated convolution. -/
theorem slabs1 (X8 : BufTy.Contents (Elt Ideal) arg8.view.ty) (x : S3x2048x256.Idx) (hx : (x 0).val < 2) :
    arg8.view.read (Elt Ideal) (arg8.view.writes (Elt Ideal) X8 (pb_k0_t1 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32))) x = slabs z 256 x := by
  have h := t1_all c i arg1 harg1 arg2 harg2 arg3 harg3 arg4 harg4 arg5 harg5 arg6 harg6 arg7 harg7 arg8 harg8 arg9 harg9 X1 z h1 16 (le_refl _)
  exact View.read_writes_apply_of_pieces _ _ (slabs z 256) _ h.1 x (h.2 x hx (x 1).isLt)

/-- After the third loop it holds those for the other convolution. -/
theorem slabs3 (X8 : BufTy.Contents (Elt Ideal) arg8.view.ty) (x : S3x2048x256.Idx) (hx : (x 0).val < 3) :
    arg8.view.read (Elt Ideal) (arg8.view.writes (Elt Ideal) X8 (pb_k0_t3 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32) ++ pb_k0_t1 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32))) x = slabs z 512 x := by
  have h := t3_all c i arg1 harg1 arg2 harg2 arg3 harg3 arg4 harg4 arg5 harg5 arg6 harg6 arg7 harg7 arg8 harg8 arg9 harg9 X1 z h1 16 (le_refl _)
  rw [View.writes_append]
  exact View.read_writes_apply_of_pieces _ _ (slabs z 512) _ h.1 x (h.2 x hx (x 1).isLt)
end

end Cert.KernelIdeal.Hand
end
-- ==== Proof.ConvVal.lean ====
module

public import proofs.«01_k».proof.Proof.ConvSlab

@[expose] public section

set_option maxRecDepth 16384

noncomputable section

namespace Cert.KernelIdeal.Hand

open Cert.KernelIdeal Cert.KernelIdeal.Gen
open Idealize.ShloMosaic Idealize.ShloMosaic.TcCoe

/-- The second convolution with its bias, before the norm: place `p` of class `q`. -/
def pre (z cw cb : ℕ → ℕ → EReal) (q p ch : ℕ) : EReal := acc (fun s => cw (30 - s) ch) (tap z 512 q p ch) 30 + cb 0 ch

/-- The rows of the second convolution, class by class. -/
def preV (z cw cb : ℕ → ℕ → EReal) : Vec Ideal S2048x256 .f32 := fun x => pre z cw cb ((x 0).val / 128) ((x 0).val % 128) (x 1).val

/-- The gated convolution at row `n`. -/
def gated (z gw : ℕ → ℕ → EReal) (n ch : ℕ) : EReal := z n ch * acc (fun s => gw (2 - s) ch) (tap z 256 (n / 128) (n % 128) ch) 2

/-- What the body leaves in its output block. -/
def outV (z gw cw cb lg lb : ℕ → ℕ → EReal) : Vec Ideal S2048x512 .bf16 := fun x =>
  if h : (x 1).val < 256 then gated z gw (x 0).val (x 1).val
  else lnsilu (fun e => pre z cw cb ((x 0).val / 128) ((x 0).val % 128) e.val) (lg 0 ((x 1).val - 256)) (lb 0 ((x 1).val - 256))
    ⟨(x 1).val - 256, by have h1 : (x 1).val < 512 := (x 1).isLt; omega⟩

theorem off4_eq : ∀ k : Fin k0_t2_loop.trips, k0_off4 k = ![0, 64 * k.val, 0] := by decide +kernel
theorem off5_eq : ∀ k : Fin k0_t2_loop.trips, ∀ s < 3, k0_off5 k (BitVec.ofNat 32 s) (BitVec.ofNat 32 s)
    = ![if k.val / 2 < s then 1 else 0, (k.val / 2 + 16 * (if k.val / 2 < s then 1 else 0) - s) * 128 + 64 * (k.val % 2), 0] := by
  decide +kernel
theorem off6_eq : ∀ k : Fin k0_t2_loop.trips, k0_off6 k = ![64 * k.val, 0] := by decide +kernel
theorem off7_eq : ∀ k : Fin k0_t2_loop.trips, k0_off7 k = ![64 * k.val, 0] := by decide +kernel

theorem piece2 {N M R C : ℕ} {e : EltTy} {off : Fin 2 → ℕ} (G : Vec Ideal ⟨2, ![N, M]⟩ e) (r o : ℕ) (hoff : off = ![r, o])
    (inb : ∀ a, off a + (![R, C] : Fin 2 → ℕ) a ≤ (⟨2, ![N, M]⟩ : Shape).size a) (w : Vec Ideal ⟨2, ![R, C]⟩ e)
    (hw : ∀ (a : Fin R) (b : Fin C) (y : (⟨2, ![N, M]⟩ : Shape).Idx), (y 0).val = r + a.val → (y 1).val = o + b.val → w (ix2 a b) = G y) :
    ∀ x, w x = G ((Rect.unit (s := ⟨2, ![N, M]⟩) off ![R, C] inb).emb x) := by
  subst hoff
  intro x
  have hx : x = (ix2 (x 0 : Fin R) (x 1 : Fin C) : (⟨2, ![R, C]⟩ : Shape).Idx) := by
    funext j
    match j with
    | 0 => rfl
    | 1 => rfl
  refine (congrArg w hx).trans (hw (x 0) (x 1) _ ?_ ?_)
  · show r + 1 * (x 0).val = r + (x 0).val
    rw [Nat.one_mul]
  · show o + 1 * (x 1).val = o + (x 1).val
    rw [Nat.one_mul]

theorem hit2 {N M R C : ℕ} {off : Fin 2 → ℕ} (r o : ℕ) (hoff : off = ![r, o])
    (inb : ∀ a, off a + (![R, C] : Fin 2 → ℕ) a ≤ (⟨2, ![N, M]⟩ : Shape).size a) (y : (⟨2, ![N, M]⟩ : Shape).Idx)
    (h0 : r ≤ (y 0).val) (h1 : (y 0).val < r + R) (h2 : o ≤ (y 1).val) (h3 : (y 1).val < o + C) :
    y ∈ (Rect.unit (s := ⟨2, ![N, M]⟩) off ![R, C] inb).set := by
  subst hoff
  rw [Rect.mem_set_unit]
  intro a
  match a with
  | 0 => exact ⟨h0, h1⟩
  | 1 => exact ⟨h2, h3⟩

theorem preV_at (z cw cb : ℕ → ℕ → EReal) (q p : ℕ) (hp : p < 128) (b : ℕ) (y : S2048x256.Idx) (h0 : (y 0).val = 128 * q + p)
    (h1 : (y 1).val = b) : preV z cw cb y = pre z cw cb q p b := by
  unfold preV
  rw [h0, h1, show (128 * q + p) / 128 = q by omega, show (128 * q + p) % 128 = p by omega]

theorem outV_left (z gw cw cb lg lb : ℕ → ℕ → EReal) (n b : ℕ) (hb : b < 256) (y : S2048x512.Idx) (h0 : (y 0).val = n) (h1 : (y 1).val = b) :
    outV z gw cw cb lg lb y = gated z gw n b := by
  subst h0 h1
  unfold outV
  rw [dif_pos hb]

theorem outV_right (z gw cw cb lg lb : ℕ → ℕ → EReal) (q p : ℕ) (hp : p < 128) (b : Fin 256) (y : S2048x512.Idx)
    (h0 : (y 0).val = 128 * q + p) (h1 : (y 1).val = 256 + b.val) :
    outV z gw cw cb lg lb y = lnsilu (fun e => pre z cw cb q p e.val) (lg 0 b.val) (lb 0 b.val) b := by
  have hd : (y 0).val / 128 = q := by omega
  have hm : (y 0).val % 128 = p := by omega
  have hb : (y 1).val - 256 = b.val := by omega
  unfold outV
  rw [dif_neg (by omega)]
  have hf : (⟨(y 1).val - 256, by omega⟩ : Fin 256) = b := Fin.ext hb
  rw [hf, hd, hm, hb]

theorem ld_pre {off : Fin 2 → ℕ} (m : Memref sig .tc .vmem S2048x256 .f32) (z cw cb : ℕ → ℕ → EReal) (f : BufTy.Contents (Elt Ideal) m.view.ty)
    (q : ℕ) (hf : ∀ y : S2048x256.Idx, 128 * q ≤ (y 0).val → (y 0).val < 128 * q + 128 → m.view.read (Elt Ideal) f y = preV z cw cb y)
    (hoff : off = ![128 * q, 0]) (h : ∀ a, off a + (![128, 256] : Fin 2 → ℕ) a ≤ S2048x256.size a) (a : Fin 128) (b : Fin 256) :
    m.view.readAt (Elt Ideal) (Rect.unit (s := S2048x256) off ![128, 256] h).toLoadRect f (ix2 a b) = pre z cw cb q a.val b.val := by
  subst hoff
  have e0 : ((Rect.unit (s := S2048x256) ![128 * q, 0] ![128, 256] h).toLoadRect.idx (ix2 a b) 0).val = 128 * q + a.val := by simp
  have e1 : ((Rect.unit (s := S2048x256) ![128 * q, 0] ![128, 256] h).toLoadRect.idx (ix2 a b) 1).val = b.val := by simp
  rw [View.readAt_apply, hf _ (by rw [e0]; omega) (by rw [e0]; omega)]
  exact preV_at z cw cb q a.val a.isLt b.val _ e0 e1

section
variable (c : Dev nD) (i : grid0.Coords) (arg1 : Memref sig .tc .vmem S2048x768 .f32) (harg1 : arg1.IsWhole) (arg2 : Memref sig .tc .vmem S3x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2048x512 .bf16) (harg7 : arg7.IsWhole) (arg8 : Memref sig .tc .vmem S3x2048x256 .f32) (harg8 : arg8.IsWhole) (arg9 : Memref sig .tc .vmem S2048x256 .f32) (harg9 : arg9.IsWhole)
  (X1 : BufTy.Contents (Elt Ideal) arg1.view.ty)
  (X2 : BufTy.Contents (Elt Ideal) arg2.view.ty)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X8 : BufTy.Contents (Elt Ideal) arg8.view.ty)
  (z gw cw cb lg lb : ℕ → ℕ → EReal)
  (h1 : ∀ x, arg1.view.read (Elt Ideal) X1 x = z (x 0).val (x 1).val)
  (h2 : ∀ x, arg2.view.read (Elt Ideal) X2 x = gw (x 0).val (x 1).val)
  (h3 : ∀ x, arg3.view.read (Elt Ideal) X3 x = cw (x 0).val (x 1).val)
  (h4 : ∀ x, arg4.view.read (Elt Ideal) X4 x = cb (x 0).val (x 1).val)
  (h5 : ∀ x, arg5.view.read (Elt Ideal) X5 x = lg (x 0).val (x 1).val)
  (h6 : ∀ x, arg6.view.read (Elt Ideal) X6 x = lb (x 0).val (x 1).val)

section
variable (hs : ∀ x, (x 0).val < 2 → arg8.view.read (Elt Ideal) X8 x = slabs z 256 x)
include hs

theorem t2_tap0 (k : Fin k0_t2_loop.trips) (i1) (a : Fin 64) (b : Fin 256) :
    View.readAt (Elt Ideal) arg8.view (Rect.unit (s := S3x2048x256) (k0_off4 k) S1x64x256.size i1).toLoadRect X8 (ix3 0 a b)
      = tap z 256 ((64 * k.val + a.val) / 128) ((64 * k.val + a.val) % 128) b.val 0 := by
  rw [ld_slab arg8 z 256 2 X8 hs _ _ (off4_eq k) i1 (by omega)]
  unfold tap
  rw [if_neg (by omega)]
  congr 1; omega

theorem t2_tap (s : ℕ) (hs0 : 0 < s) (hs3 : s < 3) (k : Fin k0_t2_loop.trips) (i1) (a : Fin 64) (b : Fin 256) :
    View.readAt (Elt Ideal) arg8.view (Rect.unit (s := S3x2048x256) (k0_off5 k (BitVec.ofNat 32 s) (BitVec.ofNat 32 s)) S1x64x256.size i1).toLoadRect X8 (ix3 0 a b)
      = tap z 256 ((64 * k.val + a.val) / 128) ((64 * k.val + a.val) % 128) b.val s := by
  rw [ld_slab arg8 z 256 2 X8 hs _ _ (off5_eq k s hs3) i1 (by split <;> omega)]
  unfold tap
  rw [show (64 * k.val + a.val) / 128 = k.val / 2 by omega, show s / 16 = 0 by omega, show s % 16 = s by omega, Nat.zero_add]
  congr 1; omega

include h1 h2
theorem t2_trip (k : Fin k0_t2_loop.trips) :
    Agree (outV z gw cw cb lg lb) (tripL_k0_t2 (F := Ideal) Variants.none c none i arg1 harg1 arg2 harg2 arg3 harg3 arg4 harg4 arg5 harg5 arg6 harg6 arg7 harg7 arg8 harg8 arg9 harg9 X1 X2 X8 k) ∧
    ∀ y : S2048x512.Idx, 64 * k.val ≤ (y 0).val → (y 0).val < 64 * k.val + 64 → (y 1).val < 256 → Hit (tripL_k0_t2 (F := Ideal) Variants.none c none i arg1 harg1 arg2 harg2 arg3 harg3 arg4 harg4 arg5 harg5 arg6 harg6 arg7 harg7 arg8 harg8 arg9 harg9 X1 X2 X8 k) y := by
  unfold tripL_k0_t2 trip_k0_t2
  dsimp only
  unfold trip_k0_t2.sl.r_2 trip_k0_t2.sl.r_1 trip_k0_t2.sl.r trip_k0_t2.sl.v1055
  refine ⟨agree_cons ?_ (agree_nil _), fun y h0 h1 h2 => hit_head (hit2 (64 * k.val) 0 (off7_eq k) (k0_off7_inb k) y h0 h1 (Nat.zero_le _) (by omega))⟩
  refine piece2 _ (64 * k.val) 0 (off7_eq k) (k0_off7_inb k) _ fun a b y hy0 hy1 => ?_
  rw [outV_left z gw cw cb lg lb _ b.val b.isLt y hy0 (by omega)]
  pointwise [k0_pay51, k0_pay3, k0_pay4, k0_pay5]
  unfold gated
  simp only [acc]
  refine congrArg₂ (· * ·) ((ld_z arg1 z X1 h1 _ _ (off6_eq k) _ a b).trans (by rw [Nat.zero_add])) ?_
  refine congrArg₂ (· + ·) (congrArg₂ (· + ·) (congrArg₂ (· * ·) (ld_row arg2 gw X2 h2 2 _ b) (t2_tap0 arg8 X8 z hs k _ a b))
    (congrArg₂ (· * ·) (ld_row arg2 gw X2 h2 1 _ b) (t2_tap arg8 X8 z hs 1 (by decide) (by decide) k _ a b)))
    (congrArg₂ (· * ·) (ld_row arg2 gw X2 h2 0 _ b) (t2_tap arg8 X8 z hs 2 (by decide) (by decide) k _ a b))

theorem t2_all : ∀ n ≤ 32, Agree (outV z gw cw cb lg lb) (pb_k0_t2 (F := Ideal) Variants.none c none i arg1 harg1 arg2 harg2 arg3 harg3 arg4 harg4 arg5 harg5 arg6 harg6 arg7 harg7 arg8 harg8 arg9 harg9 X1 X2 X8 n) ∧
    ∀ y : S2048x512.Idx, (y 0).val < 64 * n → (y 1).val < 256 → Hit (pb_k0_t2 (F := Ideal) Variants.none c none i arg1 harg1 arg2 harg2 arg3 harg3 arg4 harg4 arg5 harg5 arg6 harg6 arg7 harg7 arg8 harg8 arg9 harg9 X1 X2 X8 n) y
  | 0, _ => ⟨agree_nil _, fun y h => absurd h (by omega)⟩
  | n + 1, hn => by
    have hk : n < k0_t2_loop.trips := by rw [t2_trips]; omega
    have ih := t2_all n (by omega)
    have ht := t2_trip c i arg1 harg1 arg2 harg2 arg3 harg3 arg4 harg4 arg5 harg5 arg6 harg6 arg7 harg7 arg8 harg8 arg9 harg9 X1 X2 X8 z gw cw cb lg lb h1 h2 hs ⟨n, hk⟩
    have e := pb_k0_t2_succ (F := Ideal) Variants.none c none i arg1 harg1 arg2 harg2 arg3 harg3 arg4 harg4 arg5 harg5 arg6 harg6 arg7 harg7 arg8 harg8 arg9 harg9 X1 X2 X8 ⟨n, hk⟩
    dsimp only at e
    rw [e]
    refine ⟨agree_append ht.1 ih.1, fun y hy0 hy1 => ?_⟩
    by_cases hy : (y 0).val < 64 * n
    · exact hit_right (ih.2 y hy hy1)
    · exact hit_left (ht.2 y (by show 64 * n ≤ (y 0).val; omega) (by show (y 0).val < 64 * n + 64; omega) hy1)
end

section
variable (v494 : BitVec 32) (v943 : FVec Ideal S64x256 .f32)
  (hs : ∀ x, (x 0).val < 3 → arg8.view.read (Elt Ideal) X8 x = slabs z 512 x)
include h3 h4 h5 h6 hs

theorem t4_trip (k : Fin k0_t4_loop.trips) (f7 : BufTy.Contents (Elt Ideal) arg7.view.ty) (f9 : BufTy.Contents (Elt Ideal) arg9.view.ty)
    (h9 : ∀ y : S2048x256.Idx, 128 * k.val ≤ (y 0).val → (y 0).val < 128 * k.val + 128 → arg9.view.read (Elt Ideal) f9 y = preV z cw cb y) :
    (Agree (outV z gw cw cb lg lb) (tripL_k0_t4 (F := Ideal) Variants.none c none i arg1 harg1 arg2 harg2 arg3 harg3 arg4 harg4 arg5 harg5 arg6 harg6 arg7 harg7 arg8 harg8 arg9 harg9 v494 v943 X3 X4 X5 X6 X8 k f7 f9).1 ∧
    ∀ y : S2048x512.Idx, 128 * k.val ≤ (y 0).val → (y 0).val < 128 * k.val + 128 → 256 ≤ (y 1).val → Hit (tripL_k0_t4 (F := Ideal) Variants.none c none i arg1 harg1 arg2 harg2 arg3 harg3 arg4 harg4 arg5 harg5 arg6 harg6 arg7 harg7 arg8 harg8 arg9 harg9 v494 v943 X3 X4 X5 X6 X8 k f7 f9).1 y) ∧
    (Agree (preV z cw cb) (tripL_k0_t4 (F := Ideal) Variants.none c none i arg1 harg1 arg2 harg2 arg3 harg3 arg4 harg4 arg5 harg5 arg6 harg6 arg7 harg7 arg8 harg8 arg9 harg9 v494 v943 X3 X4 X5 X6 X8 k f7 f9).2 ∧
    ∀ y : S2048x256.Idx, 128 * (k.val + 1) ≤ (y 0).val → (y 0).val < 128 * (k.val + 1) + 128 → Hit (tripL_k0_t4 (F := Ideal) Variants.none c none i arg1 harg1 arg2 harg2 arg3 harg3 arg4 harg4 arg5 harg5 arg6 harg6 arg7 harg7 arg8 harg8 arg9 harg9 v494 v943 X3 X4 X5 X6 X8 k f7 f9).2 y) := by
  unfold tripL_k0_t4 trip_k0_t4
  dsimp only
  refine ⟨⟨agree_cons ?_ (agree_nil _), fun y hy0 hy1 hy2 => hit_head (hit2 (128 * k.val) 256 (k0_off14_eq k) (k0_off14_inb k) y hy0 hy1 hy2 (y 1).isLt)⟩,
    agree_cons ?_ (agree_cons ?_ (agree_nil _)), fun y hy0 hy1 => ?_⟩
  · refine piece2 _ (128 * k.val) 256 (k0_off14_eq k) (k0_off14_inb k) _ fun a b y hy0 hy1 => ?_
    rw [outV_right z gw cw cb lg lb k.val a.val a.isLt b y hy0 hy1]
    refine (n6 _ _ _ a b).trans ?_
    rw [ld_row arg5 lg X5 h5 0 _ b, ld_row arg6 lb X6 h6 0 _ b]
    exact congrArg (fun v => lnsilu v _ _ b) (funext fun e => ld_pre arg9 z cw cb f9 k.val h9 (k0_off13_eq k) _ a e)
  · refine piece2 _ (128 * k.val + 64 * 1 + 128) 0 (k0_off18_eq k 1) (k0_off18_inb k 1) _ fun a b y hy0 hy1 => ?_
    rw [preV_at z cw cb (k.val + 1) (64 * 1 + a.val) (by omega) b.val y (by omega) (by omega)]
    exact tile1 arg3 arg4 arg8 X3 X4 X8 k z cw cb h3 h4 hs a b _ _
  · refine piece2 _ (128 * k.val + 64 * 0 + 128) 0 (k0_off18_eq k 0) (k0_off18_inb k 0) _ fun a b y hy0 hy1 => ?_
    rw [preV_at z cw cb (k.val + 1) (64 * 0 + a.val) (by omega) b.val y (by omega) (by omega)]
    exact tile0 arg3 arg4 arg8 X3 X4 X8 k z cw cb h3 h4 hs a b _ _ _ _
  · by_cases hy : 128 * k.val + 64 * 1 + 128 ≤ (y 0).val
    · exact hit_head (hit2 (128 * k.val + 64 * 1 + 128) 0 (k0_off18_eq k 1) (k0_off18_inb k 1) y hy (by omega) (Nat.zero_le _) (by have : (y 1).val < 256 := (y 1).isLt; omega))
    · exact hit_tail (hit_head (hit2 (128 * k.val + 64 * 0 + 128) 0 (k0_off18_eq k 0) (k0_off18_inb k 0) y (by omega) (by omega) (Nat.zero_le _) (by have : (y 1).val < 256 := (y 1).isLt; omega)))

theorem t4_all (G7 : BufTy.Contents (Elt Ideal) arg7.view.ty) (X9 : BufTy.Contents (Elt Ideal) arg9.view.ty)
    (L9 : List (View.Piece (Elt Ideal) S2048x256 .f32)) (hA : Agree (preV z cw cb) L9) (hH : ∀ y : S2048x256.Idx, (y 0).val < 128 → Hit L9 y) :
    ∀ n ≤ 15, (Agree (outV z gw cw cb lg lb) (pb_k0_t4 (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) n).1 ∧
      ∀ y : S2048x512.Idx, (y 0).val < 128 * n → 256 ≤ (y 1).val → Hit (pb_k0_t4 (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) n).1 y) ∧
    (Agree (preV z cw cb) ((pb_k0_t4 (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) n).2 ++ L9) ∧
      ∀ y : S2048x256.Idx, (y 0).val < 128 * (n + 1) → Hit ((pb_k0_t4 (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) n).2 ++ L9) y)
  | 0, _ => ⟨⟨agree_nil _, fun y h => absurd h (by omega)⟩, hA, fun y h => hH y (by omega)⟩
  | n + 1, hn => by
    have hk : n < k0_t4_loop.trips := by rw [t4_trips]; omega
    have ih := t4_all G7 X9 L9 hA hH n (by omega)
    have ht := t4_trip c i arg1 harg1 arg2 harg2 arg3 harg3 arg4 harg4 arg5 harg5 arg6 harg6 arg7 harg7 arg8 harg8 arg9 harg9 X3 X4 X5 X6 X8 z gw cw cb lg lb h3 h4 h5 h6 v494 v943 hs ⟨n, hk⟩ (arg7.view.writes (Elt Ideal) G7 (pb_k0_t4 (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) n).1)
      (arg9.view.writes (Elt Ideal) (arg9.view.writes (Elt Ideal) X9 L9) (pb_k0_t4 (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) n).2) fun y hy0 hy1 => by
        rw [← View.writes_append]
        exact View.read_writes_apply_of_pieces _ _ (preV z cw cb) _ ih.2.1 y (ih.2.2 y (by have : (y 0).val < 128 * n + 128 := hy1; omega))
    have e := pb_k0_t4_succ (F := Ideal) Variants.none c none i arg1 harg1 arg2 harg2 arg3 harg3 arg4 harg4 arg5 harg5 arg6 harg6 arg7 harg7 arg8 harg8 arg9 harg9 v494 v943 X3 X4 X5 X6 X8 G7 (arg9.view.writes (Elt Ideal) X9 L9) ⟨n, hk⟩
    dsimp only at e
    rw [e]
    refine ⟨⟨agree_append ht.1.1 ih.1.1, fun y hy0 hy1 => ?_⟩, ?_, fun y hy0 => ?_⟩
    · by_cases hy : (y 0).val < 128 * n
      · exact hit_right (ih.1.2 y hy hy1)
      · exact hit_left (ht.1.2 y (by show 128 * n ≤ (y 0).val; omega) (by show (y 0).val < 128 * n + 128; omega) hy1)
    · rw [List.append_assoc]
      exact agree_append ht.2.1 ih.2.1
    · rw [List.append_assoc]
      by_cases hy : (y 0).val < 128 * (n + 1)
      · exact hit_right (ih.2.2 y hy)
      · exact hit_left (ht.2.2 y (by show 128 * (n + 1) ≤ (y 0).val; omega) (by show (y 0).val < 128 * (n + 1) + 128; omega))
end
end

end Cert.KernelIdeal.Hand
end
-- ==== Proof.ConvOut.lean ====
module

public import proofs.«01_k».proof.Proof.ConvVal

@[expose] public section

set_option maxRecDepth 16384

noncomputable section

namespace Cert.KernelIdeal.Hand

open Cert.KernelIdeal Cert.KernelIdeal.Gen
open Idealize.ShloMosaic Idealize.ShloMosaic.TcCoe

section
variable (c : Dev nD) (i : grid0.Coords) (arg1 : Memref sig .tc .vmem S2048x768 .f32) (harg1 : arg1.IsWhole) (arg2 : Memref sig .tc .vmem S3x256 .f32) (harg2 : arg2.IsWhole) (arg3 : Memref sig .tc .vmem S31x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2048x512 .bf16) (harg7 : arg7.IsWhole) (arg8 : Memref sig .tc .vmem S3x2048x256 .f32) (harg8 : arg8.IsWhole) (arg9 : Memref sig .tc .vmem S2048x256 .f32) (harg9 : arg9.IsWhole)
  (X1 : BufTy.Contents (Elt Ideal) arg1.view.ty)
  (X2 : BufTy.Contents (Elt Ideal) arg2.view.ty)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (z gw cw cb lg lb : ℕ → ℕ → EReal)
  (h1 : ∀ x, arg1.view.read (Elt Ideal) X1 x = z (x 0).val (x 1).val)
  (h2 : ∀ x, arg2.view.read (Elt Ideal) X2 x = gw (x 0).val (x 1).val)
  (h3 : ∀ x, arg3.view.read (Elt Ideal) X3 x = cw (x 0).val (x 1).val)
  (h4 : ∀ x, arg4.view.read (Elt Ideal) X4 x = cb (x 0).val (x 1).val)
  (h5 : ∀ x, arg5.view.read (Elt Ideal) X5 x = lg (x 0).val (x 1).val)
  (h6 : ∀ x, arg6.view.read (Elt Ideal) X6 x = lb (x 0).val (x 1).val)
include h1 h2 h3 h4 h5 h6

/-- One run of the body leaves `outV` in its output block. -/
theorem body_val (f7 : BufTy.Contents (Elt Ideal) arg7.view.ty) (X8 : BufTy.Contents (Elt Ideal) arg8.view.ty)
    (f9 : BufTy.Contents (Elt Ideal) arg9.view.ty) (y : S2048x512.Idx) :
    arg7.view.read (Elt Ideal) (arg7.view.writes (Elt Ideal) f7 ((bodyRun (F := Ideal) c i arg1 harg1 arg2 harg2 arg3 harg3 arg4 harg4 arg5 harg5 arg6 harg6 arg7 harg7 arg8 harg8 arg9 harg9 X1 X2 X3 X4 X5 X6).1 f7 X8 f9)) y
      = outV z gw cw cb lg lb y := by
  have hs1 := slabs1 c i arg1 harg1 arg2 harg2 arg3 harg3 arg4 harg4 arg5 harg5 arg6 harg6 arg7 harg7 arg8 harg8 arg9 harg9 X1 z h1 X8
  have hs3 := slabs3 c i arg1 harg1 arg2 harg2 arg3 harg3 arg4 harg4 arg5 harg5 arg6 harg6 arg7 harg7 arg8 harg8 arg9 harg9 X1 z h1 X8
  have t2 := t2_all c i arg1 harg1 arg2 harg2 arg3 harg3 arg4 harg4 arg5 harg5 arg6 harg6 arg7 harg7 arg8 harg8 arg9 harg9 X1 X2 (arg8.view.writes (Elt Ideal) X8 (pb_k0_t1 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32))) z gw cw cb lg lb h1 h2 hs1 32 (le_refl _)
  unfold bodyRun
  dsimp only
  have hA : Agree (preV z cw cb) ([⟨Rect.unit (s := S2048x256) ![64, 0] ![64, 256] (by decide), k0_pay92 (F := Ideal) (bodyRun.sl.r_37 c i arg1 harg1 arg2 harg2 arg3 harg3 arg4 harg4 arg5 harg5 arg6 harg6 arg7 harg7 arg8 harg8 arg9 harg9 X1 X3 X8) (bodyRun.sl.v953 c i arg1 harg1 arg2 harg2 arg3 harg3 arg4 harg4 arg5 harg5 arg6 harg6 arg7 harg7 arg8 harg8 arg9 harg9 X1 X8) (View.readAt (Elt Ideal) arg3.view (Rect.unit (s := S31x256) ![1, 0] S1x256.size (by decide)).toLoadRect X3) (bodyRun.sl.v969 c i arg1 harg1 arg2 harg2 arg3 harg3 arg4 harg4 arg5 harg5 arg6 harg6 arg7 harg7 arg8 harg8 arg9 harg9 X1 X8) (View.readAt (Elt Ideal) arg3.view (Rect.unit (s := S31x256) ![0, 0] S1x256.size (by decide)).toLoadRect X3) (View.readAt (Elt Ideal) arg4.view (Rect.unit (s := S1x256) ![0, 0] S1x256.size (by decide)).toLoadRect X4)⟩,
      ⟨Rect.unit (s := S2048x256) ![0, 0] ![64, 256] (by decide), k0_pay74 (F := Ideal) (bodyRun.sl.r_19 c i arg1 harg1 arg2 harg2 arg3 harg3 arg4 harg4 arg5 harg5 arg6 harg6 arg7 harg7 arg8 harg8 arg9 harg9 X1 X3 X4 X8)⟩] : List (View.Piece (Elt Ideal) S2048x256 .f32)) := by
    refine agree_cons ?_ (agree_cons ?_ (agree_nil _))
    · refine piece2 _ 64 0 rfl (by decide) _ fun a b y hy0 hy1 => ?_
      rw [preV_at z cw cb 0 (64 * 1 + a.val) (by omega) b.val y (by omega) (by omega)]
      exact body1 c i arg1 harg1 arg2 harg2 arg3 harg3 arg4 harg4 arg5 harg5 arg6 harg6 arg7 harg7 arg8 harg8 arg9 harg9 X1 X3 X4 X8 z cw cb h3 h4 hs3 a b _ _ _
    · refine piece2 _ 0 0 rfl (by decide) _ fun a b y hy0 hy1 => ?_
      rw [preV_at z cw cb 0 (64 * 0 + a.val) (by omega) b.val y (by omega) (by omega)]
      exact body0 c i arg1 harg1 arg2 harg2 arg3 harg3 arg4 harg4 arg5 harg5 arg6 harg6 arg7 harg7 arg8 harg8 arg9 harg9 X1 X3 X4 X8 z cw cb h3 h4 hs3 a b
  have hH : ∀ y : S2048x256.Idx, (y 0).val < 128 → Hit ([⟨Rect.unit (s := S2048x256) ![64, 0] ![64, 256] (by decide), k0_pay92 (F := Ideal) (bodyRun.sl.r_37 c i arg1 harg1 arg2 harg2 arg3 harg3 arg4 harg4 arg5 harg5 arg6 harg6 arg7 harg7 arg8 harg8 arg9 harg9 X1 X3 X8) (bodyRun.sl.v953 c i arg1 harg1 arg2 harg2 arg3 harg3 arg4 harg4 arg5 harg5 arg6 harg6 arg7 harg7 arg8 harg8 arg9 harg9 X1 X8) (View.readAt (Elt Ideal) arg3.view (Rect.unit (s := S31x256) ![1, 0] S1x256.size (by decide)).toLoadRect X3) (bodyRun.sl.v969 c i arg1 harg1 arg2 harg2 arg3 harg3 arg4 harg4 arg5 harg5 arg6 harg6 arg7 harg7 arg8 harg8 arg9 harg9 X1 X8) (View.readAt (Elt Ideal) arg3.view (Rect.unit (s := S31x256) ![0, 0] S1x256.size (by decide)).toLoadRect X3) (View.readAt (Elt Ideal) arg4.view (Rect.unit (s := S1x256) ![0, 0] S1x256.size (by decide)).toLoadRect X4)⟩,
      ⟨Rect.unit (s := S2048x256) ![0, 0] ![64, 256] (by decide), k0_pay74 (F := Ideal) (bodyRun.sl.r_19 c i arg1 harg1 arg2 harg2 arg3 harg3 arg4 harg4 arg5 harg5 arg6 harg6 arg7 harg7 arg8 harg8 arg9 harg9 X1 X3 X4 X8)⟩] : List (View.Piece (Elt Ideal) S2048x256 .f32)) y := fun y hy => by
    have hy1 : (y 1).val < 256 := (y 1).isLt
    by_cases h : 64 ≤ (y 0).val
    · exact hit_head (hit2 64 0 rfl (by decide) y h (by omega) (Nat.zero_le _) (by omega))
    · exact hit_tail (hit_head (hit2 0 0 rfl (by decide) y (Nat.zero_le _) (by omega) (Nat.zero_le _) (by omega)))
  have t4 := fun v494 v943 G7 => t4_all c i arg1 harg1 arg2 harg2 arg3 harg3 arg4 harg4 arg5 harg5 arg6 harg6 arg7 harg7 arg8 harg8 arg9 harg9 X3 X4 X5 X6 (arg8.view.writes (Elt Ideal) X8 (pb_k0_t3 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32) ++ pb_k0_t1 (F := Ideal) Variants.none c none i arg1 harg1 arg2 harg2 arg3 harg3 arg4 harg4 arg5 harg5 arg6 harg6 arg7 harg7 arg8 harg8 arg9 harg9 X1 (Scf.trips 0#32 (Scalar.addi 0#32 16#32) 1#32))) z gw cw cb lg lb h3 h4 h5 h6 v494 v943 hs3 G7 f9 _ hA hH 15 (le_refl _)
  refine View.read_writes_apply_of_pieces _ _ (outV z gw cw cb lg lb) _ (agree_cons ?_ (agree_append (t4 _ _ _).1.1 t2.1)) y ?_
  · refine piece2 _ 1920 256 rfl (by decide) _ fun a b y hy0 hy1 => ?_
    rw [outV_right z gw cw cb lg lb 15 a.val a.isLt b y (by omega) hy1]
    unfold bodyRun.sl.r_38 bodyRun.sl.v987
    refine (n94 _ _ _ a b).trans ?_
    rw [ld_row arg5 lg X5 h5 0 _ b, ld_row arg6 lb X6 h6 0 _ b]
    refine congrArg (fun v => lnsilu v _ _ b) (funext fun e => ld_pre arg9 z cw cb _ 15 (fun y hy0 hy1 => ?_) rfl _ a e)
    refine View.read_writes_apply_of_pieces _ _ (preV z cw cb) _ ?_ y ?_
    · exact (t4 _ _ _).2.1
    · exact (t4 _ _ _).2.2 y (y 0).isLt
  · have hy0 : (y 0).val < 2048 := (y 0).isLt
    have hy1 : (y 1).val < 512 := (y 1).isLt
    by_cases h : (y 1).val < 256
    · exact hit_tail (hit_right (t2.2 y hy0 h))
    · by_cases h' : (y 0).val < 128 * 15
      · exact hit_tail (hit_left ((t4 _ _ _).1.2 y h' (by omega)))
      · exact hit_head (hit2 1920 256 rfl (by decide) y (by omega) hy0 (by omega) hy1)
end

end Cert.KernelIdeal.Hand
end
-- ==== Proof.ConvRes.lean ====
module

public import proofs.«01_k».proof.Proof.ConvOut
public import proofs.«01_k».proof.Proof.ConvFrame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-- A matrix as a function of two naturals, zero outside. -/
def at2 {N M : ℕ} (A : FVec Ideal ⟨2, ![N, M]⟩ .f32) (a b : ℕ) : EReal :=
  if h : a < N ∧ b < M then A (ix2 ⟨a, h.1⟩ ⟨b, h.2⟩) else 0
/-- The first matrix of a stack as a function of two naturals, zero outside. -/
def at3 {K N M : ℕ} (A : FVec Ideal ⟨3, ![K + 1, N, M]⟩ .f32) (a b : ℕ) : EReal :=
  if h : a < N ∧ b < M then A (ix3 0 ⟨a, h.1⟩ ⟨b, h.2⟩) else 0

theorem at2_of {N M : ℕ} (A : FVec Ideal ⟨2, ![N, M]⟩ .f32) (a b : ℕ) (ha : a < N) (hb : b < M) :
    at2 A a b = A (ix2 ⟨a, ha⟩ ⟨b, hb⟩) := dif_pos ⟨ha, hb⟩
theorem at3_of {K N M : ℕ} (A : FVec Ideal ⟨3, ![K + 1, N, M]⟩ .f32) (a b : ℕ) (ha : a < N) (hb : b < M) :
    at3 A a b = A (ix3 0 ⟨a, ha⟩ ⟨b, hb⟩) := dif_pos ⟨ha, hb⟩

/-- One sequence's result from the whole arrays: sequence `t`, layer 0 of the weights. -/
def seqV (A0 : FVec Ideal S32768x768 .f32) (A1 : FVec Ideal S2x3x256 .f32) (A2 : FVec Ideal S2x31x256 .f32)
    (A3 A4 A5 : FVec Ideal S2x256 .f32) (t : ℕ) : Vec Ideal S2048x512 .bf16 :=
  outV (fun n ch => at2 A0 (t * 2048 + n) ch) (at3 (K := 1) (N := 3) (M := 256) A1) (at3 (K := 1) (N := 31) (M := 256) A2) (at2 A3) (at2 A4) (at2 A5)

/-- The whole result. -/
def G (A0 : FVec Ideal S32768x768 .f32) (A1 : FVec Ideal S2x3x256 .f32) (A2 : FVec Ideal S2x31x256 .f32)
    (A3 A4 A5 : FVec Ideal S2x256 .f32) : Vec Ideal S32768x512 .bf16 := fun j =>
  seqV A0 A1 A2 A3 A4 A5 ((j 0).val / 2048) (ix2 ⟨(j 0).val % 2048, Nat.mod_lt _ (by decide)⟩ (j 1))

/-- The whole result at row `t * 2048 + r` is sequence `t`'s at row `r`. -/
theorem G_at (A0 : FVec Ideal S32768x768 .f32) (A1 : FVec Ideal S2x3x256 .f32) (A2 : FVec Ideal S2x31x256 .f32)
    (A3 A4 A5 : FVec Ideal S2x256 .f32) (t : ℕ) (y : S2048x512.Idx) (j : S32768x512.Idx)
    (h0 : (j 0).val = t * 2048 + (y 0).val) (h1 : (j 1).val = (y 1).val) :
    seqV A0 A1 A2 A3 A4 A5 t y = G A0 A1 A2 A3 A4 A5 j := by
  have hy : (y 0).val < 2048 := (y 0).isLt
  have hd : (j 0).val / 2048 = t := by omega
  have hm : (j 0).val % 2048 = (y 0).val := by omega
  unfold G
  rw [hd]
  refine congrArg _ ((eq_ix2 y).trans ((ix2_inj ..).2 ⟨Fin.ext ?_, Fin.ext ?_⟩))
  · exact hm.symm
  · exact h1.symm

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![t.val, 0] :=
  (by decide +kernel : ∀ t : Fin grid0.N, _)

theorem blk0 (c : Dev nD) (t : Fin cfg0.N) (r : Fin 2048) (k : Fin 768) :
    iblk m c 0 t (ix2 r k) = m ((c : Thread nD τ).loc main_arg0)
      (ix2 (⟨t.val * 2048 + r.val, by have : t.val < 16 := t.isLt; omega⟩ : Fin 32768) k) := by
  blk_point [iblk, V, idx t]
theorem blk1 (c : Dev nD) (t : Fin cfg0.N) (r : Fin 3) (k : Fin 256) :
    iblk m c 1 t (ix2 r k) = m ((c : Thread nD τ).loc main_arg1) (ix3 0 r k) := by
  blk_point [iblk, V, idx t]
theorem blk2 (c : Dev nD) (t : Fin cfg0.N) (r : Fin 31) (k : Fin 256) :
    iblk m c 2 t (ix2 r k) = m ((c : Thread nD τ).loc main_arg2) (ix3 0 r k) := by
  blk_point [iblk, V, idx t]
theorem blk3 (c : Dev nD) (t : Fin cfg0.N) (k : Fin 256) :
    iblk m c 3 t (ix2 0 k) = m ((c : Thread nD τ).loc main_arg3) (ix2 0 k) := by
  blk_point [iblk, V, idx t]
theorem blk4 (c : Dev nD) (t : Fin cfg0.N) (k : Fin 256) :
    iblk m c 4 t (ix2 0 k) = m ((c : Thread nD τ).loc main_arg4) (ix2 0 k) := by
  blk_point [iblk, V, idx t]
theorem blk5 (c : Dev nD) (t : Fin cfg0.N) (k : Fin 256) :
    iblk m c 5 t (ix2 0 k) = m ((c : Thread nD τ).loc main_arg5) (ix2 0 k) := by
  blk_point [iblk, V, idx t]

/-- The arguments' arrays. -/
abbrev A0 (c : Dev nD) : FVec Ideal S32768x768 .f32 := m ((c : Thread nD τ).loc main_arg0)
abbrev A1 (c : Dev nD) : FVec Ideal S2x3x256 .f32 := m ((c : Thread nD τ).loc main_arg1)
abbrev A2 (c : Dev nD) : FVec Ideal S2x31x256 .f32 := m ((c : Thread nD τ).loc main_arg2)
abbrev A3 (c : Dev nD) : FVec Ideal S2x256 .f32 := m ((c : Thread nD τ).loc main_arg3)
abbrev A4 (c : Dev nD) : FVec Ideal S2x256 .f32 := m ((c : Thread nD τ).loc main_arg4)
abbrev A5 (c : Dev nD) : FVec Ideal S2x256 .f32 := m ((c : Thread nD τ).loc main_arg5)

/-- What the body leaves at point `t`: sequence `t`'s result. -/
def O (c : Dev nD) (t : Fin cfg0.N) : S2048x512.Idx → Elt Ideal .bf16 :=
  seqV (A0 m c) (A1 m c) (A2 m c) (A3 m c) (A4 m c) (A5 m c) t.val

theorem read0 (c : Dev nD) (t : Fin cfg0.N) (x : S2048x768.Idx) :
    iblk m c 0 t x = at2 (A0 m c) (t.val * 2048 + (x 0).val) (x 1).val := by
  have ht : t.val < 16 := t.isLt
  have h0 : (x 0).val < 2048 := (x 0).isLt
  have h1 : (x 1).val < 768 := (x 1).isLt
  rw [at2_of _ _ _ (by omega) h1]
  exact (congrArg (iblk m c 0 t) (eq_ix2 x)).trans (blk0 m c t (x 0) (x 1))
theorem read1 (c : Dev nD) (t : Fin cfg0.N) (x : S3x256.Idx) :
    iblk m c 1 t x = at3 (K := 1) (N := 3) (M := 256) (A1 m c) (x 0).val (x 1).val :=
  ((congrArg (iblk m c 1 t) (eq_ix2 x)).trans (blk1 m c t (x 0) (x 1))).trans (at3_of (K := 1) (N := 3) (M := 256) _ _ _ (x 0).isLt (x 1).isLt).symm
theorem read2 (c : Dev nD) (t : Fin cfg0.N) (x : S31x256.Idx) :
    iblk m c 2 t x = at3 (K := 1) (N := 31) (M := 256) (A2 m c) (x 0).val (x 1).val :=
  ((congrArg (iblk m c 2 t) (eq_ix2 x)).trans (blk2 m c t (x 0) (x 1))).trans (at3_of (K := 1) (N := 31) (M := 256) _ _ _ (x 0).isLt (x 1).isLt).symm

theorem row0 (x : S1x256.Idx) : x = ix2 0 (x 1) :=
  (eq_ix2 x).trans (congrArg (fun a => ix2 a (x 1)) (Subsingleton.elim (α := Fin 1) (x 0) 0))
theorem val0 (x : S1x256.Idx) : (x 0).val = 0 := by
  have h : (x 0).val < 1 := (x 0).isLt
  omega

theorem read3 (c : Dev nD) (t : Fin cfg0.N) (x : S1x256.Idx) :
    iblk m c 3 t x = at2 (A3 m c) (x 0).val (x 1).val := by
  rw [val0 x, at2_of (N := 2) (M := 256) _ _ _ (by decide) (x 1).isLt]
  exact (congrArg (iblk m c 3 t) (row0 x)).trans (blk3 m c t (x 1))
theorem read4 (c : Dev nD) (t : Fin cfg0.N) (x : S1x256.Idx) :
    iblk m c 4 t x = at2 (A4 m c) (x 0).val (x 1).val := by
  rw [val0 x, at2_of (N := 2) (M := 256) _ _ _ (by decide) (x 1).isLt]
  exact (congrArg (iblk m c 4 t) (row0 x)).trans (blk4 m c t (x 1))
theorem read5 (c : Dev nD) (t : Fin cfg0.N) (x : S1x256.Idx) :
    iblk m c 5 t x = at2 (A5 m c) (x 0).val (x 1).val := by
  rw [val0 x, at2_of (N := 2) (M := 256) _ _ _ (by decide) (x 1).isLt]
  exact (congrArg (iblk m c 5 t) (row0 x)).trans (blk5 m c t (x 1))

/-- All that the body may leave in its output is `O`. -/
theorem out_eq (c : Dev nD) (t : Fin cfg0.N) (Y : S2048x512.Idx → Elt Ideal .bf16) (h : Out m c t Y) : Y = O m c t := by
  obtain ⟨X1, X2, X3, X4, X5, X6, f7, f8, f9, ⟨h1, h2, h3, h4, h5, h6⟩, rfl⟩ := h
  funext y
  exact body_val c (grid0.coords t) _ _ _ _ _ _ _ _ _ _ _ _ _ _ _ _ _ _ X1 X2 X3 X4 X5 X6 _ _ _ _ _ _
    (fun x => (congrFun h1 x).trans (read0 m c t x)) (fun x => (congrFun h2 x).trans (read1 m c t x))
    (fun x => (congrFun h3 x).trans (read2 m c t x)) (fun x => (congrFun h4 x).trans (read3 m c t x))
    (fun x => (congrFun h5 x).trans (read4 m c t x)) (fun x => (congrFun h6 x).trans (read5 m c t x)) f7 f8 f9 y

theorem final (c : Dev nD) :
    (dats m (O m) 0 c).arrAt 6 (cfgs 0).N = G (A0 m c) (A1 m c) (A2 m c) (A3 m c) (A4 m c) (A5 m c) := by
  refine (dats m (O m) 0 c).arrAt_eq_of_covers 6 _ (by decide +kernel) fun t _ y => ?_
  blk_simp
  rw [after_6]
  have e0 : (((win0_6.blk t).view.emb y) 0 : ℕ) = t.val * 2048 + (y 0 : ℕ) := by blk_simp [idx t]
  have e1 : (((win0_6.blk t).view.emb y) 1 : ℕ) = (y 1 : ℕ) := by blk_simp [idx t]
  exact G_at _ _ _ _ _ _ t.val y _ e0 e1

end Cert.KernelIdeal.Hand
end
-- ==== Proof.ConvRef.lean ====
module

public import proofs.«01_k».proof.Proof.ConvRes
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (at2 at3 at2_of at3_of slab tap acc pre gated lnsilu outV seqV)

/-- Sequence `b` of the input at time `t`: the row of the class-major layout it lies in. -/
def seq (x0 : FVec Ideal S32768x768 .f32) (b t c : ℕ) : EReal := at2 x0 (b * 2048 + (t % 16 * 128 + t / 16)) c

/-- The columns from `o` on, padded by `k` zeros in front. -/
def padded (x0 : FVec Ideal S32768x768 .f32) (o k b n c : ℕ) : EReal := if k ≤ n then seq x0 b (n - k) (o + c) else 0

/-- The taps summed in order, the earliest first, from zero. -/
def accR (w U : ℕ → EReal) : ℕ → EReal
  | 0 => 0 + w 0 * U 0
  | s + 1 => accR w U s + w (s + 1) * U (s + 1)

theorem acc_sum (w U : ℕ → EReal) (n : ℕ) : acc w U n = ∑ s ∈ Finset.range (n + 1), w s * U s := by
  induction n with
  | zero => simp [acc]
  | succ n ih => rw [acc, ih, Finset.sum_range_succ _ (n + 1)]
theorem accR_sum (w U : ℕ → EReal) (n : ℕ) : accR w U n = ∑ s ∈ Finset.range (n + 1), w s * U s := by
  induction n with
  | zero => simp [accR]
  | succ n ih => rw [accR, ih, Finset.sum_range_succ _ (n + 1)]
/-- The earliest first is the latest first. -/
theorem accR_eq (w U T : ℕ → EReal) (n : ℕ) (h : ∀ s, s ≤ n → T s = U (n - s)) : accR w U n = acc (fun s => w (n - s)) T n := by
  rw [acc_sum, accR_sum, ← Finset.sum_range_reflect]
  refine Finset.sum_congr rfl fun s hs => ?_
  have hs' : s ≤ n := by have := Finset.mem_range.1 hs; omega
  rw [h s hs', show n + 1 - 1 - s = n - s by omega]

/-- A tap of the class-major layout is the sequence so many places earlier. -/
theorem tap_eq (x0 : FVec Ideal S32768x768 .f32) (o k b t c s : ℕ) (ht : t < 2048) (hs : s ≤ k) (hk : k < 2048) :
    tap (fun n ch => at2 x0 (b * 2048 + n) ch) o (t % 16) (t / 16) c s = padded x0 o k b (t + (k - s)) c := by
  unfold tap slab padded seq
  by_cases hq : t % 16 < s % 16
  · simp only [hq, if_true]
    by_cases h : s ≤ t
    · rw [if_pos (by omega), if_pos (by omega)]
      exact congrArg (fun n => at2 x0 (b * 2048 + n) (o + c)) (by omega)
    · rw [if_neg (by omega), if_neg (by omega)]
  · simp only [hq, if_false]
    by_cases h : s ≤ t
    · rw [if_pos (by omega), if_pos (by omega)]
      exact congrArg (fun n => at2 x0 (b * 2048 + n) (o + c)) (by omega)
    · rw [if_neg (by omega), if_neg (by omega)]

variable (x0 : FVec Ideal S32768x768 .f32) (x1 : FVec Ideal S2x3x256 .f32) (x2 : FVec Ideal S2x31x256 .f32)
  (x3 x4 x5 : FVec Ideal S2x256 .f32)

theorem v2_at (b : Fin 16) (t : Fin 2048) (c : Fin 768) : val_main_v2 (F := Ideal) x0 (ix3 b t c) = seq x0 b.val t.val c.val := by
  unfold seq
  rw [at2_of _ _ _ (by omega) c.isLt]
  pointwise [val_main_v0, val_main_v1, val_main_v2]
  blk_point []
theorem v2_ix (i : S16x2048x768.Idx) : val_main_v2 (F := Ideal) x0 i = seq x0 (i 0).val (i 1).val (i 2).val :=
  (congrArg (val_main_v2 (F := Ideal) x0) (eq_ix3 i)).trans (v2_at x0 (i 0) (i 1) (i 2))
theorem v3_at (b : Fin 16) (t : Fin 2048) (c : Fin 256) : val_main_v3 (F := Ideal) x0 (ix3 b t c) = seq x0 b.val t.val c.val :=
  (val_main_v3_apply (F := Ideal) x0 _).trans (v2_ix x0 _)
theorem v4_at (b : Fin 16) (t : Fin 2048) (c : Fin 256) : val_main_v4 (F := Ideal) x0 (ix3 b t c) = seq x0 b.val t.val (256 + c.val) :=
  (val_main_v4_apply (F := Ideal) x0 _).trans (v2_ix x0 _)
theorem v5_at (b : Fin 16) (t : Fin 2048) (c : Fin 256) : val_main_v5 (F := Ideal) x0 (ix3 b t c) = seq x0 b.val t.val (512 + c.val) :=
  (val_main_v5_apply (F := Ideal) x0 _).trans (v2_ix x0 _)

theorem zero_word : (FloatOps.sitofp .f32 0#32 : Ideal .f32) = (0 : EReal) := by
  show (((0#32).toInt : ℝ) : EReal) = 0
  simp

theorem v8_at_ix (b : Fin 16) (n : Fin 2050) (c : Fin 256) :
    val_main_v8 (F := Ideal) x0 (ix3 b n c) = padded x0 256 2 b.val n.val c.val := by
  unfold padded
  pointwise [val_main_v8, val_main_call0_v0, val_main_c]
  by_cases h : 2 ≤ n.val
  · rw [if_pos h, dif_pos ⟨h, by omega⟩]
    exact v4_at x0 b ⟨n.val - 2, by omega⟩ c
  · rw [if_neg h, dif_neg (fun hh => h hh.1)]
    exact zero_word
theorem v8_at (i : S16x2050x256.Idx) : val_main_v8 (F := Ideal) x0 i = padded x0 256 2 (i 0).val (i 1).val (i 2).val :=
  (congrArg (val_main_v8 (F := Ideal) x0) (eq_ix3 i)).trans (v8_at_ix x0 (i 0) (i 1) (i 2))

theorem v34_at_ix (b : Fin 16) (n : Fin 2078) (c : Fin 256) :
    val_main_v34 (F := Ideal) x0 (ix3 b n c) = padded x0 512 30 b.val n.val c.val := by
  unfold padded
  pointwise [val_main_v34, val_main_call1_v0, val_main_c_0]
  by_cases h : 30 ≤ n.val
  · rw [if_pos h, dif_pos ⟨h, by omega⟩]
    exact v5_at x0 b ⟨n.val - 30, by omega⟩ c
  · rw [if_neg h, dif_neg (fun hh => h hh.1)]
    exact zero_word
theorem v34_at (i : S16x2078x256.Idx) : val_main_v34 (F := Ideal) x0 i = padded x0 512 30 (i 0).val (i 1).val (i 2).val :=
  (congrArg (val_main_v34 (F := Ideal) x0) (eq_ix3 i)).trans (v34_at_ix x0 (i 0) (i 1) (i 2))

theorem w7_at_ix (j : Fin 3) (c : Fin 256) : val_main_v7 (F := Ideal) x1 (ix2 j c) = at3 (K := 1) (N := 3) (M := 256) x1 j.val c.val := by
  rw [at3_of _ _ _ j.isLt c.isLt]
  pointwise [val_main_v6, val_main_v7]
  try blk_point []
theorem w7_at (i : S3x256.Idx) : val_main_v7 (F := Ideal) x1 i = at3 (K := 1) (N := 3) (M := 256) x1 (i 0).val (i 1).val :=
  (congrArg (val_main_v7 (F := Ideal) x1) (eq_ix2 i)).trans (w7_at_ix x1 (i 0) (i 1))

theorem w33_at_ix (j : Fin 31) (c : Fin 256) : val_main_v33 (F := Ideal) x2 (ix2 j c) = at3 (K := 1) (N := 31) (M := 256) x2 j.val c.val := by
  rw [at3_of _ _ _ j.isLt c.isLt]
  pointwise [val_main_v32, val_main_v33]
  try blk_point []
theorem w33_at (i : S31x256.Idx) : val_main_v33 (F := Ideal) x2 i = at3 (K := 1) (N := 31) (M := 256) x2 (i 0).val (i 1).val :=
  (congrArg (val_main_v33 (F := Ideal) x2) (eq_ix2 i)).trans (w33_at_ix x2 (i 0) (i 1))

theorem ta_0 (b : Fin 16) (t : Fin 2048) (c : Fin 256) : val_main_v14 (F := Ideal) x0 x1 (ix3 b t c)
    = at3 (K := 1) (N := 3) (M := 256) x1 0 c.val * padded x0 256 2 b.val (t.val + 0) c.val := by
  refine (val_main_v14_apply (F := Ideal) x0 x1 _).trans (congrArg₂ (· * ·) ?_ ?_)
  · refine (val_main_v13_apply (F := Ideal) x1 _).trans ((val_main_v12_apply (F := Ideal) x1 _).trans ((val_main_v10_apply (F := Ideal) x1 _).trans ((val_main_v9_apply (F := Ideal) x1 _).trans ?_)))
    refine (w7_at x1 _).trans ?_
    show at3 (K := 1) (N := 3) (M := 256) x1 0 (c.val % 256) = _
    rw [Nat.mod_eq_of_lt c.isLt]
  · refine (val_main_v11_apply (F := Ideal) x0 _).trans ((v8_at x0 _).trans ?_)
    rfl
theorem aa_0 (b : Fin 16) (t : Fin 2048) (c : Fin 256) : val_main_v16 (F := Ideal) x0 x1 (ix3 b t c)
    = accR (fun j => at3 (K := 1) (N := 3) (M := 256) x1 j c.val) (fun j => padded x0 256 2 b.val (t.val + j) c.val) 0 := by
  refine (val_main_v16_apply (F := Ideal) x0 x1 _).trans (congrArg₂ (· + ·) ?_ (ta_0 x0 x1 b t c))
  pointwise [val_main_v15, val_main_cst]

theorem ta_1 (b : Fin 16) (t : Fin 2048) (c : Fin 256) : val_main_v22 (F := Ideal) x0 x1 (ix3 b t c)
    = at3 (K := 1) (N := 3) (M := 256) x1 1 c.val * padded x0 256 2 b.val (t.val + 1) c.val := by
  refine (val_main_v22_apply (F := Ideal) x0 x1 _).trans (congrArg₂ (· * ·) ?_ ?_)
  · refine (val_main_v21_apply (F := Ideal) x1 _).trans ((val_main_v20_apply (F := Ideal) x1 _).trans ((val_main_v18_apply (F := Ideal) x1 _).trans ((val_main_v17_apply (F := Ideal) x1 _).trans ?_)))
    refine (w7_at x1 _).trans ?_
    show at3 (K := 1) (N := 3) (M := 256) x1 1 (c.val % 256) = _
    rw [Nat.mod_eq_of_lt c.isLt]
  · refine (val_main_v19_apply (F := Ideal) x0 _).trans ((v8_at x0 _).trans ?_)
    show padded x0 256 2 b.val (1 + t.val) c.val = _
    rw [Nat.add_comm]
theorem aa_1 (b : Fin 16) (t : Fin 2048) (c : Fin 256) : val_main_v23 (F := Ideal) x0 x1 (ix3 b t c)
    = accR (fun j => at3 (K := 1) (N := 3) (M := 256) x1 j c.val) (fun j => padded x0 256 2 b.val (t.val + j) c.val) 1 :=
  (val_main_v23_apply (F := Ideal) x0 x1 _).trans (congrArg₂ (· + ·) (aa_0 x0 x1 b t c) (ta_1 x0 x1 b t c))

theorem ta_2 (b : Fin 16) (t : Fin 2048) (c : Fin 256) : val_main_v29 (F := Ideal) x0 x1 (ix3 b t c)
    = at3 (K := 1) (N := 3) (M := 256) x1 2 c.val * padded x0 256 2 b.val (t.val + 2) c.val := by
  refine (val_main_v29_apply (F := Ideal) x0 x1 _).trans (congrArg₂ (· * ·) ?_ ?_)
  · refine (val_main_v28_apply (F := Ideal) x1 _).trans ((val_main_v27_apply (F := Ideal) x1 _).trans ((val_main_v25_apply (F := Ideal) x1 _).trans ((val_main_v24_apply (F := Ideal) x1 _).trans ?_)))
    refine (w7_at x1 _).trans ?_
    show at3 (K := 1) (N := 3) (M := 256) x1 2 (c.val % 256) = _
    rw [Nat.mod_eq_of_lt c.isLt]
  · refine (val_main_v26_apply (F := Ideal) x0 _).trans ((v8_at x0 _).trans ?_)
    show padded x0 256 2 b.val (2 + t.val) c.val = _
    rw [Nat.add_comm]
theorem aa_2 (b : Fin 16) (t : Fin 2048) (c : Fin 256) : val_main_v30 (F := Ideal) x0 x1 (ix3 b t c)
    = accR (fun j => at3 (K := 1) (N := 3) (M := 256) x1 j c.val) (fun j => padded x0 256 2 b.val (t.val + j) c.val) 2 :=
  (val_main_v30_apply (F := Ideal) x0 x1 _).trans (congrArg₂ (· + ·) (aa_1 x0 x1 b t c) (ta_2 x0 x1 b t c))

theorem tb_0 (b : Fin 16) (t : Fin 2048) (c : Fin 256) : val_main_v40 (F := Ideal) x0 x2 (ix3 b t c)
    = at3 (K := 1) (N := 31) (M := 256) x2 0 c.val * padded x0 512 30 b.val (t.val + 0) c.val := by
  refine (val_main_v40_apply (F := Ideal) x0 x2 _).trans (congrArg₂ (· * ·) ?_ ?_)
  · refine (val_main_v39_apply (F := Ideal) x2 _).trans ((val_main_v38_apply (F := Ideal) x2 _).trans ((val_main_v36_apply (F := Ideal) x2 _).trans ((val_main_v35_apply (F := Ideal) x2 _).trans ?_)))
    refine (w33_at x2 _).trans ?_
    show at3 (K := 1) (N := 31) (M := 256) x2 0 (c.val % 256) = _
    rw [Nat.mod_eq_of_lt c.isLt]
  · refine (val_main_v37_apply (F := Ideal) x0 _).trans ((v34_at x0 _).trans ?_)
    rfl
theorem ab_0 (b : Fin 16) (t : Fin 2048) (c : Fin 256) : val_main_v42 (F := Ideal) x0 x2 (ix3 b t c)
    = accR (fun j => at3 (K := 1) (N := 31) (M := 256) x2 j c.val) (fun j => padded x0 512 30 b.val (t.val + j) c.val) 0 := by
  refine (val_main_v42_apply (F := Ideal) x0 x2 _).trans (congrArg₂ (· + ·) ?_ (tb_0 x0 x2 b t c))
  pointwise [val_main_v41, val_main_cst_1]

theorem tb_1 (b : Fin 16) (t : Fin 2048) (c : Fin 256) : val_main_v48 (F := Ideal) x0 x2 (ix3 b t c)
    = at3 (K := 1) (N := 31) (M := 256) x2 1 c.val * padded x0 512 30 b.val (t.val + 1) c.val := by
  refine (val_main_v48_apply (F := Ideal) x0 x2 _).trans (congrArg₂ (· * ·) ?_ ?_)
  · refine (val_main_v47_apply (F := Ideal) x2 _).trans ((val_main_v46_apply (F := Ideal) x2 _).trans ((val_main_v44_apply (F := Ideal) x2 _).trans ((val_main_v43_apply (F := Ideal) x2 _).trans ?_)))
    refine (w33_at x2 _).trans ?_
    show at3 (K := 1) (N := 31) (M := 256) x2 1 (c.val % 256) = _
    rw [Nat.mod_eq_of_lt c.isLt]
  · refine (val_main_v45_apply (F := Ideal) x0 _).trans ((v34_at x0 _).trans ?_)
    show padded x0 512 30 b.val (1 + t.val) c.val = _
    rw [Nat.add_comm]
theorem ab_1 (b : Fin 16) (t : Fin 2048) (c : Fin 256) : val_main_v49 (F := Ideal) x0 x2 (ix3 b t c)
    = accR (fun j => at3 (K := 1) (N := 31) (M := 256) x2 j c.val) (fun j => padded x0 512 30 b.val (t.val + j) c.val) 1 :=
  (val_main_v49_apply (F := Ideal) x0 x2 _).trans (congrArg₂ (· + ·) (ab_0 x0 x2 b t c) (tb_1 x0 x2 b t c))

theorem tb_2 (b : Fin 16) (t : Fin 2048) (c : Fin 256) : val_main_v55 (F := Ideal) x0 x2 (ix3 b t c)
    = at3 (K := 1) (N := 31) (M := 256) x2 2 c.val * padded x0 512 30 b.val (t.val + 2) c.val := by
  refine (val_main_v55_apply (F := Ideal) x0 x2 _).trans (congrArg₂ (· * ·) ?_ ?_)
  · refine (val_main_v54_apply (F := Ideal) x2 _).trans ((val_main_v53_apply (F := Ideal) x2 _).trans ((val_main_v51_apply (F := Ideal) x2 _).trans ((val_main_v50_apply (F := Ideal) x2 _).trans ?_)))
    refine (w33_at x2 _).trans ?_
    show at3 (K := 1) (N := 31) (M := 256) x2 2 (c.val % 256) = _
    rw [Nat.mod_eq_of_lt c.isLt]
  · refine (val_main_v52_apply (F := Ideal) x0 _).trans ((v34_at x0 _).trans ?_)
    show padded x0 512 30 b.val (2 + t.val) c.val = _
    rw [Nat.add_comm]
theorem ab_2 (b : Fin 16) (t : Fin 2048) (c : Fin 256) : val_main_v56 (F := Ideal) x0 x2 (ix3 b t c)
    = accR (fun j => at3 (K := 1) (N := 31) (M := 256) x2 j c.val) (fun j => padded x0 512 30 b.val (t.val + j) c.val) 2 :=
  (val_main_v56_apply (F := Ideal) x0 x2 _).trans (congrArg₂ (· + ·) (ab_1 x0 x2 b t c) (tb_2 x0 x2 b t c))

theorem tb_3 (b : Fin 16) (t : Fin 2048) (c : Fin 256) : val_main_v62 (F := Ideal) x0 x2 (ix3 b t c)
    = at3 (K := 1) (N := 31) (M := 256) x2 3 c.val * padded x0 512 30 b.val (t.val + 3) c.val := by
  refine (val_main_v62_apply (F := Ideal) x0 x2 _).trans (congrArg₂ (· * ·) ?_ ?_)
  · refine (val_main_v61_apply (F := Ideal) x2 _).trans ((val_main_v60_apply (F := Ideal) x2 _).trans ((val_main_v58_apply (F := Ideal) x2 _).trans ((val_main_v57_apply (F := Ideal) x2 _).trans ?_)))
    refine (w33_at x2 _).trans ?_
    show at3 (K := 1) (N := 31) (M := 256) x2 3 (c.val % 256) = _
    rw [Nat.mod_eq_of_lt c.isLt]
  · refine (val_main_v59_apply (F := Ideal) x0 _).trans ((v34_at x0 _).trans ?_)
    show padded x0 512 30 b.val (3 + t.val) c.val = _
    rw [Nat.add_comm]
theorem ab_3 (b : Fin 16) (t : Fin 2048) (c : Fin 256) : val_main_v63 (F := Ideal) x0 x2 (ix3 b t c)
    = accR (fun j => at3 (K := 1) (N := 31) (M := 256) x2 j c.val) (fun j => padded x0 512 30 b.val (t.val + j) c.val) 3 :=
  (val_main_v63_apply (F := Ideal) x0 x2 _).trans (congrArg₂ (· + ·) (ab_2 x0 x2 b t c) (tb_3 x0 x2 b t c))

theorem tb_4 (b : Fin 16) (t : Fin 2048) (c : Fin 256) : val_main_v69 (F := Ideal) x0 x2 (ix3 b t c)
    = at3 (K := 1) (N := 31) (M := 256) x2 4 c.val * padded x0 512 30 b.val (t.val + 4) c.val := by
  refine (val_main_v69_apply (F := Ideal) x0 x2 _).trans (congrArg₂ (· * ·) ?_ ?_)
  · refine (val_main_v68_apply (F := Ideal) x2 _).trans ((val_main_v67_apply (F := Ideal) x2 _).trans ((val_main_v65_apply (F := Ideal) x2 _).trans ((val_main_v64_apply (F := Ideal) x2 _).trans ?_)))
    refine (w33_at x2 _).trans ?_
    show at3 (K := 1) (N := 31) (M := 256) x2 4 (c.val % 256) = _
    rw [Nat.mod_eq_of_lt c.isLt]
  · refine (val_main_v66_apply (F := Ideal) x0 _).trans ((v34_at x0 _).trans ?_)
    show padded x0 512 30 b.val (4 + t.val) c.val = _
    rw [Nat.add_comm]
theorem ab_4 (b : Fin 16) (t : Fin 2048) (c : Fin 256) : val_main_v70 (F := Ideal) x0 x2 (ix3 b t c)
    = accR (fun j => at3 (K := 1) (N := 31) (M := 256) x2 j c.val) (fun j => padded x0 512 30 b.val (t.val + j) c.val) 4 :=
  (val_main_v70_apply (F := Ideal) x0 x2 _).trans (congrArg₂ (· + ·) (ab_3 x0 x2 b t c) (tb_4 x0 x2 b t c))

theorem tb_5 (b : Fin 16) (t : Fin 2048) (c : Fin 256) : val_main_v76 (F := Ideal) x0 x2 (ix3 b t c)
    = at3 (K := 1) (N := 31) (M := 256) x2 5 c.val * padded x0 512 30 b.val (t.val + 5) c.val := by
  refine (val_main_v76_apply (F := Ideal) x0 x2 _).trans (congrArg₂ (· * ·) ?_ ?_)
  · refine (val_main_v75_apply (F := Ideal) x2 _).trans ((val_main_v74_apply (F := Ideal) x2 _).trans ((val_main_v72_apply (F := Ideal) x2 _).trans ((val_main_v71_apply (F := Ideal) x2 _).trans ?_)))
    refine (w33_at x2 _).trans ?_
    show at3 (K := 1) (N := 31) (M := 256) x2 5 (c.val % 256) = _
    rw [Nat.mod_eq_of_lt c.isLt]
  · refine (val_main_v73_apply (F := Ideal) x0 _).trans ((v34_at x0 _).trans ?_)
    show padded x0 512 30 b.val (5 + t.val) c.val = _
    rw [Nat.add_comm]
theorem ab_5 (b : Fin 16) (t : Fin 2048) (c : Fin 256) : val_main_v77 (F := Ideal) x0 x2 (ix3 b t c)
    = accR (fun j => at3 (K := 1) (N := 31) (M := 256) x2 j c.val) (fun j => padded x0 512 30 b.val (t.val + j) c.val) 5 :=
  (val_main_v77_apply (F := Ideal) x0 x2 _).trans (congrArg₂ (· + ·) (ab_4 x0 x2 b t c) (tb_5 x0 x2 b t c))

theorem tb_6 (b : Fin 16) (t : Fin 2048) (c : Fin 256) : val_main_v83 (F := Ideal) x0 x2 (ix3 b t c)
    = at3 (K := 1) (N := 31) (M := 256) x2 6 c.val * padded x0 512 30 b.val (t.val + 6) c.val := by
  refine (val_main_v83_apply (F := Ideal) x0 x2 _).trans (congrArg₂ (· * ·) ?_ ?_)
  · refine (val_main_v82_apply (F := Ideal) x2 _).trans ((val_main_v81_apply (F := Ideal) x2 _).trans ((val_main_v79_apply (F := Ideal) x2 _).trans ((val_main_v78_apply (F := Ideal) x2 _).trans ?_)))
    refine (w33_at x2 _).trans ?_
    show at3 (K := 1) (N := 31) (M := 256) x2 6 (c.val % 256) = _
    rw [Nat.mod_eq_of_lt c.isLt]
  · refine (val_main_v80_apply (F := Ideal) x0 _).trans ((v34_at x0 _).trans ?_)
    show padded x0 512 30 b.val (6 + t.val) c.val = _
    rw [Nat.add_comm]
theorem ab_6 (b : Fin 16) (t : Fin 2048) (c : Fin 256) : val_main_v84 (F := Ideal) x0 x2 (ix3 b t c)
    = accR (fun j => at3 (K := 1) (N := 31) (M := 256) x2 j c.val) (fun j => padded x0 512 30 b.val (t.val + j) c.val) 6 :=
  (val_main_v84_apply (F := Ideal) x0 x2 _).trans (congrArg₂ (· + ·) (ab_5 x0 x2 b t c) (tb_6 x0 x2 b t c))

theorem tb_7 (b : Fin 16) (t : Fin 2048) (c : Fin 256) : val_main_v90 (F := Ideal) x0 x2 (ix3 b t c)
    = at3 (K := 1) (N := 31) (M := 256) x2 7 c.val * padded x0 512 30 b.val (t.val + 7) c.val := by
  refine (val_main_v90_apply (F := Ideal) x0 x2 _).trans (congrArg₂ (· * ·) ?_ ?_)
  · refine (val_main_v89_apply (F := Ideal) x2 _).trans ((val_main_v88_apply (F := Ideal) x2 _).trans ((val_main_v86_apply (F := Ideal) x2 _).trans ((val_main_v85_apply (F := Ideal) x2 _).trans ?_)))
    refine (w33_at x2 _).trans ?_
    show at3 (K := 1) (N := 31) (M := 256) x2 7 (c.val % 256) = _
    rw [Nat.mod_eq_of_lt c.isLt]
  · refine (val_main_v87_apply (F := Ideal) x0 _).trans ((v34_at x0 _).trans ?_)
    show padded x0 512 30 b.val (7 + t.val) c.val = _
    rw [Nat.add_comm]
theorem ab_7 (b : Fin 16) (t : Fin 2048) (c : Fin 256) : val_main_v91 (F := Ideal) x0 x2 (ix3 b t c)
    = accR (fun j => at3 (K := 1) (N := 31) (M := 256) x2 j c.val) (fun j => padded x0 512 30 b.val (t.val + j) c.val) 7 :=
  (val_main_v91_apply (F := Ideal) x0 x2 _).trans (congrArg₂ (· + ·) (ab_6 x0 x2 b t c) (tb_7 x0 x2 b t c))

theorem tb_8 (b : Fin 16) (t : Fin 2048) (c : Fin 256) : val_main_v97 (F := Ideal) x0 x2 (ix3 b t c)
    = at3 (K := 1) (N := 31) (M := 256) x2 8 c.val * padded x0 512 30 b.val (t.val + 8) c.val := by
  refine (val_main_v97_apply (F := Ideal) x0 x2 _).trans (congrArg₂ (· * ·) ?_ ?_)
  · refine (val_main_v96_apply (F := Ideal) x2 _).trans ((val_main_v95_apply (F := Ideal) x2 _).trans ((val_main_v93_apply (F := Ideal) x2 _).trans ((val_main_v92_apply (F := Ideal) x2 _).trans ?_)))
    refine (w33_at x2 _).trans ?_
    show at3 (K := 1) (N := 31) (M := 256) x2 8 (c.val % 256) = _
    rw [Nat.mod_eq_of_lt c.isLt]
  · refine (val_main_v94_apply (F := Ideal) x0 _).trans ((v34_at x0 _).trans ?_)
    show padded x0 512 30 b.val (8 + t.val) c.val = _
    rw [Nat.add_comm]
theorem ab_8 (b : Fin 16) (t : Fin 2048) (c : Fin 256) : val_main_v98 (F := Ideal) x0 x2 (ix3 b t c)
    = accR (fun j => at3 (K := 1) (N := 31) (M := 256) x2 j c.val) (fun j => padded x0 512 30 b.val (t.val + j) c.val) 8 :=
  (val_main_v98_apply (F := Ideal) x0 x2 _).trans (congrArg₂ (· + ·) (ab_7 x0 x2 b t c) (tb_8 x0 x2 b t c))

theorem tb_9 (b : Fin 16) (t : Fin 2048) (c : Fin 256) : val_main_v104 (F := Ideal) x0 x2 (ix3 b t c)
    = at3 (K := 1) (N := 31) (M := 256) x2 9 c.val * padded x0 512 30 b.val (t.val + 9) c.val := by
  refine (val_main_v104_apply (F := Ideal) x0 x2 _).trans (congrArg₂ (· * ·) ?_ ?_)
  · refine (val_main_v103_apply (F := Ideal) x2 _).trans ((val_main_v102_apply (F := Ideal) x2 _).trans ((val_main_v100_apply (F := Ideal) x2 _).trans ((val_main_v99_apply (F := Ideal) x2 _).trans ?_)))
    refine (w33_at x2 _).trans ?_
    show at3 (K := 1) (N := 31) (M := 256) x2 9 (c.val % 256) = _
    rw [Nat.mod_eq_of_lt c.isLt]
  · refine (val_main_v101_apply (F := Ideal) x0 _).trans ((v34_at x0 _).trans ?_)
    show padded x0 512 30 b.val (9 + t.val) c.val = _
    rw [Nat.add_comm]
theorem ab_9 (b : Fin 16) (t : Fin 2048) (c : Fin 256) : val_main_v105 (F := Ideal) x0 x2 (ix3 b t c)
    = accR (fun j => at3 (K := 1) (N := 31) (M := 256) x2 j c.val) (fun j => padded x0 512 30 b.val (t.val + j) c.val) 9 :=
  (val_main_v105_apply (F := Ideal) x0 x2 _).trans (congrArg₂ (· + ·) (ab_8 x0 x2 b t c) (tb_9 x0 x2 b t c))

theorem tb_10 (b : Fin 16) (t : Fin 2048) (c : Fin 256) : val_main_v111 (F := Ideal) x0 x2 (ix3 b t c)
    = at3 (K := 1) (N := 31) (M := 256) x2 10 c.val * padded x0 512 30 b.val (t.val + 10) c.val := by
  refine (val_main_v111_apply (F := Ideal) x0 x2 _).trans (congrArg₂ (· * ·) ?_ ?_)
  · refine (val_main_v110_apply (F := Ideal) x2 _).trans ((val_main_v109_apply (F := Ideal) x2 _).trans ((val_main_v107_apply (F := Ideal) x2 _).trans ((val_main_v106_apply (F := Ideal) x2 _).trans ?_)))
    refine (w33_at x2 _).trans ?_
    show at3 (K := 1) (N := 31) (M := 256) x2 10 (c.val % 256) = _
    rw [Nat.mod_eq_of_lt c.isLt]
  · refine (val_main_v108_apply (F := Ideal) x0 _).trans ((v34_at x0 _).trans ?_)
    show padded x0 512 30 b.val (10 + t.val) c.val = _
    rw [Nat.add_comm]
theorem ab_10 (b : Fin 16) (t : Fin 2048) (c : Fin 256) : val_main_v112 (F := Ideal) x0 x2 (ix3 b t c)
    = accR (fun j => at3 (K := 1) (N := 31) (M := 256) x2 j c.val) (fun j => padded x0 512 30 b.val (t.val + j) c.val) 10 :=
  (val_main_v112_apply (F := Ideal) x0 x2 _).trans (congrArg₂ (· + ·) (ab_9 x0 x2 b t c) (tb_10 x0 x2 b t c))

theorem tb_11 (b : Fin 16) (t : Fin 2048) (c : Fin 256) : val_main_v118 (F := Ideal) x0 x2 (ix3 b t c)
    = at3 (K := 1) (N := 31) (M := 256) x2 11 c.val * padded x0 512 30 b.val (t.val + 11) c.val := by
  refine (val_main_v118_apply (F := Ideal) x0 x2 _).trans (congrArg₂ (· * ·) ?_ ?_)
  · refine (val_main_v117_apply (F := Ideal) x2 _).trans ((val_main_v116_apply (F := Ideal) x2 _).trans ((val_main_v114_apply (F := Ideal) x2 _).trans ((val_main_v113_apply (F := Ideal) x2 _).trans ?_)))
    refine (w33_at x2 _).trans ?_
    show at3 (K := 1) (N := 31) (M := 256) x2 11 (c.val % 256) = _
    rw [Nat.mod_eq_of_lt c.isLt]
  · refine (val_main_v115_apply (F := Ideal) x0 _).trans ((v34_at x0 _).trans ?_)
    show padded x0 512 30 b.val (11 + t.val) c.val = _
    rw [Nat.add_comm]
theorem ab_11 (b : Fin 16) (t : Fin 2048) (c : Fin 256) : val_main_v119 (F := Ideal) x0 x2 (ix3 b t c)
    = accR (fun j => at3 (K := 1) (N := 31) (M := 256) x2 j c.val) (fun j => padded x0 512 30 b.val (t.val + j) c.val) 11 :=
  (val_main_v119_apply (F := Ideal) x0 x2 _).trans (congrArg₂ (· + ·) (ab_10 x0 x2 b t c) (tb_11 x0 x2 b t c))

theorem tb_12 (b : Fin 16) (t : Fin 2048) (c : Fin 256) : val_main_v125 (F := Ideal) x0 x2 (ix3 b t c)
    = at3 (K := 1) (N := 31) (M := 256) x2 12 c.val * padded x0 512 30 b.val (t.val + 12) c.val := by
  refine (val_main_v125_apply (F := Ideal) x0 x2 _).trans (congrArg₂ (· * ·) ?_ ?_)
  · refine (val_main_v124_apply (F := Ideal) x2 _).trans ((val_main_v123_apply (F := Ideal) x2 _).trans ((val_main_v121_apply (F := Ideal) x2 _).trans ((val_main_v120_apply (F := Ideal) x2 _).trans ?_)))
    refine (w33_at x2 _).trans ?_
    show at3 (K := 1) (N := 31) (M := 256) x2 12 (c.val % 256) = _
    rw [Nat.mod_eq_of_lt c.isLt]
  · refine (val_main_v122_apply (F := Ideal) x0 _).trans ((v34_at x0 _).trans ?_)
    show padded x0 512 30 b.val (12 + t.val) c.val = _
    rw [Nat.add_comm]
theorem ab_12 (b : Fin 16) (t : Fin 2048) (c : Fin 256) : val_main_v126 (F := Ideal) x0 x2 (ix3 b t c)
    = accR (fun j => at3 (K := 1) (N := 31) (M := 256) x2 j c.val) (fun j => padded x0 512 30 b.val (t.val + j) c.val) 12 :=
  (val_main_v126_apply (F := Ideal) x0 x2 _).trans (congrArg₂ (· + ·) (ab_11 x0 x2 b t c) (tb_12 x0 x2 b t c))

theorem tb_13 (b : Fin 16) (t : Fin 2048) (c : Fin 256) : val_main_v132 (F := Ideal) x0 x2 (ix3 b t c)
    = at3 (K := 1) (N := 31) (M := 256) x2 13 c.val * padded x0 512 30 b.val (t.val + 13) c.val := by
  refine (val_main_v132_apply (F := Ideal) x0 x2 _).trans (congrArg₂ (· * ·) ?_ ?_)
  · refine (val_main_v131_apply (F := Ideal) x2 _).trans ((val_main_v130_apply (F := Ideal) x2 _).trans ((val_main_v128_apply (F := Ideal) x2 _).trans ((val_main_v127_apply (F := Ideal) x2 _).trans ?_)))
    refine (w33_at x2 _).trans ?_
    show at3 (K := 1) (N := 31) (M := 256) x2 13 (c.val % 256) = _
    rw [Nat.mod_eq_of_lt c.isLt]
  · refine (val_main_v129_apply (F := Ideal) x0 _).trans ((v34_at x0 _).trans ?_)
    show padded x0 512 30 b.val (13 + t.val) c.val = _
    rw [Nat.add_comm]
theorem ab_13 (b : Fin 16) (t : Fin 2048) (c : Fin 256) : val_main_v133 (F := Ideal) x0 x2 (ix3 b t c)
    = accR (fun j => at3 (K := 1) (N := 31) (M := 256) x2 j c.val) (fun j => padded x0 512 30 b.val (t.val + j) c.val) 13 :=
  (val_main_v133_apply (F := Ideal) x0 x2 _).trans (congrArg₂ (· + ·) (ab_12 x0 x2 b t c) (tb_13 x0 x2 b t c))

theorem tb_14 (b : Fin 16) (t : Fin 2048) (c : Fin 256) : val_main_v139 (F := Ideal) x0 x2 (ix3 b t c)
    = at3 (K := 1) (N := 31) (M := 256) x2 14 c.val * padded x0 512 30 b.val (t.val + 14) c.val := by
  refine (val_main_v139_apply (F := Ideal) x0 x2 _).trans (congrArg₂ (· * ·) ?_ ?_)
  · refine (val_main_v138_apply (F := Ideal) x2 _).trans ((val_main_v137_apply (F := Ideal) x2 _).trans ((val_main_v135_apply (F := Ideal) x2 _).trans ((val_main_v134_apply (F := Ideal) x2 _).trans ?_)))
    refine (w33_at x2 _).trans ?_
    show at3 (K := 1) (N := 31) (M := 256) x2 14 (c.val % 256) = _
    rw [Nat.mod_eq_of_lt c.isLt]
  · refine (val_main_v136_apply (F := Ideal) x0 _).trans ((v34_at x0 _).trans ?_)
    show padded x0 512 30 b.val (14 + t.val) c.val = _
    rw [Nat.add_comm]
theorem ab_14 (b : Fin 16) (t : Fin 2048) (c : Fin 256) : val_main_v140 (F := Ideal) x0 x2 (ix3 b t c)
    = accR (fun j => at3 (K := 1) (N := 31) (M := 256) x2 j c.val) (fun j => padded x0 512 30 b.val (t.val + j) c.val) 14 :=
  (val_main_v140_apply (F := Ideal) x0 x2 _).trans (congrArg₂ (· + ·) (ab_13 x0 x2 b t c) (tb_14 x0 x2 b t c))

theorem tb_15 (b : Fin 16) (t : Fin 2048) (c : Fin 256) : val_main_v146 (F := Ideal) x0 x2 (ix3 b t c)
    = at3 (K := 1) (N := 31) (M := 256) x2 15 c.val * padded x0 512 30 b.val (t.val + 15) c.val := by
  refine (val_main_v146_apply (F := Ideal) x0 x2 _).trans (congrArg₂ (· * ·) ?_ ?_)
  · refine (val_main_v145_apply (F := Ideal) x2 _).trans ((val_main_v144_apply (F := Ideal) x2 _).trans ((val_main_v142_apply (F := Ideal) x2 _).trans ((val_main_v141_apply (F := Ideal) x2 _).trans ?_)))
    refine (w33_at x2 _).trans ?_
    show at3 (K := 1) (N := 31) (M := 256) x2 15 (c.val % 256) = _
    rw [Nat.mod_eq_of_lt c.isLt]
  · refine (val_main_v143_apply (F := Ideal) x0 _).trans ((v34_at x0 _).trans ?_)
    show padded x0 512 30 b.val (15 + t.val) c.val = _
    rw [Nat.add_comm]
theorem ab_15 (b : Fin 16) (t : Fin 2048) (c : Fin 256) : val_main_v147 (F := Ideal) x0 x2 (ix3 b t c)
    = accR (fun j => at3 (K := 1) (N := 31) (M := 256) x2 j c.val) (fun j => padded x0 512 30 b.val (t.val + j) c.val) 15 :=
  (val_main_v147_apply (F := Ideal) x0 x2 _).trans (congrArg₂ (· + ·) (ab_14 x0 x2 b t c) (tb_15 x0 x2 b t c))

theorem tb_16 (b : Fin 16) (t : Fin 2048) (c : Fin 256) : val_main_v153 (F := Ideal) x0 x2 (ix3 b t c)
    = at3 (K := 1) (N := 31) (M := 256) x2 16 c.val * padded x0 512 30 b.val (t.val + 16) c.val := by
  refine (val_main_v153_apply (F := Ideal) x0 x2 _).trans (congrArg₂ (· * ·) ?_ ?_)
  · refine (val_main_v152_apply (F := Ideal) x2 _).trans ((val_main_v151_apply (F := Ideal) x2 _).trans ((val_main_v149_apply (F := Ideal) x2 _).trans ((val_main_v148_apply (F := Ideal) x2 _).trans ?_)))
    refine (w33_at x2 _).trans ?_
    show at3 (K := 1) (N := 31) (M := 256) x2 16 (c.val % 256) = _
    rw [Nat.mod_eq_of_lt c.isLt]
  · refine (val_main_v150_apply (F := Ideal) x0 _).trans ((v34_at x0 _).trans ?_)
    show padded x0 512 30 b.val (16 + t.val) c.val = _
    rw [Nat.add_comm]
theorem ab_16 (b : Fin 16) (t : Fin 2048) (c : Fin 256) : val_main_v154 (F := Ideal) x0 x2 (ix3 b t c)
    = accR (fun j => at3 (K := 1) (N := 31) (M := 256) x2 j c.val) (fun j => padded x0 512 30 b.val (t.val + j) c.val) 16 :=
  (val_main_v154_apply (F := Ideal) x0 x2 _).trans (congrArg₂ (· + ·) (ab_15 x0 x2 b t c) (tb_16 x0 x2 b t c))

theorem tb_17 (b : Fin 16) (t : Fin 2048) (c : Fin 256) : val_main_v160 (F := Ideal) x0 x2 (ix3 b t c)
    = at3 (K := 1) (N := 31) (M := 256) x2 17 c.val * padded x0 512 30 b.val (t.val + 17) c.val := by
  refine (val_main_v160_apply (F := Ideal) x0 x2 _).trans (congrArg₂ (· * ·) ?_ ?_)
  · refine (val_main_v159_apply (F := Ideal) x2 _).trans ((val_main_v158_apply (F := Ideal) x2 _).trans ((val_main_v156_apply (F := Ideal) x2 _).trans ((val_main_v155_apply (F := Ideal) x2 _).trans ?_)))
    refine (w33_at x2 _).trans ?_
    show at3 (K := 1) (N := 31) (M := 256) x2 17 (c.val % 256) = _
    rw [Nat.mod_eq_of_lt c.isLt]
  · refine (val_main_v157_apply (F := Ideal) x0 _).trans ((v34_at x0 _).trans ?_)
    show padded x0 512 30 b.val (17 + t.val) c.val = _
    rw [Nat.add_comm]
theorem ab_17 (b : Fin 16) (t : Fin 2048) (c : Fin 256) : val_main_v161 (F := Ideal) x0 x2 (ix3 b t c)
    = accR (fun j => at3 (K := 1) (N := 31) (M := 256) x2 j c.val) (fun j => padded x0 512 30 b.val (t.val + j) c.val) 17 :=
  (val_main_v161_apply (F := Ideal) x0 x2 _).trans (congrArg₂ (· + ·) (ab_16 x0 x2 b t c) (tb_17 x0 x2 b t c))

theorem tb_18 (b : Fin 16) (t : Fin 2048) (c : Fin 256) : val_main_v167 (F := Ideal) x0 x2 (ix3 b t c)
    = at3 (K := 1) (N := 31) (M := 256) x2 18 c.val * padded x0 512 30 b.val (t.val + 18) c.val := by
  refine (val_main_v167_apply (F := Ideal) x0 x2 _).trans (congrArg₂ (· * ·) ?_ ?_)
  · refine (val_main_v166_apply (F := Ideal) x2 _).trans ((val_main_v165_apply (F := Ideal) x2 _).trans ((val_main_v163_apply (F := Ideal) x2 _).trans ((val_main_v162_apply (F := Ideal) x2 _).trans ?_)))
    refine (w33_at x2 _).trans ?_
    show at3 (K := 1) (N := 31) (M := 256) x2 18 (c.val % 256) = _
    rw [Nat.mod_eq_of_lt c.isLt]
  · refine (val_main_v164_apply (F := Ideal) x0 _).trans ((v34_at x0 _).trans ?_)
    show padded x0 512 30 b.val (18 + t.val) c.val = _
    rw [Nat.add_comm]
theorem ab_18 (b : Fin 16) (t : Fin 2048) (c : Fin 256) : val_main_v168 (F := Ideal) x0 x2 (ix3 b t c)
    = accR (fun j => at3 (K := 1) (N := 31) (M := 256) x2 j c.val) (fun j => padded x0 512 30 b.val (t.val + j) c.val) 18 :=
  (val_main_v168_apply (F := Ideal) x0 x2 _).trans (congrArg₂ (· + ·) (ab_17 x0 x2 b t c) (tb_18 x0 x2 b t c))

theorem tb_19 (b : Fin 16) (t : Fin 2048) (c : Fin 256) : val_main_v174 (F := Ideal) x0 x2 (ix3 b t c)
    = at3 (K := 1) (N := 31) (M := 256) x2 19 c.val * padded x0 512 30 b.val (t.val + 19) c.val := by
  refine (val_main_v174_apply (F := Ideal) x0 x2 _).trans (congrArg₂ (· * ·) ?_ ?_)
  · refine (val_main_v173_apply (F := Ideal) x2 _).trans ((val_main_v172_apply (F := Ideal) x2 _).trans ((val_main_v170_apply (F := Ideal) x2 _).trans ((val_main_v169_apply (F := Ideal) x2 _).trans ?_)))
    refine (w33_at x2 _).trans ?_
    show at3 (K := 1) (N := 31) (M := 256) x2 19 (c.val % 256) = _
    rw [Nat.mod_eq_of_lt c.isLt]
  · refine (val_main_v171_apply (F := Ideal) x0 _).trans ((v34_at x0 _).trans ?_)
    show padded x0 512 30 b.val (19 + t.val) c.val = _
    rw [Nat.add_comm]
theorem ab_19 (b : Fin 16) (t : Fin 2048) (c : Fin 256) : val_main_v175 (F := Ideal) x0 x2 (ix3 b t c)
    = accR (fun j => at3 (K := 1) (N := 31) (M := 256) x2 j c.val) (fun j => padded x0 512 30 b.val (t.val + j) c.val) 19 :=
  (val_main_v175_apply (F := Ideal) x0 x2 _).trans (congrArg₂ (· + ·) (ab_18 x0 x2 b t c) (tb_19 x0 x2 b t c))

theorem tb_20 (b : Fin 16) (t : Fin 2048) (c : Fin 256) : val_main_v181 (F := Ideal) x0 x2 (ix3 b t c)
    = at3 (K := 1) (N := 31) (M := 256) x2 20 c.val * padded x0 512 30 b.val (t.val + 20) c.val := by
  refine (val_main_v181_apply (F := Ideal) x0 x2 _).trans (congrArg₂ (· * ·) ?_ ?_)
  · refine (val_main_v180_apply (F := Ideal) x2 _).trans ((val_main_v179_apply (F := Ideal) x2 _).trans ((val_main_v177_apply (F := Ideal) x2 _).trans ((val_main_v176_apply (F := Ideal) x2 _).trans ?_)))
    refine (w33_at x2 _).trans ?_
    show at3 (K := 1) (N := 31) (M := 256) x2 20 (c.val % 256) = _
    rw [Nat.mod_eq_of_lt c.isLt]
  · refine (val_main_v178_apply (F := Ideal) x0 _).trans ((v34_at x0 _).trans ?_)
    show padded x0 512 30 b.val (20 + t.val) c.val = _
    rw [Nat.add_comm]
theorem ab_20 (b : Fin 16) (t : Fin 2048) (c : Fin 256) : val_main_v182 (F := Ideal) x0 x2 (ix3 b t c)
    = accR (fun j => at3 (K := 1) (N := 31) (M := 256) x2 j c.val) (fun j => padded x0 512 30 b.val (t.val + j) c.val) 20 :=
  (val_main_v182_apply (F := Ideal) x0 x2 _).trans (congrArg₂ (· + ·) (ab_19 x0 x2 b t c) (tb_20 x0 x2 b t c))

theorem tb_21 (b : Fin 16) (t : Fin 2048) (c : Fin 256) : val_main_v188 (F := Ideal) x0 x2 (ix3 b t c)
    = at3 (K := 1) (N := 31) (M := 256) x2 21 c.val * padded x0 512 30 b.val (t.val + 21) c.val := by
  refine (val_main_v188_apply (F := Ideal) x0 x2 _).trans (congrArg₂ (· * ·) ?_ ?_)
  · refine (val_main_v187_apply (F := Ideal) x2 _).trans ((val_main_v186_apply (F := Ideal) x2 _).trans ((val_main_v184_apply (F := Ideal) x2 _).trans ((val_main_v183_apply (F := Ideal) x2 _).trans ?_)))
    refine (w33_at x2 _).trans ?_
    show at3 (K := 1) (N := 31) (M := 256) x2 21 (c.val % 256) = _
    rw [Nat.mod_eq_of_lt c.isLt]
  · refine (val_main_v185_apply (F := Ideal) x0 _).trans ((v34_at x0 _).trans ?_)
    show padded x0 512 30 b.val (21 + t.val) c.val = _
    rw [Nat.add_comm]
theorem ab_21 (b : Fin 16) (t : Fin 2048) (c : Fin 256) : val_main_v189 (F := Ideal) x0 x2 (ix3 b t c)
    = accR (fun j => at3 (K := 1) (N := 31) (M := 256) x2 j c.val) (fun j => padded x0 512 30 b.val (t.val + j) c.val) 21 :=
  (val_main_v189_apply (F := Ideal) x0 x2 _).trans (congrArg₂ (· + ·) (ab_20 x0 x2 b t c) (tb_21 x0 x2 b t c))

theorem tb_22 (b : Fin 16) (t : Fin 2048) (c : Fin 256) : val_main_v195 (F := Ideal) x0 x2 (ix3 b t c)
    = at3 (K := 1) (N := 31) (M := 256) x2 22 c.val * padded x0 512 30 b.val (t.val + 22) c.val := by
  refine (val_main_v195_apply (F := Ideal) x0 x2 _).trans (congrArg₂ (· * ·) ?_ ?_)
  · refine (val_main_v194_apply (F := Ideal) x2 _).trans ((val_main_v193_apply (F := Ideal) x2 _).trans ((val_main_v191_apply (F := Ideal) x2 _).trans ((val_main_v190_apply (F := Ideal) x2 _).trans ?_)))
    refine (w33_at x2 _).trans ?_
    show at3 (K := 1) (N := 31) (M := 256) x2 22 (c.val % 256) = _
    rw [Nat.mod_eq_of_lt c.isLt]
  · refine (val_main_v192_apply (F := Ideal) x0 _).trans ((v34_at x0 _).trans ?_)
    show padded x0 512 30 b.val (22 + t.val) c.val = _
    rw [Nat.add_comm]
theorem ab_22 (b : Fin 16) (t : Fin 2048) (c : Fin 256) : val_main_v196 (F := Ideal) x0 x2 (ix3 b t c)
    = accR (fun j => at3 (K := 1) (N := 31) (M := 256) x2 j c.val) (fun j => padded x0 512 30 b.val (t.val + j) c.val) 22 :=
  (val_main_v196_apply (F := Ideal) x0 x2 _).trans (congrArg₂ (· + ·) (ab_21 x0 x2 b t c) (tb_22 x0 x2 b t c))

theorem tb_23 (b : Fin 16) (t : Fin 2048) (c : Fin 256) : val_main_v202 (F := Ideal) x0 x2 (ix3 b t c)
    = at3 (K := 1) (N := 31) (M := 256) x2 23 c.val * padded x0 512 30 b.val (t.val + 23) c.val := by
  refine (val_main_v202_apply (F := Ideal) x0 x2 _).trans (congrArg₂ (· * ·) ?_ ?_)
  · refine (val_main_v201_apply (F := Ideal) x2 _).trans ((val_main_v200_apply (F := Ideal) x2 _).trans ((val_main_v198_apply (F := Ideal) x2 _).trans ((val_main_v197_apply (F := Ideal) x2 _).trans ?_)))
    refine (w33_at x2 _).trans ?_
    show at3 (K := 1) (N := 31) (M := 256) x2 23 (c.val % 256) = _
    rw [Nat.mod_eq_of_lt c.isLt]
  · refine (val_main_v199_apply (F := Ideal) x0 _).trans ((v34_at x0 _).trans ?_)
    show padded x0 512 30 b.val (23 + t.val) c.val = _
    rw [Nat.add_comm]
theorem ab_23 (b : Fin 16) (t : Fin 2048) (c : Fin 256) : val_main_v203 (F := Ideal) x0 x2 (ix3 b t c)
    = accR (fun j => at3 (K := 1) (N := 31) (M := 256) x2 j c.val) (fun j => padded x0 512 30 b.val (t.val + j) c.val) 23 :=
  (val_main_v203_apply (F := Ideal) x0 x2 _).trans (congrArg₂ (· + ·) (ab_22 x0 x2 b t c) (tb_23 x0 x2 b t c))

theorem tb_24 (b : Fin 16) (t : Fin 2048) (c : Fin 256) : val_main_v209 (F := Ideal) x0 x2 (ix3 b t c)
    = at3 (K := 1) (N := 31) (M := 256) x2 24 c.val * padded x0 512 30 b.val (t.val + 24) c.val := by
  refine (val_main_v209_apply (F := Ideal) x0 x2 _).trans (congrArg₂ (· * ·) ?_ ?_)
  · refine (val_main_v208_apply (F := Ideal) x2 _).trans ((val_main_v207_apply (F := Ideal) x2 _).trans ((val_main_v205_apply (F := Ideal) x2 _).trans ((val_main_v204_apply (F := Ideal) x2 _).trans ?_)))
    refine (w33_at x2 _).trans ?_
    show at3 (K := 1) (N := 31) (M := 256) x2 24 (c.val % 256) = _
    rw [Nat.mod_eq_of_lt c.isLt]
  · refine (val_main_v206_apply (F := Ideal) x0 _).trans ((v34_at x0 _).trans ?_)
    show padded x0 512 30 b.val (24 + t.val) c.val = _
    rw [Nat.add_comm]
theorem ab_24 (b : Fin 16) (t : Fin 2048) (c : Fin 256) : val_main_v210 (F := Ideal) x0 x2 (ix3 b t c)
    = accR (fun j => at3 (K := 1) (N := 31) (M := 256) x2 j c.val) (fun j => padded x0 512 30 b.val (t.val + j) c.val) 24 :=
  (val_main_v210_apply (F := Ideal) x0 x2 _).trans (congrArg₂ (· + ·) (ab_23 x0 x2 b t c) (tb_24 x0 x2 b t c))

theorem tb_25 (b : Fin 16) (t : Fin 2048) (c : Fin 256) : val_main_v216 (F := Ideal) x0 x2 (ix3 b t c)
    = at3 (K := 1) (N := 31) (M := 256) x2 25 c.val * padded x0 512 30 b.val (t.val + 25) c.val := by
  refine (val_main_v216_apply (F := Ideal) x0 x2 _).trans (congrArg₂ (· * ·) ?_ ?_)
  · refine (val_main_v215_apply (F := Ideal) x2 _).trans ((val_main_v214_apply (F := Ideal) x2 _).trans ((val_main_v212_apply (F := Ideal) x2 _).trans ((val_main_v211_apply (F := Ideal) x2 _).trans ?_)))
    refine (w33_at x2 _).trans ?_
    show at3 (K := 1) (N := 31) (M := 256) x2 25 (c.val % 256) = _
    rw [Nat.mod_eq_of_lt c.isLt]
  · refine (val_main_v213_apply (F := Ideal) x0 _).trans ((v34_at x0 _).trans ?_)
    show padded x0 512 30 b.val (25 + t.val) c.val = _
    rw [Nat.add_comm]
theorem ab_25 (b : Fin 16) (t : Fin 2048) (c : Fin 256) : val_main_v217 (F := Ideal) x0 x2 (ix3 b t c)
    = accR (fun j => at3 (K := 1) (N := 31) (M := 256) x2 j c.val) (fun j => padded x0 512 30 b.val (t.val + j) c.val) 25 :=
  (val_main_v217_apply (F := Ideal) x0 x2 _).trans (congrArg₂ (· + ·) (ab_24 x0 x2 b t c) (tb_25 x0 x2 b t c))

theorem tb_26 (b : Fin 16) (t : Fin 2048) (c : Fin 256) : val_main_v223 (F := Ideal) x0 x2 (ix3 b t c)
    = at3 (K := 1) (N := 31) (M := 256) x2 26 c.val * padded x0 512 30 b.val (t.val + 26) c.val := by
  refine (val_main_v223_apply (F := Ideal) x0 x2 _).trans (congrArg₂ (· * ·) ?_ ?_)
  · refine (val_main_v222_apply (F := Ideal) x2 _).trans ((val_main_v221_apply (F := Ideal) x2 _).trans ((val_main_v219_apply (F := Ideal) x2 _).trans ((val_main_v218_apply (F := Ideal) x2 _).trans ?_)))
    refine (w33_at x2 _).trans ?_
    show at3 (K := 1) (N := 31) (M := 256) x2 26 (c.val % 256) = _
    rw [Nat.mod_eq_of_lt c.isLt]
  · refine (val_main_v220_apply (F := Ideal) x0 _).trans ((v34_at x0 _).trans ?_)
    show padded x0 512 30 b.val (26 + t.val) c.val = _
    rw [Nat.add_comm]
theorem ab_26 (b : Fin 16) (t : Fin 2048) (c : Fin 256) : val_main_v224 (F := Ideal) x0 x2 (ix3 b t c)
    = accR (fun j => at3 (K := 1) (N := 31) (M := 256) x2 j c.val) (fun j => padded x0 512 30 b.val (t.val + j) c.val) 26 :=
  (val_main_v224_apply (F := Ideal) x0 x2 _).trans (congrArg₂ (· + ·) (ab_25 x0 x2 b t c) (tb_26 x0 x2 b t c))

theorem tb_27 (b : Fin 16) (t : Fin 2048) (c : Fin 256) : val_main_v230 (F := Ideal) x0 x2 (ix3 b t c)
    = at3 (K := 1) (N := 31) (M := 256) x2 27 c.val * padded x0 512 30 b.val (t.val + 27) c.val := by
  refine (val_main_v230_apply (F := Ideal) x0 x2 _).trans (congrArg₂ (· * ·) ?_ ?_)
  · refine (val_main_v229_apply (F := Ideal) x2 _).trans ((val_main_v228_apply (F := Ideal) x2 _).trans ((val_main_v226_apply (F := Ideal) x2 _).trans ((val_main_v225_apply (F := Ideal) x2 _).trans ?_)))
    refine (w33_at x2 _).trans ?_
    show at3 (K := 1) (N := 31) (M := 256) x2 27 (c.val % 256) = _
    rw [Nat.mod_eq_of_lt c.isLt]
  · refine (val_main_v227_apply (F := Ideal) x0 _).trans ((v34_at x0 _).trans ?_)
    show padded x0 512 30 b.val (27 + t.val) c.val = _
    rw [Nat.add_comm]
theorem ab_27 (b : Fin 16) (t : Fin 2048) (c : Fin 256) : val_main_v231 (F := Ideal) x0 x2 (ix3 b t c)
    = accR (fun j => at3 (K := 1) (N := 31) (M := 256) x2 j c.val) (fun j => padded x0 512 30 b.val (t.val + j) c.val) 27 :=
  (val_main_v231_apply (F := Ideal) x0 x2 _).trans (congrArg₂ (· + ·) (ab_26 x0 x2 b t c) (tb_27 x0 x2 b t c))

theorem tb_28 (b : Fin 16) (t : Fin 2048) (c : Fin 256) : val_main_v237 (F := Ideal) x0 x2 (ix3 b t c)
    = at3 (K := 1) (N := 31) (M := 256) x2 28 c.val * padded x0 512 30 b.val (t.val + 28) c.val := by
  refine (val_main_v237_apply (F := Ideal) x0 x2 _).trans (congrArg₂ (· * ·) ?_ ?_)
  · refine (val_main_v236_apply (F := Ideal) x2 _).trans ((val_main_v235_apply (F := Ideal) x2 _).trans ((val_main_v233_apply (F := Ideal) x2 _).trans ((val_main_v232_apply (F := Ideal) x2 _).trans ?_)))
    refine (w33_at x2 _).trans ?_
    show at3 (K := 1) (N := 31) (M := 256) x2 28 (c.val % 256) = _
    rw [Nat.mod_eq_of_lt c.isLt]
  · refine (val_main_v234_apply (F := Ideal) x0 _).trans ((v34_at x0 _).trans ?_)
    show padded x0 512 30 b.val (28 + t.val) c.val = _
    rw [Nat.add_comm]
theorem ab_28 (b : Fin 16) (t : Fin 2048) (c : Fin 256) : val_main_v238 (F := Ideal) x0 x2 (ix3 b t c)
    = accR (fun j => at3 (K := 1) (N := 31) (M := 256) x2 j c.val) (fun j => padded x0 512 30 b.val (t.val + j) c.val) 28 :=
  (val_main_v238_apply (F := Ideal) x0 x2 _).trans (congrArg₂ (· + ·) (ab_27 x0 x2 b t c) (tb_28 x0 x2 b t c))

theorem tb_29 (b : Fin 16) (t : Fin 2048) (c : Fin 256) : val_main_v244 (F := Ideal) x0 x2 (ix3 b t c)
    = at3 (K := 1) (N := 31) (M := 256) x2 29 c.val * padded x0 512 30 b.val (t.val + 29) c.val := by
  refine (val_main_v244_apply (F := Ideal) x0 x2 _).trans (congrArg₂ (· * ·) ?_ ?_)
  · refine (val_main_v243_apply (F := Ideal) x2 _).trans ((val_main_v242_apply (F := Ideal) x2 _).trans ((val_main_v240_apply (F := Ideal) x2 _).trans ((val_main_v239_apply (F := Ideal) x2 _).trans ?_)))
    refine (w33_at x2 _).trans ?_
    show at3 (K := 1) (N := 31) (M := 256) x2 29 (c.val % 256) = _
    rw [Nat.mod_eq_of_lt c.isLt]
  · refine (val_main_v241_apply (F := Ideal) x0 _).trans ((v34_at x0 _).trans ?_)
    show padded x0 512 30 b.val (29 + t.val) c.val = _
    rw [Nat.add_comm]
theorem ab_29 (b : Fin 16) (t : Fin 2048) (c : Fin 256) : val_main_v245 (F := Ideal) x0 x2 (ix3 b t c)
    = accR (fun j => at3 (K := 1) (N := 31) (M := 256) x2 j c.val) (fun j => padded x0 512 30 b.val (t.val + j) c.val) 29 :=
  (val_main_v245_apply (F := Ideal) x0 x2 _).trans (congrArg₂ (· + ·) (ab_28 x0 x2 b t c) (tb_29 x0 x2 b t c))

theorem tb_30 (b : Fin 16) (t : Fin 2048) (c : Fin 256) : val_main_v251 (F := Ideal) x0 x2 (ix3 b t c)
    = at3 (K := 1) (N := 31) (M := 256) x2 30 c.val * padded x0 512 30 b.val (t.val + 30) c.val := by
  refine (val_main_v251_apply (F := Ideal) x0 x2 _).trans (congrArg₂ (· * ·) ?_ ?_)
  · refine (val_main_v250_apply (F := Ideal) x2 _).trans ((val_main_v249_apply (F := Ideal) x2 _).trans ((val_main_v247_apply (F := Ideal) x2 _).trans ((val_main_v246_apply (F := Ideal) x2 _).trans ?_)))
    refine (w33_at x2 _).trans ?_
    show at3 (K := 1) (N := 31) (M := 256) x2 30 (c.val % 256) = _
    rw [Nat.mod_eq_of_lt c.isLt]
  · refine (val_main_v248_apply (F := Ideal) x0 _).trans ((v34_at x0 _).trans ?_)
    show padded x0 512 30 b.val (30 + t.val) c.val = _
    rw [Nat.add_comm]
theorem ab_30 (b : Fin 16) (t : Fin 2048) (c : Fin 256) : val_main_v252 (F := Ideal) x0 x2 (ix3 b t c)
    = accR (fun j => at3 (K := 1) (N := 31) (M := 256) x2 j c.val) (fun j => padded x0 512 30 b.val (t.val + j) c.val) 30 :=
  (val_main_v252_apply (F := Ideal) x0 x2 _).trans (congrArg₂ (· + ·) (ab_29 x0 x2 b t c) (tb_30 x0 x2 b t c))

/-- The reference's first convolution, gated. -/
theorem v31_at (b : Fin 16) (t : Fin 2048) (c : Fin 256) : val_main_v31 (F := Ideal) x0 x1 (ix3 b t c)
    = gated (fun n ch => at2 x0 (b.val * 2048 + n) ch) (at3 (K := 1) (N := 3) (M := 256) x1) (t.val % 16 * 128 + t.val / 16) c.val := by
  refine (val_main_v31_apply (F := Ideal) x0 x1 _).trans (congrArg₂ (· * ·) (v3_at x0 b t c) ((aa_2 x0 x1 b t c).trans ?_))
  refine accR_eq _ _ _ 2 fun s hs => ?_
  rw [show (t.val % 16 * 128 + t.val / 16) / 128 = t.val % 16 by omega,
    show (t.val % 16 * 128 + t.val / 16) % 128 = t.val / 16 by omega]
  exact tap_eq x0 256 2 b.val t.val c.val s t.isLt hs (by decide)

/-- The reference's second convolution with its bias. -/
theorem v257_at (b : Fin 16) (t : Fin 2048) (c : Fin 256) : val_main_v257 (F := Ideal) x0 x2 x3 (ix3 b t c)
    = pre (fun n ch => at2 x0 (b.val * 2048 + n) ch) (at3 (K := 1) (N := 31) (M := 256) x2) (at2 x3) (t.val % 16) (t.val / 16) c.val := by
  refine (val_main_v257_apply (F := Ideal) x0 x2 x3 _).trans (congrArg₂ (· + ·) ((ab_30 x0 x2 b t c).trans ?_) ?_)
  · refine accR_eq _ _ _ 30 fun s hs => ?_
    exact tap_eq x0 512 30 b.val t.val c.val s t.isLt hs (by decide)
  · rw [at2_of (N := 2) (M := 256) _ _ _ (by decide) c.isLt]
    pointwise [val_main_v253, val_main_v254, val_main_v255, val_main_v256]
    try blk_point []

/-- Layer normalisation and the sigmoid-weighted unit over a row of the second convolution. -/
theorem v286_at (b : Fin 16) (t : Fin 2048) (c : Fin 256) : val_main_v286 (F := Ideal) x0 x2 x3 x4 x5 (ix3 b t c)
    = lnsilu (fun e => val_main_v257 (F := Ideal) x0 x2 x3 (ix3 b t e)) (at2 x4 0 c.val) (at2 x5 0 c.val) c := by
  rw [at2_of (N := 2) (M := 256) x4 _ _ (by decide) c.isLt, at2_of (N := 2) (M := 256) x5 _ _ (by decide) c.isLt]
  generalize hv : val_main_v257 (F := Ideal) x0 x2 x3 = v
  pointwise [hv, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_cst_2, val_main_cst_3, val_main_cst_4, val_main_cst_5, val_main_cst_6, val_main_call2_v0, val_main_call2_v1, val_main_call2_v2, val_main_call2_v3, val_main_call2_v4, val_main_call2_v5, val_main_call2_cst, val_main_call2_cst_0, lnsilu, Ideal.logistic]
  try blk_point []

/-- The places of the flat indices in the class-major layout. -/
theorem flat (r c : ℕ) (hc : c < 512) (a q p e : ℕ) (ha : a = (r * 512 + c) / 1048576)
    (hq : q = (r * 512 + c) / 65536 % 16) (hp : p = (r * 512 + c) / 512 % 128) (he : e = (r * 512 + c) % 512) :
    (((a * 128 + p) * 16 + q) * 512 + e) / 1048576 = r / 2048
      ∧ (((a * 128 + p) * 16 + q) * 512 + e) / 512 % 2048 = r % 128 * 16 + r / 128 % 16
      ∧ (((a * 128 + p) * 16 + q) * 512 + e) % 512 = c := by
  have ea : a = r / 2048 := by omega
  have eq : q = r / 128 % 16 := by omega
  have ep : p = r % 128 := by omega
  have ee : e = c := by omega
  clear ha hq hp he
  subst ee
  have h1 : p < 128 := by omega
  have h2 : q < 16 := by omega
  rw [← ea, ← eq, ← ep]
  refine ⟨by omega, by omega, by omega⟩

/-- The row of the result read back through the class-major layout. -/
theorem v291_at (r : Fin 32768) (c : Fin 512) : val_main_v291 (F := Ideal) x0 x1 x2 x3 x4 x5 (ix2 r c)
    = val_main_v287 (F := Ideal) x0 x1 x2 x3 x4 x5
        (ix3 ⟨r.val / 2048, by omega⟩ ⟨r.val % 128 * 16 + r.val / 128 % 16, by omega⟩ c) := by
  refine (val_main_v291_apply (F := Ideal) x0 x1 x2 x3 x4 x5 _).trans ?_
  refine (val_main_v290_apply (F := Ideal) x0 x1 x2 x3 x4 x5 _).trans ?_
  refine (val_main_v289_apply (F := Ideal) x0 x1 x2 x3 x4 x5 _).trans ?_
  refine (val_main_v288_apply (F := Ideal) x0 x1 x2 x3 x4 x5 _).trans ?_
  generalize val_main_v287 (F := Ideal) x0 x1 x2 x3 x4 x5 = y
  obtain ⟨h1, h2, h3⟩ := flat r.val c.val c.isLt _ _ _ _ rfl rfl rfl rfl
  exact congrArg y ((eq_ix3 _).trans ((ix3_inj ..).2 ⟨Fin.ext h1, Fin.ext h2, Fin.ext h3⟩))

/-- The time at row `r` of the class-major layout, by class and place. -/
theorem place (r : ℕ) : (r % 128 * 16 + r / 128 % 16) % 16 = r % 2048 / 128
    ∧ (r % 128 * 16 + r / 128 % 16) / 16 = r % 2048 % 128
    ∧ (r % 128 * 16 + r / 128 % 16) % 16 * 128 + (r % 128 * 16 + r / 128 % 16) / 16 = r % 2048 := by
  have h1 : r / 128 % 16 = r % 2048 / 128 := by omega
  have h2 : r % 128 = r % 2048 % 128 := by omega
  have h3 : r % 2048 < 2048 := Nat.mod_lt _ (by decide)
  rw [h1, h2]
  generalize r % 2048 = n at h3
  have hq : (n % 128 * 16 + n / 128) % 16 = n / 128 := by
    have h4 : n / 128 < 16 := by omega
    generalize n / 128 = a at h4
    generalize n % 128 = b
    omega
  have hp : (n % 128 * 16 + n / 128) / 16 = n % 128 := by
    have h4 : n / 128 < 16 := by omega
    generalize n / 128 = a at h4
    generalize n % 128 = b
    omega
  refine ⟨hq, hp, ?_⟩
  rw [hq, hp]
  omega

/-- The reference is the kernel's result. -/
theorem ref : val_main_v291 (F := Ideal) x0 x1 x2 x3 x4 x5 = Cert.KernelIdeal.Hand.G x0 x1 x2 x3 x4 x5 := by
  funext j
  idx_vars j
  rw [v291_at]
  show _ = outV _ _ _ _ _ _ (ix2 _ j1)
  obtain ⟨hq, hp, hn⟩ := place j0.val
  pointwise [val_main_v287]
  unfold outV
  by_cases h : j1.val < 256
  · refine (dif_pos h).trans (Eq.trans ?_ (dif_pos h).symm)
    refine (v31_at x0 x1 _ _ ⟨j1.val, h⟩).trans ?_
    exact congrArg (fun n => gated _ _ n j1.val) hn
  · refine (dif_neg h).trans (Eq.trans ?_ (dif_neg h).symm)
    refine (v286_at x0 x2 x3 x4 x5 _ _ ⟨j1.val - 256, by omega⟩).trans ?_
    refine congrArg (fun v => lnsilu v _ _ _) (funext fun e => ?_)
    refine (v257_at x0 x2 x3 _ _ e).trans ?_
    exact congrArg₂ (fun q p => pre _ _ _ q p e.val) hq hp

end Cert.ReferenceIdeal.Hand
end
-- ==== Proof.Rows.lean ====
/-
  The layer's arithmetic on ONE row, over the extended reals: what both the kernels and the reference programs are
  read down to. A row is a function of its feature; a weight a function of its two indices.
-/
module

public import Idealize.ShloMosaic.Lib.Pointwise

@[expose] public section

noncomputable section

open Idealize.ShloMosaic

namespace Rows

/-- The root-mean-square normalisation of a row of 1024 features, times the gain. -/
def rms (x g : Fin 1024 → EReal) (c : Fin 1024) : EReal :=
  x c * Ideal.rsqrt (Ideal.div (∑ k, x k * x k) (Ideal.ofBits .f32 1149239296#32) + Ideal.ofBits .f32 897988541#32) * g c

/-- A row times a matrix. -/
def dot {n p : Nat} (x : Fin n → EReal) (w : Fin n → Fin p → EReal) (c : Fin p) : EReal := ∑ k, x k * w k c

/-- The gated feed-forward of a row: the normalised row through the two up-projections, one gated by the sigmoid of
    itself, and down again; half of it added to the row. -/
def ffn (x g : Fin 1024 → EReal) (wg wu : Fin 1024 → Fin 2816 → EReal) (wd : Fin 2816 → Fin 1024 → EReal) (c : Fin 1024) : EReal :=
  x c + Ideal.ofBits .f32 1056964608#32 *
    ∑ k, dot (rms x g) wg k * Ideal.logistic (dot (rms x g) wg k) * dot (rms x g) wu k * wd k c

/-- The row through the two halves of the output projection, one after the other. -/
def mix (x : Fin 1024 → EReal) (ya yc : Fin 512 → EReal) (wa wc : Fin 512 → Fin 1024 → EReal) (c : Fin 1024) : EReal :=
  x c + dot ya wa c + dot yc wc c

/-- The last feed-forward of the model: the mixers' outputs projected into the row, the feed-forward, and the final
    normalisation. -/
def last (x : Fin 1024 → EReal) (ya yc : Fin 512 → EReal) (wa wc : Fin 512 → Fin 1024 → EReal) (g : Fin 1024 → EReal)
    (wg wu : Fin 1024 → Fin 2816 → EReal) (wd : Fin 2816 → Fin 1024 → EReal) (fg : Fin 1024 → EReal) (c : Fin 1024) : EReal :=
  rms (ffn (mix x ya yc wa wc) g wg wu wd) fg c

/-- The normalised row through the input projection. -/
def proj (x g : Fin 1024 → EReal) (w : Fin 1024 → Fin 2816 → EReal) (n : Fin 2816) : EReal := dot (rms x g) w n

/-- What the input projection hands the convolutions: the gate, the gated value of the short convolution, the gated
    value of the long one. -/
def rest (z : Fin 2816 → EReal) (n : Fin 768) : EReal :=
  if n.val < 256 then z ⟨1536 + n.val, by omega⟩
  else if n.val < 512 then z ⟨1536 + n.val, by omega⟩ * z ⟨1792 + n.val, by omega⟩
  else z ⟨1792 + n.val, by omega⟩ * Ideal.logistic (z ⟨2048 + n.val, by omega⟩)

theorem dot_congr {K N N' : ℕ} {h h' : Fin K → EReal} {w : Fin K → Fin N → EReal} {w' : Fin K → Fin N' → EReal} {c : Fin N} {c' : Fin N'}
    (hh : ∀ k, h k = h' k) (hw : ∀ k, w k c = w' k c') : dot h w c = dot h' w' c' :=
  Finset.sum_congr rfl fun k _ => by rw [hh, hw]
theorem proj_congr {x x' g g' : Fin 1024 → EReal} {w w' : Fin 1024 → Fin 2816 → EReal} (hx : ∀ k, x k = x' k)
    (hg : ∀ k, g k = g' k) (hw : ∀ i k, w i k = w' i k) : proj x g w = proj x' g' w' := by
  obtain rfl : x = x' := funext hx
  obtain rfl : g = g' := funext hg
  obtain rfl : w = w' := funext fun i => funext (hw i)
  rfl

theorem last_congr {x x' g g' fg fg' : Fin 1024 → EReal} {ya ya' yc yc' : Fin 512 → EReal} {wa wa' wc wc' : Fin 512 → Fin 1024 → EReal}
    {wg wg' wu wu' : Fin 1024 → Fin 2816 → EReal} {wd wd' : Fin 2816 → Fin 1024 → EReal}
    {c c' : Fin 1024} (hx : ∀ k, x k = x' k) (hya : ∀ k, ya k = ya' k) (hyc : ∀ k, yc k = yc' k)
    (hwa : ∀ i k, wa i k = wa' i k) (hwc : ∀ i k, wc i k = wc' i k) (hg : ∀ k, g k = g' k) (hwg : ∀ i k, wg i k = wg' i k)
    (hwu : ∀ i k, wu i k = wu' i k) (hwd : ∀ i k, wd i k = wd' i k) (hfg : ∀ k, fg k = fg' k) (hc : (c : ℕ) = c') :
    last x ya yc wa wc g wg wu wd fg c = last x' ya' yc' wa' wc' g' wg' wu' wd' fg' c' := by
  obtain rfl : x = x' := funext hx
  obtain rfl : ya = ya' := funext hya
  obtain rfl : yc = yc' := funext hyc
  obtain rfl : wa = wa' := funext fun i => funext (hwa i)
  obtain rfl : wc = wc' := funext fun i => funext (hwc i)
  obtain rfl : g = g' := funext hg
  obtain rfl : wg = wg' := funext fun i => funext (hwg i)
  obtain rfl : wu = wu' := funext fun i => funext (hwu i)
  obtain rfl : wd = wd' := funext fun i => funext (hwd i)
  obtain rfl : fg = fg' := funext hfg
  obtain rfl : c = c' := Fin.ext hc
  rfl

theorem mix_congr {x x' : Fin 1024 → EReal} {ya ya' yc yc' : Fin 512 → EReal} {wa wa' wc wc' : Fin 512 → Fin 1024 → EReal}
    (hx : ∀ k, x k = x' k) (hya : ∀ k, ya k = ya' k) (hyc : ∀ k, yc k = yc' k)
    (hwa : ∀ i k, wa i k = wa' i k) (hwc : ∀ i k, wc i k = wc' i k) (c : Fin 1024) : mix x ya yc wa wc c = mix x' ya' yc' wa' wc' c := by
  obtain rfl : x = x' := funext hx
  obtain rfl : ya = ya' := funext hya
  obtain rfl : yc = yc' := funext hyc
  obtain rfl : wa = wa' := funext fun i => funext (hwa i)
  obtain rfl : wc = wc' := funext fun i => funext (hwc i)
  rfl

theorem ffn_congr {x x' g g' : Fin 1024 → EReal} {wg wg' wu wu' : Fin 1024 → Fin 2816 → EReal} {wd wd' : Fin 2816 → Fin 1024 → EReal}
    {c c' : Fin 1024} (hx : ∀ k, x k = x' k) (hg : ∀ k, g k = g' k) (hwg : ∀ i k, wg i k = wg' i k)
    (hwu : ∀ i k, wu i k = wu' i k) (hwd : ∀ i k, wd i k = wd' i k) (hc : (c : ℕ) = c') :
    ffn x g wg wu wd c = ffn x' g' wg' wu' wd' c' := by
  obtain rfl : x = x' := funext hx
  obtain rfl : g = g' := funext hg
  obtain rfl : wg = wg' := funext fun i => funext (hwg i)
  obtain rfl : wu = wu' := funext fun i => funext (hwu i)
  obtain rfl : wd = wd' := funext fun i => funext (hwd i)
  obtain rfl : c = c' := Fin.ext hc
  rfl

end Rows
end
-- ==== Proof.Inproj.lean ====
/-
  The input projection of layer 0: the kernel's two result arrays are, row by row, `Rows.proj` (the queries, keys and
  values) and `Rows.rest` of it (what the convolutions read); and so are the reference's.
-/
module

public import proofs.«01_k».proof.Proof.Gen.InprojIdeal.Value
public import proofs.«01_k».proof.Proof.Gen.InprojRefIdeal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Hand
open Cert.InprojIdeal Cert.InprojIdeal.Gen

section pieces
variable (v : Vec Ideal S256x1024 .f32) (g : Vec Ideal S1x1024 .f32) (h : FVec Ideal S256x1024 .bf16)
  (w : Vec Ideal S1x1024x1536 .bf16) (u : Vec Ideal S1x1024x1280 .bf16) (r : Fin 256)

/-- The normalised rows of the four pieces. -/
theorem hid0 (k : Fin 1024) : k0_pay2 v g (ix2 r k) = Rows.rms (fun k => v (ix2 r k)) (fun k => g (ix2 0 k)) k := by
  pointwise [k0_pay2, Rows.rms]
theorem hid1 (k : Fin 1024) : k0_pay3 v g (ix2 r k) = Rows.rms (fun k => v (ix2 r k)) (fun k => g (ix2 0 k)) k := by
  pointwise [k0_pay3, Rows.rms]
theorem hid2 (k : Fin 1024) : k0_pay7 v (k0_pay4 g) (k0_pay5 v) k0_pay6 (ix2 r k)
    = Rows.rms (fun k => v (ix2 r k)) (fun k => g (ix2 0 k)) k := by
  pointwise [k0_pay7, k0_pay4, k0_pay5, k0_pay6, Rows.rms]
theorem hid3 (k : Fin 1024) : k0_pay8 v g (ix2 r k) = Rows.rms (fun k => v (ix2 r k)) (fun k => g (ix2 0 k)) k := by
  pointwise [k0_pay8, Rows.rms]

/-- Hidden rows times the first 1536 columns. -/
theorem qkv0 (c : Fin 1536) : k0_pay9 h w (ix2 r c) = Rows.dot (fun k => h (ix2 r k)) (fun i k => w (ix3 0 i k)) c := by
  pointwise [k0_pay9, Rows.dot]
theorem qkv1 (c : Fin 1536) : k0_pay14 h w (ix2 r c) = Rows.dot (fun k => h (ix2 r k)) (fun i k => w (ix3 0 i k)) c := by
  pointwise [k0_pay14, Rows.dot]
theorem qkv2 (c : Fin 1536) : k0_pay19 h w (ix2 r c) = Rows.dot (fun k => h (ix2 r k)) (fun i k => w (ix3 0 i k)) c := by
  pointwise [k0_pay19, Rows.dot]
theorem qkv3 (c : Fin 1536) : k0_pay24 h w (ix2 r c) = Rows.dot (fun k => h (ix2 r k)) (fun i k => w (ix3 0 i k)) c := by
  pointwise [k0_pay24, Rows.dot]

/-- Hidden rows times the last 1280 columns. -/
abbrev tail (h : FVec Ideal S256x1024 .bf16) (u : Vec Ideal S1x1024x1280 .bf16) (r : Fin 256) (n : Fin 1280) : EReal :=
  Rows.dot (fun k => h (ix2 r k)) (fun i k => u (ix3 0 i k)) n

theorem rest00 (c : Fin 256) : k0_pay11 h u (ix2 r c)
    = tail h u r ⟨c.val, by omega⟩ := by
  pointwise [k0_pay11, k0_pay10, tail, Rows.dot]
theorem rest01 (c : Fin 256) : k0_pay12 h u (ix2 r c)
    = tail h u r ⟨256 + c.val, by omega⟩ * tail h u r ⟨512 + c.val, by omega⟩ := by
  pointwise [k0_pay12, k0_pay10, tail, Rows.dot]
theorem rest02 (c : Fin 256) : k0_pay13 (k0_pay10 h u) (ix2 r c)
    = tail h u r ⟨768 + c.val, by omega⟩ * Ideal.logistic (tail h u r ⟨1024 + c.val, by omega⟩) := by
  pointwise [k0_pay13, k0_pay10, tail, Rows.dot]
theorem rest10 (c : Fin 256) : k0_pay16 h u (ix2 r c)
    = tail h u r ⟨c.val, by omega⟩ := by
  pointwise [k0_pay16, k0_pay15, tail, Rows.dot]
theorem rest11 (c : Fin 256) : k0_pay17 h u (ix2 r c)
    = tail h u r ⟨256 + c.val, by omega⟩ * tail h u r ⟨512 + c.val, by omega⟩ := by
  pointwise [k0_pay17, k0_pay15, tail, Rows.dot]
theorem rest12 (c : Fin 256) : k0_pay18 h u (ix2 r c)
    = tail h u r ⟨768 + c.val, by omega⟩ * Ideal.logistic (tail h u r ⟨1024 + c.val, by omega⟩) := by
  pointwise [k0_pay18, k0_pay15, tail, Rows.dot]
theorem rest20 (c : Fin 256) : k0_pay21 h u (ix2 r c)
    = tail h u r ⟨c.val, by omega⟩ := by
  pointwise [k0_pay21, k0_pay20, tail, Rows.dot]
theorem rest21 (c : Fin 256) : k0_pay22 h u (ix2 r c)
    = tail h u r ⟨256 + c.val, by omega⟩ * tail h u r ⟨512 + c.val, by omega⟩ := by
  pointwise [k0_pay22, k0_pay20, tail, Rows.dot]
theorem rest22 (c : Fin 256) : k0_pay23 h u (ix2 r c)
    = tail h u r ⟨768 + c.val, by omega⟩ * Ideal.logistic (tail h u r ⟨1024 + c.val, by omega⟩) := by
  pointwise [k0_pay23, k0_pay20, tail, Rows.dot]
theorem rest30 (c : Fin 256) : k0_pay26 h u (ix2 r c)
    = tail h u r ⟨c.val, by omega⟩ := by
  pointwise [k0_pay26, k0_pay25, tail, Rows.dot]
theorem rest31 (c : Fin 256) : k0_pay27 h u (ix2 r c)
    = tail h u r ⟨256 + c.val, by omega⟩ * tail h u r ⟨512 + c.val, by omega⟩ := by
  pointwise [k0_pay27, k0_pay25, tail, Rows.dot]
theorem rest32 (c : Fin 256) : k0_pay1 (k0_pay28 h u) (k0_pay29 h u) (ix2 r c)
    = tail h u r ⟨768 + c.val, by omega⟩ * Ideal.logistic (tail h u r ⟨1024 + c.val, by omega⟩) := by
  pointwise [k0_pay1, k0_pay28, k0_pay29, k0_pay25, tail, Rows.dot]
end pieces

/-- The whole-array values. -/
def G3 (X : FVec Ideal S32768x1024 .f32) (g : FVec Ideal S2x1024 .f32) (w : FVec Ideal S2x1024x2816 .f32) : FVec Ideal S32768x1536 .f32 :=
  fun j => Rows.proj (fun k => X (ix2 (j 0) k)) (fun k => g (ix2 0 k)) (fun i k => w (ix3 0 i k)) ⟨(j 1 : ℕ), (j 1).isLt.trans (by decide)⟩
def G4 (X : FVec Ideal S32768x1024 .f32) (g : FVec Ideal S2x1024 .f32) (w : FVec Ideal S2x1024x2816 .f32) : FVec Ideal S32768x768 .f32 :=
  fun j => Rows.rest (Rows.proj (fun k => X (ix2 (j 0) k)) (fun k => g (ix2 0 k)) (fun i k => w (ix3 0 i k))) (j 1)

variable (m : (ℓ : Loc nD τ sig) → Buf (Elt Ideal) ℓ)

theorem idx : ∀ t : Fin cfg0.N, win0_0.index t = ![t.val, 0] ∧ win0_1.index t = ![0, 0]
    ∧ win0_2.index t = ![0, 0, 0] ∧ win0_3.index t = ![t.val, 0] ∧ win0_4.index t = ![t.val, 0] :=
  (by decide +kernel : ∀ t : Fin grid0.N, _)

theorem blk0 (c : Dev nD) (t : Fin cfg0.N) (r : Fin 1024) (k : Fin 1024) :
    iblk m c 0 t (ix2 r k) = m ((c : Thread nD τ).loc main_arg0)
      (ix2 (⟨t.val * 1024 + r.val, by have : t.val < 32 := t.isLt; omega⟩ : Fin 32768) k) := by
  blk_point [iblk, V, idx t]
theorem blk1 (c : Dev nD) (t : Fin cfg0.N) (k : Fin 1024) :
    iblk m c 1 t (ix2 0 k) = m ((c : Thread nD τ).loc main_arg1) (ix2 0 k) := by
  blk_point [iblk, V, idx t]
theorem blk2 (c : Dev nD) (t : Fin cfg0.N) (i : Fin 1024) (k : Fin 2816) :
    iblk m c 2 t (ix3 0 i k) = m ((c : Thread nD τ).loc main_arg2) (ix3 0 i k) := by
  blk_point [iblk, V, idx t]

theorem ldg (B : Vec Ideal S1x1024 .f32) (k : Fin 1024) : View.ld B r0_1 (ix2 0 k) = B (ix2 0 k) := by pointwise
theorem ldw (B : Vec Ideal S1x1024x2816 .bf16) (i : Fin 1024) (k : Fin 1536) :
    View.ld B r0_5 (ix3 0 i k) = B (ix3 0 i (⟨k.val, by omega⟩ : Fin 2816)) := by pointwise
theorem ldu (B : Vec Ideal S1x1024x2816 .bf16) (i : Fin 1024) (k : Fin 1280) :
    View.ld B r0_7 (ix3 0 i k) = B (ix3 0 i (⟨1536 + k.val, by omega⟩ : Fin 2816)) := by pointwise
theorem ldx0 (B : Vec Ideal S1024x1024 .f32) (r : Fin 256) (k : Fin 1024) :
    View.ld B r0_0 (ix2 r k) = B (ix2 (⟨0 + r.val, by omega⟩ : Fin 1024) k) := by pointwise
theorem ldx1 (B : Vec Ideal S1024x1024 .f32) (r : Fin 256) (k : Fin 1024) :
    View.ld B r0_2 (ix2 r k) = B (ix2 (⟨256 + r.val, by omega⟩ : Fin 1024) k) := by pointwise
theorem ldx2 (B : Vec Ideal S1024x1024 .f32) (r : Fin 256) (k : Fin 1024) :
    View.ld B r0_3 (ix2 r k) = B (ix2 (⟨512 + r.val, by omega⟩ : Fin 1024) k) := by pointwise
theorem ldx3 (B : Vec Ideal S1024x1024 .f32) (r : Fin 256) (k : Fin 1024) :
    View.ld B r0_4 (ix2 r k) = B (ix2 (⟨768 + r.val, by omega⟩ : Fin 1024) k) := by pointwise

/-- Row `R` of point `t`'s block, projected. -/
abbrev Z (c : Dev nD) (t : Fin cfg0.N) (R : Fin 1024) : Fin 2816 → EReal :=
  Rows.proj (fun k => iblk m c 0 t (ix2 R k)) (fun k => iblk m c 1 t (ix2 0 k)) (fun i k => iblk m c 2 t (ix3 0 i k))

theorem Z_eq (c : Dev nD) (t : Fin cfg0.N) (R : Fin 1024) (J : Fin 32768) (hJ : (J : ℕ) = t.val * 1024 + R.val) :
    Z m c t R = Rows.proj (fun k => m ((c : Thread nD τ).loc main_arg0) (ix2 J k)) (fun k => m ((c : Thread nD τ).loc main_arg1) (ix2 0 k))
      (fun i k => m ((c : Thread nD τ).loc main_arg2) (ix3 0 i k)) := by
  refine Rows.proj_congr (fun k => ?_) (fun k => blk1 m c t k) (fun i k => blk2 m c t i k)
  rw [blk0]
  exact congrArg (m ((c : Thread nD τ).loc main_arg0)) ((ix2_inj ..).2 ⟨Fin.ext hJ.symm, rfl⟩)

/-- A hidden row times the loaded columns is the row of `Z` there. -/
theorem dotw (c : Dev nD) (t : Fin cfg0.N) (R : Fin 1024) (h : Fin 1024 → EReal) (v : Fin 1024 → EReal)
    (hv : ∀ k, v k = iblk m c 0 t (ix2 R k))
    (hh : ∀ k, h k = Rows.rms v (fun k => View.ld (iblk m c 1 t) r0_1 (ix2 0 k)) k) (n : Fin 1536) :
    Rows.dot h (fun i k => View.ld (iblk m c 2 t) r0_5 (ix3 0 i k)) n = Z m c t R ⟨n.val, by omega⟩ := by
  obtain rfl : v = fun k => iblk m c 0 t (ix2 R k) := funext hv
  exact Rows.dot_congr (fun k => (hh k).trans (congrArg (fun b => Rows.rms _ b k) (funext fun k => ldg _ k))) (fun k => ldw _ k n)
theorem dotu (c : Dev nD) (t : Fin cfg0.N) (R : Fin 1024) (h : Fin 1024 → EReal) (v : Fin 1024 → EReal)
    (hv : ∀ k, v k = iblk m c 0 t (ix2 R k))
    (hh : ∀ k, h k = Rows.rms v (fun k => View.ld (iblk m c 1 t) r0_1 (ix2 0 k)) k) (n : Fin 1280) :
    Rows.dot h (fun i k => View.ld (iblk m c 2 t) r0_7 (ix3 0 i k)) n = Z m c t R ⟨1536 + n.val, by omega⟩ := by
  obtain rfl : v = fun k => iblk m c 0 t (ix2 R k) := funext hv
  exact Rows.dot_congr (fun k => (hh k).trans (congrArg (fun b => Rows.rms _ b k) (funext fun k => ldg _ k))) (fun k => ldu _ k n)

abbrev A0 (c : Dev nD) : FVec Ideal S32768x1024 .f32 := m ((c : Thread nD τ).loc main_arg0)
abbrev A1 (c : Dev nD) : FVec Ideal S2x1024 .f32 := m ((c : Thread nD τ).loc main_arg1)
abbrev A2 (c : Dev nD) : FVec Ideal S2x1024x2816 .f32 := m ((c : Thread nD τ).loc main_arg2)

theorem at3 (c : Dev nD) (t : Fin cfg0.N) (y : S1024x1536.Idx) (R : Fin 1024) (n : Fin 1536) (h0 : (y 0 : ℕ) = R) (h1 : (y 1 : ℕ) = n) :
    Z m c t R ⟨n.val, by omega⟩ = G3 (A0 m c) (A1 m c) (A2 m c) (((cfg0.win 3).blk t).view.emb y) := by
  have e0 : ((((cfg0.win 3).blk t).view.emb y) 0 : ℕ) = t.val * 1024 + (y 0 : ℕ) := by blk_simp [idx t]
  have e1 : ((((cfg0.win 3).blk t).view.emb y) 1 : ℕ) = (y 1 : ℕ) := by blk_simp [idx t]
  rw [Z_eq m c t R ((((cfg0.win 3).blk t).view.emb y) 0) (e0.trans (by rw [h0]))]
  exact congrArg (Rows.proj _ _ _) (Fin.ext (h1.symm.trans e1.symm))

theorem at4 (c : Dev nD) (t : Fin cfg0.N) (y : S1024x768.Idx) (R : Fin 1024) (n : Fin 768) (h0 : (y 0 : ℕ) = R) (h1 : (y 1 : ℕ) = n) :
    Rows.rest (Z m c t R) n = G4 (A0 m c) (A1 m c) (A2 m c) (((cfg0.win 4).blk t).view.emb y) := by
  have e0 : ((((cfg0.win 4).blk t).view.emb y) 0 : ℕ) = t.val * 1024 + (y 0 : ℕ) := by blk_simp [idx t]
  have e1 : ((((cfg0.win 4).blk t).view.emb y) 1 : ℕ) = (y 1 : ℕ) := by blk_simp [idx t]
  rw [Z_eq m c t R ((((cfg0.win 4).blk t).view.emb y) 0) (e0.trans (by rw [h0]))]
  exact congrArg (Rows.rest _) (Fin.ext (h1.symm.trans e1.symm))

theorem rest_a (z : Fin 2816 → EReal) (n : Fin 256) : z ⟨1536 + n.val, by omega⟩ = Rows.rest z ⟨n.val, by omega⟩ := by
  unfold Rows.rest; rw [if_pos (show n.val < 256 from n.isLt)]
theorem rest_b (z : Fin 2816 → EReal) (n : Fin 256) : z ⟨1536 + (256 + n.val), by omega⟩ * z ⟨1536 + (512 + n.val), by omega⟩
    = Rows.rest z ⟨256 + n.val, by omega⟩ := by
  unfold Rows.rest
  rw [if_neg (show ¬ 256 + n.val < 256 by omega), if_pos (show 256 + n.val < 512 by omega)]
  exact congrArg₂ (fun a b => z a * z b) rfl (Fin.ext (show 1536 + (512 + n.val) = 1792 + (256 + n.val) by omega))
theorem rest_c (z : Fin 2816 → EReal) (n : Fin 256) :
    z ⟨1536 + (768 + n.val), by omega⟩ * Ideal.logistic (z ⟨1536 + (1024 + n.val), by omega⟩) = Rows.rest z ⟨512 + n.val, by omega⟩ := by
  unfold Rows.rest
  rw [if_neg (show ¬ 512 + n.val < 256 by omega), if_neg (show ¬ 512 + n.val < 512 by omega)]
  exact congrArg₂ (fun a b => z a * Ideal.logistic (z b)) (Fin.ext (show 1536 + (768 + n.val) = 1792 + (512 + n.val) by omega))
    (Fin.ext (show 1536 + (1024 + n.val) = 2048 + (512 + n.val) by omega))

theorem point3 (c : Dev nD) (t : Fin cfg0.N) (y : S1024x1536.Idx) :
    out0_3 (iblk m c 0 t) (iblk m c 1 t) (iblk m c 2 t) y = G3 (A0 m c) (A1 m c) (A2 m c) (((cfg0.win 3).blk t).view.emb y) := by
  unfold_out out0_3
  canon_tiles x h
  · rw [eq_ix2 x]
    exact (qkv3 _ _ (x 0) (x 1)).trans ((dotw m c t ⟨768 + (x 0 : ℕ), by omega⟩ _ _ (fun k => ldx3 _ _ k) (fun k => hid3 _ _ _ k) (x 1)).trans
      (at3 m c t y _ (x 1) (by rw [h0]) h1))
  · rw [eq_ix2 x]
    exact (qkv2 _ _ (x 0) (x 1)).trans ((dotw m c t ⟨512 + (x 0 : ℕ), by omega⟩ _ _ (fun k => ldx2 _ _ k) (fun k => hid2 _ _ _ k) (x 1)).trans
      (at3 m c t y _ (x 1) (by rw [h0]) h1))
  · rw [eq_ix2 x]
    exact (qkv1 _ _ (x 0) (x 1)).trans ((dotw m c t ⟨256 + (x 0 : ℕ), by omega⟩ _ _ (fun k => ldx1 _ _ k) (fun k => hid1 _ _ _ k) (x 1)).trans
      (at3 m c t y _ (x 1) (by rw [h0]) h1))
  · rw [eq_ix2 x]
    exact (qkv0 _ _ (x 0) (x 1)).trans ((dotw m c t ⟨0 + (x 0 : ℕ), by omega⟩ _ _ (fun k => ldx0 _ _ k) (fun k => hid0 _ _ _ k) (x 1)).trans
      (at3 m c t y _ (x 1) (by rw [h0]; simp) h1))

theorem point4 (c : Dev nD) (t : Fin cfg0.N) (y : S1024x768.Idx) :
    out0_4 (iblk m c 0 t) (iblk m c 1 t) (iblk m c 2 t) y = G4 (A0 m c) (A1 m c) (A2 m c) (((cfg0.win 4).blk t).view.emb y) := by
  unfold_out out0_4
  canon_tiles x h
  · rw [eq_ix2 x]
    exact (rest32 _ _ (x 0) (x 1)).trans ((congrArg₂ (fun a b => a * Ideal.logistic b) (dotu m c t ⟨768 + (x 0 : ℕ), by omega⟩ _ _ (fun k => ldx3 _ _ k) (fun k => hid3 _ _ _ k) _) (dotu m c t ⟨768 + (x 0 : ℕ), by omega⟩ _ _ (fun k => ldx3 _ _ k) (fun k => hid3 _ _ _ k) _)).trans
      ((rest_c _ (x 1)).trans (at4 m c t y _ _ (by rw [h0]) h1)))
  · rw [eq_ix2 x]
    exact (rest31 _ _ (x 0) (x 1)).trans ((congrArg₂ (· * ·) (dotu m c t ⟨768 + (x 0 : ℕ), by omega⟩ _ _ (fun k => ldx3 _ _ k) (fun k => hid3 _ _ _ k) _) (dotu m c t ⟨768 + (x 0 : ℕ), by omega⟩ _ _ (fun k => ldx3 _ _ k) (fun k => hid3 _ _ _ k) _)).trans
      ((rest_b _ (x 1)).trans (at4 m c t y _ _ (by rw [h0]) h1)))
  · rw [eq_ix2 x]
    exact (rest30 _ _ (x 0) (x 1)).trans ((dotu m c t ⟨768 + (x 0 : ℕ), by omega⟩ _ _ (fun k => ldx3 _ _ k) (fun k => hid3 _ _ _ k) _).trans
      ((rest_a _ (x 1)).trans (at4 m c t y _ _ (by rw [h0]) h1)))
  · rw [eq_ix2 x]
    exact (rest22 _ _ (x 0) (x 1)).trans ((congrArg₂ (fun a b => a * Ideal.logistic b) (dotu m c t ⟨512 + (x 0 : ℕ), by omega⟩ _ _ (fun k => ldx2 _ _ k) (fun k => hid2 _ _ _ k) _) (dotu m c t ⟨512 + (x 0 : ℕ), by omega⟩ _ _ (fun k => ldx2 _ _ k) (fun k => hid2 _ _ _ k) _)).trans
      ((rest_c _ (x 1)).trans (at4 m c t y _ _ (by rw [h0]) h1)))
  · rw [eq_ix2 x]
    exact (rest21 _ _ (x 0) (x 1)).trans ((congrArg₂ (· * ·) (dotu m c t ⟨512 + (x 0 : ℕ), by omega⟩ _ _ (fun k => ldx2 _ _ k) (fun k => hid2 _ _ _ k) _) (dotu m c t ⟨512 + (x 0 : ℕ), by omega⟩ _ _ (fun k => ldx2 _ _ k) (fun k => hid2 _ _ _ k) _)).trans
      ((rest_b _ (x 1)).trans (at4 m c t y _ _ (by rw [h0]) h1)))
  · rw [eq_ix2 x]
    exact (rest20 _ _ (x 0) (x 1)).trans ((dotu m c t ⟨512 + (x 0 : ℕ), by omega⟩ _ _ (fun k => ldx2 _ _ k) (fun k => hid2 _ _ _ k) _).trans
      ((rest_a _ (x 1)).trans (at4 m c t y _ _ (by rw [h0]) h1)))
  · rw [eq_ix2 x]
    exact (rest12 _ _ (x 0) (x 1)).trans ((congrArg₂ (fun a b => a * Ideal.logistic b) (dotu m c t ⟨256 + (x 0 : ℕ), by omega⟩ _ _ (fun k => ldx1 _ _ k) (fun k => hid1 _ _ _ k) _) (dotu m c t ⟨256 + (x 0 : ℕ), by omega⟩ _ _ (fun k => ldx1 _ _ k) (fun k => hid1 _ _ _ k) _)).trans
      ((rest_c _ (x 1)).trans (at4 m c t y _ _ (by rw [h0]) h1)))
  · rw [eq_ix2 x]
    exact (rest11 _ _ (x 0) (x 1)).trans ((congrArg₂ (· * ·) (dotu m c t ⟨256 + (x 0 : ℕ), by omega⟩ _ _ (fun k => ldx1 _ _ k) (fun k => hid1 _ _ _ k) _) (dotu m c t ⟨256 + (x 0 : ℕ), by omega⟩ _ _ (fun k => ldx1 _ _ k) (fun k => hid1 _ _ _ k) _)).trans
      ((rest_b _ (x 1)).trans (at4 m c t y _ _ (by rw [h0]) h1)))
  · rw [eq_ix2 x]
    exact (rest10 _ _ (x 0) (x 1)).trans ((dotu m c t ⟨256 + (x 0 : ℕ), by omega⟩ _ _ (fun k => ldx1 _ _ k) (fun k => hid1 _ _ _ k) _).trans
      ((rest_a _ (x 1)).trans (at4 m c t y _ _ (by rw [h0]) h1)))
  · rw [eq_ix2 x]
    exact (rest02 _ _ (x 0) (x 1)).trans ((congrArg₂ (fun a b => a * Ideal.logistic b) (dotu m c t ⟨0 + (x 0 : ℕ), by omega⟩ _ _ (fun k => ldx0 _ _ k) (fun k => hid0 _ _ _ k) _) (dotu m c t ⟨0 + (x 0 : ℕ), by omega⟩ _ _ (fun k => ldx0 _ _ k) (fun k => hid0 _ _ _ k) _)).trans
      ((rest_c _ (x 1)).trans (at4 m c t y _ _ (by rw [h0]; simp) h1)))
  · rw [eq_ix2 x]
    exact (rest01 _ _ (x 0) (x 1)).trans ((congrArg₂ (· * ·) (dotu m c t ⟨0 + (x 0 : ℕ), by omega⟩ _ _ (fun k => ldx0 _ _ k) (fun k => hid0 _ _ _ k) _) (dotu m c t ⟨0 + (x 0 : ℕ), by omega⟩ _ _ (fun k => ldx0 _ _ k) (fun k => hid0 _ _ _ k) _)).trans
      ((rest_b _ (x 1)).trans (at4 m c t y _ _ (by rw [h0]; simp) h1)))
  · rw [eq_ix2 x]
    exact (rest00 _ _ (x 0) (x 1)).trans ((dotu m c t ⟨0 + (x 0 : ℕ), by omega⟩ _ _ (fun k => ldx0 _ _ k) (fun k => hid0 _ _ _ k) _).trans
      ((rest_a _ (x 1)).trans (at4 m c t y _ _ (by rw [h0]; simp) h1)))

theorem final3 (c : Dev nD) : (dats m 0 c).arrAt 3 (cfgs 0).N = G3 (A0 m c) (A1 m c) (A2 m c) := by
  refine (dats m 0 c).arrAt_eq_of_covers 3 _ (by decide +kernel) fun t _ y => ?_
  blk_simp
  rw [after0_3]
  exact point3 m c t y
theorem final4 (c : Dev nD) : (dats m 0 c).arrAt 4 (cfgs 0).N = G4 (A0 m c) (A1 m c) (A2 m c) := by
  refine (dats m 0 c).arrAt_eq_of_covers 4 _ (by decide +kernel) fun t _ y => ?_
  blk_simp
  rw [after0_4]
  exact point4 m c t y
end Cert.InprojIdeal.Hand

namespace Cert.InprojRefIdeal.Hand
open Cert.InprojRefIdeal Cert.InprojRefIdeal.Gen Cert.InprojRefIdeal.Read

theorem ref0 (x0 : FVec Ideal S32768x1024 .f32) (x1 : FVec Ideal S2x1024 .f32) (x2 : FVec Ideal S2x1024x2816 .f32) :
    val_main_v26 (F := Ideal) x0 x1 x2 = Cert.InprojIdeal.Hand.G3 x0 x1 x2 := by
  funext j
  idx_vars j
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst_2, val_main_v30, val_main_v31, val_main_cst_3, val_main_v32, val_main_v33, val_main_v34, val_main_v35,
    Cert.InprojIdeal.Hand.G3, Rows.proj, Rows.dot, Rows.rms]
  by_cases h : (j1 : ℕ) < 512
  · rw [dif_pos h]
  · rw [dif_neg h]
    by_cases h' : (j1 : ℕ) - 512 < 512
    · rw [dif_pos h']
      refine Finset.sum_congr rfl fun k _ => congrArg (_ * ·) (congrArg x2 ((ix3_inj ..).2 ⟨rfl, rfl, Fin.ext ?_⟩))
      show 512 + ((j1 : ℕ) - 512) = j1
      omega
    · rw [dif_neg h']
      refine Finset.sum_congr rfl fun k _ => congrArg (_ * ·) (congrArg x2 ((ix3_inj ..).2 ⟨rfl, rfl, Fin.ext ?_⟩))
      show 1024 + ((j1 : ℕ) - 512 - 512) = j1
      omega

theorem ref1 (x0 : FVec Ideal S32768x1024 .f32) (x1 : FVec Ideal S2x1024 .f32) (x2 : FVec Ideal S2x1024x2816 .f32) :
    val_main_v35 (F := Ideal) x0 x1 x2 = Cert.InprojIdeal.Hand.G4 x0 x1 x2 := by
  funext j
  idx_vars j
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst_2, val_main_v30, val_main_v31, val_main_cst_3, val_main_v32, val_main_v33, val_main_v34, val_main_v35,
    Cert.InprojIdeal.Hand.G4, Rows.proj, Rows.rest, Rows.dot, Rows.rms, Ideal.logistic]
  by_cases h : (j1 : ℕ) < 256
  · simp only [h, ↓reduceDIte, ↓reduceIte]
  · by_cases h' : (j1 : ℕ) < 512
    · have h2 : (j1 : ℕ) - 256 < 256 := by omega
      simp only [h, h', h2, ↓reduceDIte, ↓reduceIte]
      blk_point []
    · have h2 : ¬ (j1 : ℕ) - 256 < 256 := by omega
      simp only [h, h', h2, ↓reduceDIte, ↓reduceIte]
      blk_point []

end Cert.InprojRefIdeal.Hand
end
-- ==== Proof.Ffn.lean ====
/-
  The first feed-forward of layer 0: the kernel's result array is, row by row, `Rows.ffn` of the input's row at the
  position the class-major order gives that row; and so is the reference's.
-/
module

public import proofs.«01_k».proof.Proof.Gen.FfnIdeal.Value
public import proofs.«01_k».proof.Proof.Gen.FfnRefIdeal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Hand
open Cert.FfnIdeal Cert.FfnIdeal.Gen

/-- Two class slabs of 128 rows one below the other. -/
abbrev slabs (a b : Vec Ideal S1x128x1x1024 .f32) : FVec Ideal S256x1024 .f32 := k0_pay2 a b

/-- The whole-array value: row `b * 2048 + r * 128 + l` of the result is the feed-forward of batch `b`'s position `l * 16 + r`. -/
def G (X : FVec Ideal S16x2048x1024 .f32) (g : FVec Ideal S2x1024 .f32) (wg wu : FVec Ideal S2x1024x2816 .f32)
    (wd : FVec Ideal S2x2816x1024 .f32) : FVec Ideal S32768x1024 .f32 := fun j =>
  Rows.ffn (fun k => X (ix3 (⟨(j 0 : ℕ) / 2048, by have := (j 0).isLt; change (j 0 : ℕ) < 32768 at this; omega⟩ : Fin 16)
      (⟨(j 0 : ℕ) % 128 * 16 + (j 0 : ℕ) / 128 % 16, by omega⟩ : Fin 2048) k))
    (fun k => g (ix2 0 k)) (fun i k => wg (ix3 0 i k)) (fun i k => wu (ix3 0 i k)) (fun i k => wd (ix3 0 i k)) (j 1)

variable (a b : Vec Ideal S1x128x1x1024 .f32) (g : Vec Ideal S1x1024 .f32) (wg wu : Vec Ideal S1x1024x2816 .bf16)
  (wd : Vec Ideal S1x2816x1024 .bf16) (r : Fin 256) (c : Fin 1024)

/-- The first pair of slabs' result at a row. -/
theorem piece0 : k0_pay14 (k0_pay2 a b) (k0_pay3 a b g) wg wu wd (ix2 r c)
    = Rows.ffn (fun k => slabs a b (ix2 r k)) (fun k => g (ix2 0 k)) (fun i k => wg (ix3 0 i k)) (fun i k => wu (ix3 0 i k))
        (fun i k => wd (ix3 0 i k)) c := by
  pointwise [k0_pay14, k0_pay3, Rows.ffn, Rows.dot, Rows.rms]

theorem piece1 : k0_pay17 (k0_pay4 a b) (k0_pay7 (k0_pay4 a b) (k0_pay5 g) (k0_pay6 a b) (Scalar.ofBits .f32 0x358637BD#32))
      (k0_pay15 (k0_pay7 (k0_pay4 a b) (k0_pay5 g) (k0_pay6 a b) (Scalar.ofBits .f32 0x358637BD#32)) wg) (k0_pay16 wu)
      (constant S256x2816 .f32 0x00000000#32) wd (ix2 r c)
    = Rows.ffn (fun k => slabs a b (ix2 r k)) (fun k => g (ix2 0 k)) (fun i k => wg (ix3 0 i k)) (fun i k => wu (ix3 0 i k))
        (fun i k => wd (ix3 0 i k)) c := by
  have e : k0_pay4 a b = slabs a b := rfl
  pointwise [k0_pay17, k0_pay15, k0_pay16, k0_pay7, k0_pay6, k0_pay5, e, Rows.ffn, Rows.dot, Rows.rms]

theorem piece2 : k0_pay18 (k0_pay8 a b) (k0_pay9 a b g) wg wu wd (ix2 r c)
    = Rows.ffn (fun k => slabs a b (ix2 r k)) (fun k => g (ix2 0 k)) (fun i k => wg (ix3 0 i k)) (fun i k => wu (ix3 0 i k))
        (fun i k => wd (ix3 0 i k)) c := by
  have e : k0_pay8 a b = slabs a b := rfl
  pointwise [k0_pay18, k0_pay9, e, Rows.ffn, Rows.dot, Rows.rms]

theorem piece3 : k0_pay1 (k0_pay10 a b) (k0_pay13 (k0_pay10 a b) (k0_pay11 g) (k0_pay12 a b))
      (k0_pay19 (k0_pay13 (k0_pay10 a b) (k0_pay11 g) (k0_pay12 a b)) wg) wu wd (ix2 r c)
    = Rows.ffn (fun k => slabs a b (ix2 r k)) (fun k => g (ix2 0 k)) (fun i k => wg (ix3 0 i k)) (fun i k => wu (ix3 0 i k))
        (fun i k => wd (ix3 0 i k)) c := by
  have e : k0_pay10 a b = slabs a b := rfl
  pointwise [k0_pay1, k0_pay19, k0_pay13, k0_pay12, k0_pay11, e, Rows.ffn, Rows.dot, Rows.rms]

end Cert.FfnIdeal.Hand

namespace Cert.FfnIdeal.Hand
open Cert.FfnIdeal Cert.FfnIdeal.Gen
variable (m : (ℓ : Loc nD τ sig) → Buf (Elt Ideal) ℓ)

theorem idx : ∀ t : Fin cfg0.N, win0_0.index t = ![t.val / 2, 0, t.val % 2, 0] ∧ win0_1.index t = ![0, 0]
    ∧ win0_2.index t = ![0, 0, 0] ∧ win0_3.index t = ![0, 0, 0] ∧ win0_4.index t = ![0, 0, 0] ∧ win0_5.index t = ![t.val, 0] :=
  (by decide +kernel : ∀ t : Fin grid0.N, _)

/-- What each window's block at a point holds, at an index. -/
theorem blk0 (c : Dev nD) (t : Fin cfg0.N) (l : Fin 128) (r : Fin 8) (k : Fin 1024) :
    iblk m c 0 t (ix4 0 l r k) = m ((c : Thread nD τ).loc main_arg0)
      (ix3 (⟨t.val / 2, by have : t.val < 32 := t.isLt; omega⟩ : Fin 16) (⟨l.val * 16 + (t.val % 2 * 8 + r.val), by omega⟩ : Fin 2048) k) := by
  blk_point [iblk, V, idx t]
theorem blk1 (c : Dev nD) (t : Fin cfg0.N) (k : Fin 1024) :
    iblk m c 1 t (ix2 0 k) = m ((c : Thread nD τ).loc main_arg1) (ix2 0 k) := by
  blk_point [iblk, V, idx t]
theorem blk2 (c : Dev nD) (t : Fin cfg0.N) (i : Fin 1024) (k : Fin 2816) :
    iblk m c 2 t (ix3 0 i k) = m ((c : Thread nD τ).loc main_arg2) (ix3 0 i k) := by
  blk_point [iblk, V, idx t]
theorem blk3 (c : Dev nD) (t : Fin cfg0.N) (i : Fin 1024) (k : Fin 2816) :
    iblk m c 3 t (ix3 0 i k) = m ((c : Thread nD τ).loc main_arg3) (ix3 0 i k) := by
  blk_point [iblk, V, idx t]
theorem blk4 (c : Dev nD) (t : Fin cfg0.N) (i : Fin 2816) (k : Fin 1024) :
    iblk m c 4 t (ix3 0 i k) = m ((c : Thread nD τ).loc main_arg4) (ix3 0 i k) := by
  blk_point [iblk, V, idx t]

/-- The slabs a piece stacks, at a row: the block at that row's class and position. -/
theorem slab0 (B : Vec Ideal S1x128x8x1024 .f32) (r : Fin 256) (k : Fin 1024) : slabs (View.ld B r0_0) (View.ld B r0_1) (ix2 r k)
    = B (ix4 0 (⟨r.val % 128, by omega⟩ : Fin 128) (⟨0 + r.val / 128, by omega⟩ : Fin 8) k) := by
  pointwise [slabs, k0_pay2]; blk_point []
theorem slab1 (B : Vec Ideal S1x128x8x1024 .f32) (r : Fin 256) (k : Fin 1024) : slabs (View.ld B r0_3) (View.ld B r0_4) (ix2 r k)
    = B (ix4 0 (⟨r.val % 128, by omega⟩ : Fin 128) (⟨2 + r.val / 128, by omega⟩ : Fin 8) k) := by
  pointwise [slabs, k0_pay2]; blk_point []
theorem slab2 (B : Vec Ideal S1x128x8x1024 .f32) (r : Fin 256) (k : Fin 1024) : slabs (View.ld B r0_5) (View.ld B r0_6) (ix2 r k)
    = B (ix4 0 (⟨r.val % 128, by omega⟩ : Fin 128) (⟨4 + r.val / 128, by omega⟩ : Fin 8) k) := by
  pointwise [slabs, k0_pay2]; blk_point []
theorem slab3 (B : Vec Ideal S1x128x8x1024 .f32) (r : Fin 256) (k : Fin 1024) : slabs (View.ld B r0_7) (View.ld B r0_8) (ix2 r k)
    = B (ix4 0 (⟨r.val % 128, by omega⟩ : Fin 128) (⟨6 + r.val / 128, by omega⟩ : Fin 8) k) := by
  pointwise [slabs, k0_pay2]; blk_point []

/-- Whole-block loads read the block. -/
theorem ldg (B : Vec Ideal S1x1024 .f32) (k : Fin 1024) : View.ld B r0_2 (ix2 0 k) = B (ix2 0 k) := by pointwise
theorem ldw (B : Vec Ideal S1x1024x2816 .bf16) (i : Fin 1024) (k : Fin 2816) : View.ld B r0_9 (ix3 0 i k) = B (ix3 0 i k) := by pointwise
theorem ldd (B : Vec Ideal S1x2816x1024 .bf16) (i : Fin 2816) (k : Fin 1024) : View.ld B r0_10 (ix3 0 i k) = B (ix3 0 i k) := by pointwise

/-- From a piece's row to the whole array: the row's block reads are the arrays'. -/
theorem place (c : Dev nD) (t : Fin cfg0.N) (y : S1024x1024.Idx) (r : Fin 256) (q : Fin 4) (k : Fin 1024)
    (h0 : (y 0 : ℕ) = q.val * 256 + r.val) (h1 : (y 1 : ℕ) = k.val) (v : Fin 1024 → EReal)
    (hv : ∀ k, v k = iblk m c 0 t (ix4 0 (⟨r.val % 128, by omega⟩ : Fin 128) (⟨q.val * 2 + r.val / 128, by omega⟩ : Fin 8) k)) :
    Rows.ffn v (fun k => View.ld (iblk m c 1 t) r0_2 (ix2 0 k)) (fun i k => View.ld (iblk m c 2 t) r0_9 (ix3 0 i k))
        (fun i k => View.ld (iblk m c 3 t) r0_9 (ix3 0 i k)) (fun i k => View.ld (iblk m c 4 t) r0_10 (ix3 0 i k)) k
      = G (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 32 := t.isLt
  have e0 : ((((cfg0.win 5).blk t).view.emb y) 0 : ℕ) = t.val * 1024 + (y 0 : ℕ) := by blk_simp [idx t]
  have e1 : ((((cfg0.win 5).blk t).view.emb y) 1 : ℕ) = (y 1 : ℕ) := by blk_simp [idx t]
  refine Rows.ffn_congr (fun k => ?_) (fun k => (ldg _ _).trans (blk1 m c t k)) (fun i k => (ldw _ _ _).trans (blk2 m c t i k))
    (fun i k => (ldw _ _ _).trans (blk3 m c t i k)) (fun i k => (ldd _ _ _).trans (blk4 m c t i k)) ?_
  · rw [hv, blk0]
    refine congrArg (m ((c : Thread nD τ).loc main_arg0)) ((ix3_inj ..).2 ⟨Fin.ext ?_, Fin.ext ?_, rfl⟩)
    · show t.val / 2 = _ / 2048
      rw [e0]; omega
    · show _ = _ % 128 * 16 + _ / 128 % 16
      rw [e0]
      show r.val % 128 * 16 + (t.val % 2 * 8 + (q.val * 2 + r.val / 128)) = _
      omega
  · exact h1.symm.trans e1.symm

theorem point (c : Dev nD) (t : Fin cfg0.N) (y : S1024x1024.Idx) :
    out0_5 (iblk m c 0 t) (iblk m c 1 t) (iblk m c 2 t) (iblk m c 3 t) (iblk m c 4 t) y
      = G (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  unfold_out out0_5
  canon_tiles x h
  · rw [eq_ix2 x]
    exact (piece3 _ _ _ _ _ _ _ _).trans (place m c t y (x 0) 3 (x 1) h0 h1 _ fun k => slab3 _ _ k)
  · rw [eq_ix2 x]
    exact (piece2 _ _ _ _ _ _ _ _).trans (place m c t y (x 0) 2 (x 1) h0 h1 _ fun k => slab2 _ _ k)
  · rw [eq_ix2 x]
    exact (piece1 _ _ _ _ _ _ _ _).trans (place m c t y (x 0) 1 (x 1) h0 h1 _ fun k => slab1 _ _ k)
  · rw [eq_ix2 x]
    exact (piece0 _ _ _ _ _ _ _ _).trans (place m c t y (x 0) 0 (x 1) (by rw [h0]; simp) h1 _ fun k => slab0 _ _ k)

theorem final (c : Dev nD) : (dats m 0 c).arrAt 5 (cfgs 0).N
      = G (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact point m c t y
end Cert.FfnIdeal.Hand

namespace Cert.FfnRefIdeal.Hand
open Cert.FfnRefIdeal Cert.FfnRefIdeal.Gen Cert.FfnRefIdeal.Read

/-- The reference's result is the same function of its arguments. -/
theorem ref (x0 : FVec Ideal S16x2048x1024 .f32) (x1 : FVec Ideal S2x1024 .f32) (x2 x3 : FVec Ideal S2x1024x2816 .f32)
    (x4 : FVec Ideal S2x2816x1024 .f32) : val_main_v31 (F := Ideal) x0 x1 x2 x3 x4 = Cert.FfnIdeal.Hand.G x0 x1 x2 x3 x4 := by
  funext j
  idx_vars j
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_v25, val_main_cst_2, val_main_v26, val_main_v27, val_main_v28, val_main_v29, val_main_v30, val_main_v31,
    Cert.FfnIdeal.Hand.G, Rows.ffn, Rows.dot, Rows.rms]
  rfl

end Cert.FfnRefIdeal.Hand
end
-- ==== Proof.Last.lean ====
/-
  The last feed-forward of the model: the kernel's result array is, row by row, `Rows.last` of the row the class-major
  order keeps the position at; and so is the reference's.
-/
module

public import proofs.«01_k».proof.Proof.Gen.LastIdeal.Frame
public import proofs.«01_k».proof.Proof.Gen.LastRefIdeal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LastIdeal.Hand
open Cert.LastIdeal Cert.LastIdeal.Gen

section pieces
variable (x : Vec Ideal S256x1024 .f32) (a : Vec Ideal S256x512 .bf16) (wa : Vec Ideal S1x512x1024 .bf16) (b : Vec Ideal S256x512 .bf16)
  (wb : Vec Ideal S1x512x1024 .bf16) (g : Vec Ideal S1x1024 .f32) (wg wu : Vec Ideal S1x1024x2816 .bf16) (wd : Vec Ideal S1x2816x1024 .bf16)
  (fg : Vec Ideal S1x1024 .f32)

/-- What a row of a piece holds. -/
abbrev val (x : Vec Ideal S256x1024 .f32) (a : Vec Ideal S256x512 .bf16) (wa : Vec Ideal S1x512x1024 .bf16) (b : Vec Ideal S256x512 .bf16)
    (wb : Vec Ideal S1x512x1024 .bf16) (g : Vec Ideal S1x1024 .f32) (wg wu : Vec Ideal S1x1024x2816 .bf16) (wd : Vec Ideal S1x2816x1024 .bf16)
    (fg : Vec Ideal S1x1024 .f32) (r : Fin 256) (c : Fin 1024) : EReal :=
  Rows.last (fun k => x (ix2 r k)) (fun k => a (ix2 r k)) (fun k => b (ix2 r k)) (fun i k => wa (ix3 0 i k)) (fun i k => wb (ix3 0 i k))
    (fun k => g (ix2 0 k)) (fun i k => wg (ix3 0 i k)) (fun i k => wu (ix3 0 i k)) (fun i k => wd (ix3 0 i k)) (fun k => fg (ix2 0 k)) c

variable (i0 : Fin 1) (l : Fin 128) (i2 : Fin 1) (c : Fin 1024)

theorem piece0 : k0_pay16 (k0_pay4 x a wa b wb) (k0_pay5 x a wa b wb g) wg wu wd fg (ix4 i0 l i2 c)
    = val x a wa b wb g wg wu wd fg ⟨0 + l.val, by omega⟩ c := by
  pointwise [k0_pay16, k0_pay15, k0_pay4, k0_pay5, val, Rows.last, Rows.ffn, Rows.mix, Rows.dot, Rows.rms]
theorem piece1 : k0_pay18 (k0_pay17 (k0_pay4 x a wa b wb) (k0_pay5 x a wa b wb g) wg wu wd fg) (ix4 i0 l i2 c)
    = val x a wa b wb g wg wu wd fg ⟨128 + l.val, by omega⟩ c := by
  pointwise [k0_pay18, k0_pay17, k0_pay15, k0_pay4, k0_pay5, val, Rows.last, Rows.ffn, Rows.mix, Rows.dot, Rows.rms]
theorem piece2 : k0_pay21 (k0_pay20 (k0_pay7 x (k0_pay6 a wa) b wb) (k0_pay8 x (k0_pay6 a wa) b wb g) wg wu wd fg) (ix4 i0 l i2 c)
    = val x a wa b wb g wg wu wd fg ⟨0 + l.val, by omega⟩ c := by
  pointwise [k0_pay21, k0_pay20, k0_pay19, k0_pay6, k0_pay7, k0_pay8, val, Rows.last, Rows.ffn, Rows.mix, Rows.dot, Rows.rms]
theorem piece3 : k0_pay22 (k0_pay19 (k0_pay7 x (k0_pay6 a wa) b wb) (k0_pay8 x (k0_pay6 a wa) b wb g) wg wu wd fg) (ix4 i0 l i2 c)
    = val x a wa b wb g wg wu wd fg ⟨128 + l.val, by omega⟩ c := by
  pointwise [k0_pay22, k0_pay19, k0_pay6, k0_pay7, k0_pay8, val, Rows.last, Rows.ffn, Rows.mix, Rows.dot, Rows.rms]
theorem piece4 : k0_pay26 (k0_pay23 fg) (k0_pay24 (k0_pay9 x a wa b wb) (k0_pay10 (k0_pay9 x a wa b wb) g) wg wu wd) (ix4 i0 l i2 c)
    = val x a wa b wb g wg wu wd fg ⟨0 + l.val, by omega⟩ c := by
  pointwise [k0_pay26, k0_pay25, k0_pay24, k0_pay23, k0_pay9, k0_pay10, val, Rows.last, Rows.ffn, Rows.mix, Rows.dot, Rows.rms]
theorem piece5 : k0_pay27 (k0_pay23 fg) (k0_pay24 (k0_pay9 x a wa b wb) (k0_pay10 (k0_pay9 x a wa b wb) g) wg wu wd) (ix4 i0 l i2 c)
    = val x a wa b wb g wg wu wd fg ⟨128 + l.val, by omega⟩ c := by
  pointwise [k0_pay27, k0_pay25, k0_pay24, k0_pay23, k0_pay9, k0_pay10, val, Rows.last, Rows.ffn, Rows.mix, Rows.dot, Rows.rms]
theorem piece6 : k0_pay2 (k0_pay28 (k0_pay11 x a wa b wb) (k0_pay14 (k0_pay12 x a wa b wb) (k0_pay13 g)) wg wu wd) (k0_pay29 fg) (k0_pay30 (k0_pay11 x a wa b wb) (k0_pay14 (k0_pay12 x a wa b wb) (k0_pay13 g)) wg wu wd) (ix4 i0 l i2 c)
    = val x a wa b wb g wg wu wd fg ⟨0 + l.val, by omega⟩ c := by
  pointwise [k0_pay2, k0_pay1, k0_pay28, k0_pay29, k0_pay30, k0_pay11, k0_pay12, k0_pay13, k0_pay14, val, Rows.last, Rows.ffn, Rows.mix, Rows.dot, Rows.rms]
theorem piece7 : k0_pay3 (k0_pay28 (k0_pay11 x a wa b wb) (k0_pay14 (k0_pay12 x a wa b wb) (k0_pay13 g)) wg wu wd) (k0_pay29 fg) (k0_pay30 (k0_pay11 x a wa b wb) (k0_pay14 (k0_pay12 x a wa b wb) (k0_pay13 g)) wg wu wd) (ix4 i0 l i2 c)
    = val x a wa b wb g wg wu wd fg ⟨128 + l.val, by omega⟩ c := by
  pointwise [k0_pay3, k0_pay1, k0_pay28, k0_pay29, k0_pay30, k0_pay11, k0_pay12, k0_pay13, k0_pay14, val, Rows.last, Rows.ffn, Rows.mix, Rows.dot, Rows.rms]
end pieces

/-- The whole-array value: batch `b`'s position `l * 16 + r` of the result, kept at `(b, l, r)`, is made from the
    class-major row `b * 2048 + r * 128 + l` of the three inputs. -/
abbrev row (b : Fin 16) (l : Fin 128) (r : Fin 16) : Fin 32768 := ⟨b.val * 2048 + r.val * 128 + l.val, by omega⟩
def G (X : FVec Ideal S32768x1024 .f32) (g : FVec Ideal S2x1024 .f32) (wg wu : FVec Ideal S2x1024x2816 .f32)
    (wd : FVec Ideal S2x2816x1024 .f32) (ya yc : FVec Ideal S32768x512 .bf16) (wo : FVec Ideal S2x1024x1024 .f32)
    (fg : FVec Ideal S1024 .f32) : FVec Ideal S16x128x16x1024 .f32 := fun j =>
  Rows.last (fun k => X (ix2 (row (j 0) (j 1) (j 2)) k)) (fun k => ya (ix2 (row (j 0) (j 1) (j 2)) k)) (fun k => yc (ix2 (row (j 0) (j 1) (j 2)) k))
    (fun i k => wo (ix3 1 (⟨i.val, by omega⟩ : Fin 1024) k)) (fun i k => wo (ix3 1 (⟨512 + i.val, by omega⟩ : Fin 1024) k))
    (fun k => g (ix2 1 k)) (fun i k => wg (ix3 1 i k)) (fun i k => wu (ix3 1 i k)) (fun i k => wd (ix3 1 i k)) (fun k => fg (ix1 k)) (j 3)

variable (m : (ℓ : Loc nD τ sig) → Buf (Elt Ideal) ℓ)

theorem idx : ∀ t : Fin cfg0.N, win0_0.index t = ![t.val, 0] ∧ win0_1.index t = ![0, 0]
    ∧ win0_2.index t = ![1, 0, 0] ∧ win0_3.index t = ![1, 0, 0] ∧ win0_4.index t = ![1, 0, 0] ∧ win0_5.index t = ![t.val, 0]
    ∧ win0_6.index t = ![t.val, 0] ∧ win0_7.index t = ![1, 0, 0] ∧ win0_8.index t = ![0, 0]
    ∧ win0_9.index t = ![t.val / 2, 0, t.val % 2, 0] :=
  (by decide +kernel : ∀ t : Fin grid0.N, _)

/-- What the region finds: the contents after the host operations before it. -/
theorem V0_eq (c : Dev nD) : V0 m c = StableHlo.after hostOps0 (fun b => m (c, b)) := by
  unfold V0
  rw [List.flatten_cons, List.flatten_nil, List.append_nil]

/-- Row `R` of point `t`'s row blocks. -/
abbrev at_ (t : Fin cfg0.N) (R : Fin 1024) : Fin 32768 := ⟨t.val * 1024 + R.val, by have : t.val < 32 := t.isLt; omega⟩
theorem blk0 (c : Dev nD) (t : Fin cfg0.N) (R : Fin 1024) (k : Fin 1024) :
    iblk m c 0 t (ix2 R k) = m ((c : Thread nD τ).loc main_arg0) (ix2 (at_ t R) k) := by
  unfold iblk V
  rw [V0_eq]
  blk_point [idx t]
theorem blk1 (c : Dev nD) (t : Fin cfg0.N) (k : Fin 1024) :
    iblk m c 1 t (ix2 0 k) = m ((c : Thread nD τ).loc main_arg1) (ix2 1 k) := by
  unfold iblk V
  rw [V0_eq]
  blk_point [idx t]
theorem blk2 (c : Dev nD) (t : Fin cfg0.N) (i : Fin 1024) (k : Fin 2816) :
    iblk m c 2 t (ix3 0 i k) = m ((c : Thread nD τ).loc main_arg2) (ix3 1 i k) := by
  unfold iblk V
  rw [V0_eq]
  blk_point [idx t]
theorem blk3 (c : Dev nD) (t : Fin cfg0.N) (i : Fin 1024) (k : Fin 2816) :
    iblk m c 3 t (ix3 0 i k) = m ((c : Thread nD τ).loc main_arg3) (ix3 1 i k) := by
  unfold iblk V
  rw [V0_eq]
  blk_point [idx t]
theorem blk4 (c : Dev nD) (t : Fin cfg0.N) (i : Fin 2816) (k : Fin 1024) :
    iblk m c 4 t (ix3 0 i k) = m ((c : Thread nD τ).loc main_arg4) (ix3 1 i k) := by
  unfold iblk V
  rw [V0_eq]
  blk_point [idx t]
theorem blk5 (c : Dev nD) (t : Fin cfg0.N) (R : Fin 1024) (k : Fin 512) :
    iblk m c 5 t (ix2 R k) = m ((c : Thread nD τ).loc main_arg5) (ix2 (at_ t R) k) := by
  unfold iblk V
  rw [V0_eq]
  blk_point [idx t]
theorem blk6 (c : Dev nD) (t : Fin cfg0.N) (R : Fin 1024) (k : Fin 512) :
    iblk m c 6 t (ix2 R k) = m ((c : Thread nD τ).loc main_arg6) (ix2 (at_ t R) k) := by
  unfold iblk V
  rw [V0_eq]
  blk_point [idx t]
theorem blk7 (c : Dev nD) (t : Fin cfg0.N) (i : Fin 1024) (k : Fin 1024) :
    iblk m c 7 t (ix3 0 i k) = m ((c : Thread nD τ).loc main_arg7) (ix3 1 i k) := by
  unfold iblk V
  rw [V0_eq]
  blk_point [idx t]
theorem blk8 (c : Dev nD) (t : Fin cfg0.N) (k : Fin 1024) :
    iblk m c 8 t (ix2 0 k) = m ((c : Thread nD τ).loc main_arg8) (ix1 k) := by
  unfold iblk V
  rw [V0_eq]
  blk_point [idx t]

theorem ldg (B : Vec Ideal S1x1024 .f32) (k : Fin 1024) : View.ld B r0_4 (ix2 0 k) = B (ix2 0 k) := by pointwise
theorem ldw (B : Vec Ideal S1x1024x2816 .bf16) (i : Fin 1024) (k : Fin 2816) : View.ld B r0_11 (ix3 0 i k) = B (ix3 0 i k) := by pointwise
theorem ldd (B : Vec Ideal S1x2816x1024 .bf16) (i : Fin 2816) (k : Fin 1024) : View.ld B r0_12 (ix3 0 i k) = B (ix3 0 i k) := by pointwise
theorem lda (B : Vec Ideal S1x1024x1024 .bf16) (i : Fin 512) (k : Fin 1024) :
    View.ld B r0_2 (ix3 0 i k) = B (ix3 0 (⟨i.val, by omega⟩ : Fin 1024) k) := by pointwise
theorem ldb (B : Vec Ideal S1x1024x1024 .bf16) (i : Fin 512) (k : Fin 1024) :
    View.ld B r0_3 (ix3 0 i k) = B (ix3 0 (⟨512 + i.val, by omega⟩ : Fin 1024) k) := by pointwise
theorem ldx0 (B : Vec Ideal S1024x1024 .f32) (r : Fin 256) (k : Fin 1024) :
    View.ld B r0_0 (ix2 r k) = B (ix2 (⟨0 + r.val, by omega⟩ : Fin 1024) k) := by pointwise
theorem ldy0 (B : Vec Ideal S1024x512 .bf16) (r : Fin 256) (k : Fin 512) :
    View.ld B r0_1 (ix2 r k) = B (ix2 (⟨0 + r.val, by omega⟩ : Fin 1024) k) := by pointwise
theorem ldx1 (B : Vec Ideal S1024x1024 .f32) (r : Fin 256) (k : Fin 1024) :
    View.ld B r0_5 (ix2 r k) = B (ix2 (⟨256 + r.val, by omega⟩ : Fin 1024) k) := by pointwise
theorem ldy1 (B : Vec Ideal S1024x512 .bf16) (r : Fin 256) (k : Fin 512) :
    View.ld B r0_6 (ix2 r k) = B (ix2 (⟨256 + r.val, by omega⟩ : Fin 1024) k) := by pointwise
theorem ldx2 (B : Vec Ideal S1024x1024 .f32) (r : Fin 256) (k : Fin 1024) :
    View.ld B r0_7 (ix2 r k) = B (ix2 (⟨512 + r.val, by omega⟩ : Fin 1024) k) := by pointwise
theorem ldy2 (B : Vec Ideal S1024x512 .bf16) (r : Fin 256) (k : Fin 512) :
    View.ld B r0_8 (ix2 r k) = B (ix2 (⟨512 + r.val, by omega⟩ : Fin 1024) k) := by pointwise
theorem ldx3 (B : Vec Ideal S1024x1024 .f32) (r : Fin 256) (k : Fin 1024) :
    View.ld B r0_9 (ix2 r k) = B (ix2 (⟨768 + r.val, by omega⟩ : Fin 1024) k) := by pointwise
theorem ldy3 (B : Vec Ideal S1024x512 .bf16) (r : Fin 256) (k : Fin 512) :
    View.ld B r0_10 (ix2 r k) = B (ix2 (⟨768 + r.val, by omega⟩ : Fin 1024) k) := by pointwise

/-- The value over the argument arrays. -/
abbrev GA (c : Dev nD) : FVec Ideal S16x128x16x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- From a piece's row to the whole array: the row's block reads are the arrays'. -/
theorem place (c : Dev nD) (t : Fin cfg0.N) (y : S1x128x8x1024.Idx) (x : Vec Ideal S256x1024 .f32) (a b : Vec Ideal S256x512 .bf16)
    (r : Fin 256) (R : Fin 1024) (k : Fin 1024) (hR : (R : ℕ) = (y 2 : ℕ) * 128 + (y 1 : ℕ)) (hk : (y 3 : ℕ) = k)
    (hx : ∀ k, x (ix2 r k) = iblk m c 0 t (ix2 R k)) (ha : ∀ k, a (ix2 r k) = iblk m c 5 t (ix2 R k))
    (hb : ∀ k, b (ix2 r k) = iblk m c 6 t (ix2 R k)) :
    val x a (View.ld (iblk m c 7 t) r0_2) b (View.ld (iblk m c 7 t) r0_3) (View.ld (iblk m c 1 t) r0_4) (View.ld (iblk m c 2 t) r0_11)
        (View.ld (iblk m c 3 t) r0_11) (View.ld (iblk m c 4 t) r0_12) (View.ld (iblk m c 8 t) r0_4) r k
      = GA m c (((cfg0.win 9).blk t).view.emb y) := by
  have ht : t.val < 32 := t.isLt
  have y0 : (y 0 : ℕ) < 1 := (y 0).isLt
  have y1 : (y 1 : ℕ) < 128 := (y 1).isLt
  have y2 : (y 2 : ℕ) < 8 := (y 2).isLt
  have e0 : ((((cfg0.win 9).blk t).view.emb y) 0 : ℕ) = t.val / 2 := by blk_simp [idx t]
  have e1 : ((((cfg0.win 9).blk t).view.emb y) 1 : ℕ) = (y 1 : ℕ) := by blk_simp [idx t]
  have e2 : ((((cfg0.win 9).blk t).view.emb y) 2 : ℕ) = t.val % 2 * 8 + (y 2 : ℕ) := by blk_simp [idx t]
  have e3 : ((((cfg0.win 9).blk t).view.emb y) 3 : ℕ) = (y 3 : ℕ) := by blk_simp [idx t]
  have er : at_ t R = row ((((cfg0.win 9).blk t).view.emb y) 0) ((((cfg0.win 9).blk t).view.emb y) 1) ((((cfg0.win 9).blk t).view.emb y) 2) := by
    refine Fin.ext ?_
    show t.val * 1024 + R.val = _ * 2048 + _ * 128 + _
    rw [e0, e1, e2, hR]
    omega
  refine Rows.last_congr (fun k => (hx k).trans ((blk0 m c t R k).trans ?_)) (fun k => (ha k).trans ((blk5 m c t R k).trans ?_))
    (fun k => (hb k).trans ((blk6 m c t R k).trans ?_)) (fun i k => (lda _ _ _).trans (blk7 m c t _ k)) (fun i k => (ldb _ _ _).trans (blk7 m c t _ k))
    (fun k => (ldg _ _).trans (blk1 m c t k)) (fun i k => (ldw _ _ _).trans (blk2 m c t i k))
    (fun i k => (ldw _ _ _).trans (blk3 m c t i k)) (fun i k => (ldd _ _ _).trans (blk4 m c t i k))
    (fun k => (ldg _ _).trans (blk8 m c t k)) (hk.symm.trans e3.symm)
  · rw [er]
  · rw [er]
  · rw [er]

theorem point (c : Dev nD) (t : Fin cfg0.N) (y : S1x128x8x1024.Idx) :
    out0_9 (iblk m c 0 t) (iblk m c 1 t) (iblk m c 2 t) (iblk m c 3 t) (iblk m c 4 t) (iblk m c 5 t) (iblk m c 6 t) (iblk m c 7 t)
        (iblk m c 8 t) y = GA m c (((cfg0.win 9).blk t).view.emb y) := by
  unfold_out out0_9
  canon_tiles x h
  · rw [eq_ix4 x]
    exact (piece7 _ _ _ _ _ _ _ _ _ _ (x 0) (x 1) (x 2) (x 3)).trans (place m c t y _ _ _ _ ⟨768 + (128 + (x 1 : ℕ)), by omega⟩ (x 3)
      (by rw [h1, h2]; show 768 + (128 + (x 1 : ℕ)) = _; omega) h3 (fun k => ldx3 _ _ k) (fun k => ldy3 _ _ k) (fun k => ldy3 _ _ k))
  · rw [eq_ix4 x]
    exact (piece6 _ _ _ _ _ _ _ _ _ _ (x 0) (x 1) (x 2) (x 3)).trans (place m c t y _ _ _ _ ⟨768 + (0 + (x 1 : ℕ)), by omega⟩ (x 3)
      (by rw [h1, h2]; show 768 + (0 + (x 1 : ℕ)) = _; omega) h3 (fun k => ldx3 _ _ k) (fun k => ldy3 _ _ k) (fun k => ldy3 _ _ k))
  · rw [eq_ix4 x]
    exact (piece5 _ _ _ _ _ _ _ _ _ _ (x 0) (x 1) (x 2) (x 3)).trans (place m c t y _ _ _ _ ⟨512 + (128 + (x 1 : ℕ)), by omega⟩ (x 3)
      (by rw [h1, h2]; show 512 + (128 + (x 1 : ℕ)) = _; omega) h3 (fun k => ldx2 _ _ k) (fun k => ldy2 _ _ k) (fun k => ldy2 _ _ k))
  · rw [eq_ix4 x]
    exact (piece4 _ _ _ _ _ _ _ _ _ _ (x 0) (x 1) (x 2) (x 3)).trans (place m c t y _ _ _ _ ⟨512 + (0 + (x 1 : ℕ)), by omega⟩ (x 3)
      (by rw [h1, h2]; show 512 + (0 + (x 1 : ℕ)) = _; omega) h3 (fun k => ldx2 _ _ k) (fun k => ldy2 _ _ k) (fun k => ldy2 _ _ k))
  · rw [eq_ix4 x]
    exact (piece3 _ _ _ _ _ _ _ _ _ _ (x 0) (x 1) (x 2) (x 3)).trans (place m c t y _ _ _ _ ⟨256 + (128 + (x 1 : ℕ)), by omega⟩ (x 3)
      (by rw [h1, h2]; show 256 + (128 + (x 1 : ℕ)) = _; omega) h3 (fun k => ldx1 _ _ k) (fun k => ldy1 _ _ k) (fun k => ldy1 _ _ k))
  · rw [eq_ix4 x]
    exact (piece2 _ _ _ _ _ _ _ _ _ _ (x 0) (x 1) (x 2) (x 3)).trans (place m c t y _ _ _ _ ⟨256 + (0 + (x 1 : ℕ)), by omega⟩ (x 3)
      (by rw [h1, h2]; show 256 + (0 + (x 1 : ℕ)) = _; omega) h3 (fun k => ldx1 _ _ k) (fun k => ldy1 _ _ k) (fun k => ldy1 _ _ k))
  · rw [eq_ix4 x]
    exact (piece1 _ _ _ _ _ _ _ _ _ _ (x 0) (x 1) (x 2) (x 3)).trans (place m c t y _ _ _ _ ⟨0 + (128 + (x 1 : ℕ)), by omega⟩ (x 3)
      (by rw [h1, h2]; show 0 + (128 + (x 1 : ℕ)) = _; omega) h3 (fun k => ldx0 _ _ k) (fun k => ldy0 _ _ k) (fun k => ldy0 _ _ k))
  · rw [eq_ix4 x]
    exact (piece0 _ _ _ _ _ _ _ _ _ _ (x 0) (x 1) (x 2) (x 3)).trans (place m c t y _ _ _ _ ⟨0 + (0 + (x 1 : ℕ)), by omega⟩ (x 3)
      (by rw [h1, h2]; show 0 + (0 + (x 1 : ℕ)) = _; omega) h3 (fun k => ldx0 _ _ k) (fun k => ldy0 _ _ k) (fun k => ldy0 _ _ k))

theorem final (c : Dev nD) : (dats m 0 c).arrAt 9 (cfgs 0).N = GA m c := by
  refine (dats m 0 c).arrAt_eq_of_covers 9 _ (by decide +kernel) fun t _ y => ?_
  blk_simp
  rw [after0_9]
  exact point m c t y

/-- Splitting the position axis in two is the trailing reshape. -/
theorem cast_eq (X : FVec Ideal S16x128x16x1024 .f32) : shapeCast S16x2048x1024 X Gen.shapeCasts_S16x128x16x1024_S16x2048x1024
    = fun j => X (ix4 (j 0) (⟨(j 1 : ℕ) / 16, by have : (j 1 : ℕ) < 2048 := (j 1).isLt; omega⟩ : Fin 128)
        (⟨(j 1 : ℕ) % 16, by omega⟩ : Fin 16) (j 2)) := by
  funext j
  idx_vars j
  pointwise

/-- What the program's result holds: the region's array, reshaped. -/
theorem tail (c : Dev nD) : Pipeline.afterTail₀ cfgs (dats m) 0 (V0 m) [hostOps1] c main_v9
    = fun j => GA m c (ix4 (j 0) (⟨(j 1 : ℕ) / 16, by have : (j 1 : ℕ) < 2048 := (j 1).isLt; omega⟩ : Fin 128)
        (⟨(j 1 : ℕ) % 16, by omega⟩ : Fin 16) (j 2)) := by
  refine Eq.trans ?_ (cast_eq (GA m c))
  have hw := (Pipeline.withArrays_arr (cfgs 0).spec (by decide) c (V0 m c) (fun w => (dats m 0 c).arrAt w (cfgs 0).N) 9).trans (final m c)
  unfold Pipeline.afterTail₀
  rw [List.flatten_cons, List.flatten_nil, List.append_nil]
  unfold hostOps1
  after_results
  exact congrArg (fun X => shapeCast S16x2048x1024 X Gen.shapeCasts_S16x128x16x1024_S16x2048x1024) hw

end Cert.LastIdeal.Hand

namespace Cert.LastRefIdeal.Hand
open Cert.LastRefIdeal Cert.LastRefIdeal.Gen Cert.LastRefIdeal.Read

/-- The class-major row batch `b`'s position `p` is kept at. -/
abbrev src (b : Fin 16) (p : Fin 2048) : Fin 32768 :=
  Cert.LastIdeal.Hand.row b (⟨p.val / 16, by omega⟩ : Fin 128) (⟨p.val % 16, by omega⟩ : Fin 16)

theorem r2 (x0 : FVec Ideal S32768x1024 .f32) (b : Fin 16) (p : Fin 2048) (k : Fin 1024) :
    val_main_v2 (F := Ideal) x0 (ix3 b p k) = x0 (ix2 (src b p) k) := by
  pointwise [val_main_v2, val_main_v1, val_main_v0, src]
theorem r5 (x5 : FVec Ideal S32768x512 .bf16) (b : Fin 16) (p : Fin 2048) (k : Fin 512) :
    val_main_v5 (F := Ideal) x5 (ix3 b p k) = x5 (ix2 (src b p) k) := by
  pointwise [val_main_v5, val_main_v4, val_main_v3, src]
theorem r8 (x6 : FVec Ideal S32768x512 .bf16) (b : Fin 16) (p : Fin 2048) (k : Fin 512) :
    val_main_v8 (F := Ideal) x6 (ix3 b p k) = x6 (ix2 (src b p) k) := by
  pointwise [val_main_v8, val_main_v7, val_main_v6, src]

/-- The residual plus both mixers' outputs through the output projection. -/
theorem rmix (x0 : FVec Ideal S32768x1024 .f32) (x5 x6 : FVec Ideal S32768x512 .bf16) (x7 : FVec Ideal S2x1024x1024 .f32)
    (b : Fin 16) (p : Fin 2048) (c : Fin 1024) : val_main_v14 (F := Ideal) x0 x5 x6 x7 (ix3 b p c)
      = Rows.mix (fun k => x0 (ix2 (src b p) k)) (fun k => x5 (ix2 (src b p) k)) (fun k => x6 (ix2 (src b p) k))
          (fun i k => x7 (ix3 1 (⟨i.val, by omega⟩ : Fin 1024) k)) (fun i k => x7 (ix3 1 (⟨512 + i.val, by omega⟩ : Fin 1024) k)) c := by
  simp only [← r2, ← r5, ← r8]
  pointwise [val_main_v14, val_main_v13, val_main_v12, val_main_v11, val_main_v10, val_main_v9, Rows.mix, Rows.dot]
  exact (add_assoc _ _ _).symm

theorem rffn (x0 : FVec Ideal S32768x1024 .f32) (x1 : FVec Ideal S2x1024 .f32) (x2 x3 : FVec Ideal S2x1024x2816 .f32)
    (x4 : FVec Ideal S2x2816x1024 .f32) (x5 x6 : FVec Ideal S32768x512 .bf16) (x7 : FVec Ideal S2x1024x1024 .f32)
    (b : Fin 16) (p : Fin 2048) (c : Fin 1024) : val_main_v43 (F := Ideal) x0 x1 x2 x3 x4 x5 x6 x7 (ix3 b p c)
      = Rows.ffn (fun k => val_main_v14 (F := Ideal) x0 x5 x6 x7 (ix3 b p k)) (fun k => x1 (ix2 1 k)) (fun i k => x2 (ix3 1 i k))
          (fun i k => x3 (ix3 1 i k)) (fun i k => x4 (ix3 1 i k)) c := by
  pointwise [val_main_v15, val_main_v16, val_main_v17, val_main_cst, val_main_v18, val_main_v19, val_main_cst_0, val_main_v20, val_main_v21, val_main_cst_1, val_main_v22, val_main_v23, val_main_v24, val_main_v25, val_main_v26, val_main_v27, val_main_v28, val_main_v29, val_main_v30, val_main_v31, val_main_v32, val_main_v33, val_main_v34, val_main_v35, val_main_v36, val_main_call0_v0, val_main_call0_v1, val_main_call0_cst, val_main_call0_v2, val_main_call0_v3, val_main_call0_cst_0, val_main_call0_v4, val_main_call0_v5, val_main_v37, val_main_v38, val_main_v39, val_main_v40, val_main_cst_2, val_main_v41, val_main_v42, val_main_v43, Rows.ffn, Rows.dot, Rows.rms]
  rfl

theorem rout (x0 : FVec Ideal S32768x1024 .f32) (x1 : FVec Ideal S2x1024 .f32) (x2 x3 : FVec Ideal S2x1024x2816 .f32)
    (x4 : FVec Ideal S2x2816x1024 .f32) (x5 x6 : FVec Ideal S32768x512 .bf16) (x7 : FVec Ideal S2x1024x1024 .f32)
    (x8 : FVec Ideal S1024 .f32) (b : Fin 16) (p : Fin 2048) (c : Fin 1024) : val_main_v56 (F := Ideal) x0 x1 x2 x3 x4 x5 x6 x7 x8 (ix3 b p c)
      = Rows.rms (Rows.ffn (fun k => val_main_v14 (F := Ideal) x0 x5 x6 x7 (ix3 b p k)) (fun k => x1 (ix2 1 k)) (fun i k => x2 (ix3 1 i k))
          (fun i k => x3 (ix3 1 i k)) (fun i k => x4 (ix3 1 i k))) (fun k => x8 (ix1 k)) c := by
  refine Eq.trans (b := Rows.rms (fun k => val_main_v43 (F := Ideal) x0 x1 x2 x3 x4 x5 x6 x7 (ix3 b p k)) (fun k => x8 (ix1 k)) c) ?_
    (congrArg (fun v => Rows.rms v (fun k => x8 (ix1 k)) c) (funext fun k => rffn x0 x1 x2 x3 x4 x5 x6 x7 b p k))
  pointwise [val_main_v44, val_main_cst_3, val_main_v45, val_main_v46, val_main_cst_4, val_main_v47, val_main_v48, val_main_cst_5, val_main_v49, val_main_v50, val_main_v51, val_main_v52, val_main_v53, val_main_v54, val_main_v55, val_main_v56, Rows.rms]

/-- The reference's result, its position axis split in two, is the same function of its arguments. -/
theorem ref (x0 : FVec Ideal S32768x1024 .f32) (x1 : FVec Ideal S2x1024 .f32) (x2 x3 : FVec Ideal S2x1024x2816 .f32)
    (x4 : FVec Ideal S2x2816x1024 .f32) (x5 x6 : FVec Ideal S32768x512 .bf16) (x7 : FVec Ideal S2x1024x1024 .f32) (x8 : FVec Ideal S1024 .f32) :
    (fun j => Cert.LastIdeal.Hand.G x0 x1 x2 x3 x4 x5 x6 x7 x8 (ix4 (j 0) (⟨(j 1 : ℕ) / 16, by have : (j 1 : ℕ) < 2048 := (j 1).isLt; omega⟩ : Fin 128)
        (⟨(j 1 : ℕ) % 16, by omega⟩ : Fin 16) (j 2)))
      = val_main_v56 (F := Ideal) x0 x1 x2 x3 x4 x5 x6 x7 x8 := by
  funext j
  conv_rhs => rw [eq_ix3 j]
  refine Eq.trans ?_ (rout x0 x1 x2 x3 x4 x5 x6 x7 x8 (j 0) (j 1) (j 2)).symm
  exact congrArg (fun v => Rows.rms (Rows.ffn v (fun k => x1 (ix2 1 k)) (fun i k => x2 (ix3 1 i k)) (fun i k => x3 (ix3 1 i k))
    (fun i k => x4 (ix3 1 i k))) (fun k => x8 (ix1 k)) (j 2)) (funext fun k => (rmix x0 x5 x6 x7 (j 0) (j 1) k).symm)

end Cert.LastRefIdeal.Hand
end
-- ==== Proof.Mix.lean ====
/-
  The second feed-forward of layer 0: the kernel's result array is, row by row, `Rows.ffn` of `Rows.mix` of the three
  inputs' rows; and so is the reference's.
-/
module

public import proofs.«01_k».proof.Proof.Gen.MixIdeal.Value
public import proofs.«01_k».proof.Proof.Gen.MixRefIdeal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Hand
open Cert.MixIdeal Cert.MixIdeal.Gen

section pieces
variable (x : Vec Ideal S256x1024 .f32) (a : Vec Ideal S256x512 .bf16) (wa : Vec Ideal S1x512x1024 .bf16) (b : Vec Ideal S256x512 .bf16)
    (wb : Vec Ideal S1x512x1024 .bf16) (g : Vec Ideal S1x1024 .f32) (wg wu : Vec Ideal S1x1024x2816 .bf16) (wd : Vec Ideal S1x2816x1024 .bf16)

/-- What a row of a piece holds. -/
abbrev val (x : Vec Ideal S256x1024 .f32) (a : Vec Ideal S256x512 .bf16) (wa : Vec Ideal S1x512x1024 .bf16) (b : Vec Ideal S256x512 .bf16)
    (wb : Vec Ideal S1x512x1024 .bf16) (g : Vec Ideal S1x1024 .f32) (wg wu : Vec Ideal S1x1024x2816 .bf16) (wd : Vec Ideal S1x2816x1024 .bf16) (r : Fin 256) (c : Fin 1024) : EReal :=
  Rows.ffn (Rows.mix (fun k => x (ix2 r k)) (fun k => a (ix2 r k)) (fun k => b (ix2 r k)) (fun i k => wa (ix3 0 i k)) (fun i k => wb (ix3 0 i k)))
    (fun k => g (ix2 0 k)) (fun i k => wg (ix3 0 i k)) (fun i k => wu (ix3 0 i k)) (fun i k => wd (ix3 0 i k)) c

variable (r : Fin 256) (c : Fin 1024)

theorem piece0 : k0_pay13 (k0_pay2 x a wa b wb) (k0_pay3 x a wa b wb g) wg wu wd (ix2 r c) = val x a wa b wb g wg wu wd r c := by
  pointwise [k0_pay13, k0_pay2, k0_pay3, val, Rows.ffn, Rows.mix, Rows.dot, Rows.rms]
theorem piece1 : k0_pay15 (k0_pay5 (k0_pay4 x a wa) b wb) (k0_pay14 (k0_pay6 (k0_pay4 x a wa) b wb g) wg wu wd) (Scalar.ofBits .f32 0x3F000000#32) (ix2 r c)
    = val x a wa b wb g wg wu wd r c := by
  pointwise [k0_pay15, k0_pay14, k0_pay6, k0_pay5, k0_pay4, val, Rows.ffn, Rows.mix, Rows.dot, Rows.rms]
theorem piece2 : k0_pay16 (k0_pay7 x a wa b wb) (k0_pay9 (k0_pay7 x a wa b wb) (k0_pay8 g)) wg wu wd (ix2 r c) = val x a wa b wb g wg wu wd r c := by
  pointwise [k0_pay16, k0_pay9, k0_pay8, k0_pay7, val, Rows.ffn, Rows.mix, Rows.dot, Rows.rms]
theorem piece3 : k0_pay1 (k0_pay10 x a wa b wb) (k0_pay17 (k0_pay12 (k0_pay11 x a wa b wb g)) wg wu) wd (ix2 r c)
    = val x a wa b wb g wg wu wd r c := by
  pointwise [k0_pay1, k0_pay17, k0_pay12, k0_pay11, k0_pay10, val, Rows.ffn, Rows.mix, Rows.dot, Rows.rms]
end pieces

/-- The whole-array value: every row's feed-forward, both mixers' outputs projected into the row before it. -/
def G (X : FVec Ideal S32768x1024 .f32) (g : FVec Ideal S2x1024 .f32) (wg wu : FVec Ideal S2x1024x2816 .f32)
    (wd : FVec Ideal S2x2816x1024 .f32) (ya yc : FVec Ideal S32768x512 .bf16) (wo : FVec Ideal S2x1024x1024 .f32) :
    FVec Ideal S32768x1024 .f32 := fun j =>
  Rows.ffn (Rows.mix (fun k => X (ix2 (j 0) k)) (fun k => ya (ix2 (j 0) k)) (fun k => yc (ix2 (j 0) k))
      (fun i k => wo (ix3 0 (⟨i.val, by omega⟩ : Fin 1024) k)) (fun i k => wo (ix3 0 (⟨512 + i.val, by omega⟩ : Fin 1024) k)))
    (fun k => g (ix2 0 k)) (fun i k => wg (ix3 0 i k)) (fun i k => wu (ix3 0 i k)) (fun i k => wd (ix3 0 i k)) (j 1)

variable (m : (ℓ : Loc nD τ sig) → Buf (Elt Ideal) ℓ)

theorem idx : ∀ t : Fin cfg0.N, win0_0.index t = ![t.val, 0] ∧ win0_1.index t = ![0, 0]
    ∧ win0_2.index t = ![0, 0, 0] ∧ win0_3.index t = ![0, 0, 0] ∧ win0_4.index t = ![0, 0, 0] ∧ win0_5.index t = ![t.val, 0]
    ∧ win0_6.index t = ![t.val, 0] ∧ win0_7.index t = ![0, 0, 0] ∧ win0_8.index t = ![t.val, 0] :=
  (by decide +kernel : ∀ t : Fin grid0.N, _)

/-- Row `R` of point `t`'s row blocks. -/
abbrev at_ (t : Fin cfg0.N) (R : Fin 1024) : Fin 32768 := ⟨t.val * 1024 + R.val, by have : t.val < 32 := t.isLt; omega⟩
theorem blk0 (c : Dev nD) (t : Fin cfg0.N) (R : Fin 1024) (k : Fin 1024) :
    iblk m c 0 t (ix2 R k) = m ((c : Thread nD τ).loc main_arg0) (ix2 (at_ t R) k) := by
  blk_point [iblk, V, idx t]
theorem blk1 (c : Dev nD) (t : Fin cfg0.N) (k : Fin 1024) :
    iblk m c 1 t (ix2 0 k) = m ((c : Thread nD τ).loc main_arg1) (ix2 0 k) := by
  blk_point [iblk, V, idx t]
theorem blk2 (c : Dev nD) (t : Fin cfg0.N) (i : Fin 1024) (k : Fin 2816) :
    iblk m c 2 t (ix3 0 i k) = m ((c : Thread nD τ).loc main_arg2) (ix3 0 i k) := by
  blk_point [iblk, V, idx t]
theorem blk3 (c : Dev nD) (t : Fin cfg0.N) (i : Fin 1024) (k : Fin 2816) :
    iblk m c 3 t (ix3 0 i k) = m ((c : Thread nD τ).loc main_arg3) (ix3 0 i k) := by
  blk_point [iblk, V, idx t]
theorem blk4 (c : Dev nD) (t : Fin cfg0.N) (i : Fin 2816) (k : Fin 1024) :
    iblk m c 4 t (ix3 0 i k) = m ((c : Thread nD τ).loc main_arg4) (ix3 0 i k) := by
  blk_point [iblk, V, idx t]
theorem blk5 (c : Dev nD) (t : Fin cfg0.N) (R : Fin 1024) (k : Fin 512) :
    iblk m c 5 t (ix2 R k) = m ((c : Thread nD τ).loc main_arg5) (ix2 (at_ t R) k) := by
  blk_point [iblk, V, idx t]
theorem blk6 (c : Dev nD) (t : Fin cfg0.N) (R : Fin 1024) (k : Fin 512) :
    iblk m c 6 t (ix2 R k) = m ((c : Thread nD τ).loc main_arg6) (ix2 (at_ t R) k) := by
  blk_point [iblk, V, idx t]
theorem blk7 (c : Dev nD) (t : Fin cfg0.N) (i : Fin 1024) (k : Fin 1024) :
    iblk m c 7 t (ix3 0 i k) = m ((c : Thread nD τ).loc main_arg7) (ix3 0 i k) := by
  blk_point [iblk, V, idx t]

theorem ldg (B : Vec Ideal S1x1024 .f32) (k : Fin 1024) : View.ld B r0_4 (ix2 0 k) = B (ix2 0 k) := by pointwise
theorem ldw (B : Vec Ideal S1x1024x2816 .bf16) (i : Fin 1024) (k : Fin 2816) : View.ld B r0_11 (ix3 0 i k) = B (ix3 0 i k) := by pointwise
theorem ldd (B : Vec Ideal S1x2816x1024 .bf16) (i : Fin 2816) (k : Fin 1024) : View.ld B r0_12 (ix3 0 i k) = B (ix3 0 i k) := by pointwise
theorem lda (B : Vec Ideal S1x1024x1024 .bf16) (i : Fin 512) (k : Fin 1024) :
    View.ld B r0_2 (ix3 0 i k) = B (ix3 0 (⟨i.val, by omega⟩ : Fin 1024) k) := by pointwise
theorem ldb (B : Vec Ideal S1x1024x1024 .bf16) (i : Fin 512) (k : Fin 1024) :
    View.ld B r0_3 (ix3 0 i k) = B (ix3 0 (⟨512 + i.val, by omega⟩ : Fin 1024) k) := by pointwise
theorem ldx0 (B : Vec Ideal S1024x1024 .f32) (r : Fin 256) (k : Fin 1024) :
    View.ld B r0_0 (ix2 r k) = B (ix2 (⟨0 + r.val, by omega⟩ : Fin 1024) k) := by pointwise
theorem ldy0 (B : Vec Ideal S1024x512 .bf16) (r : Fin 256) (k : Fin 512) :
    View.ld B r0_1 (ix2 r k) = B (ix2 (⟨0 + r.val, by omega⟩ : Fin 1024) k) := by pointwise
theorem ldx1 (B : Vec Ideal S1024x1024 .f32) (r : Fin 256) (k : Fin 1024) :
    View.ld B r0_5 (ix2 r k) = B (ix2 (⟨256 + r.val, by omega⟩ : Fin 1024) k) := by pointwise
theorem ldy1 (B : Vec Ideal S1024x512 .bf16) (r : Fin 256) (k : Fin 512) :
    View.ld B r0_6 (ix2 r k) = B (ix2 (⟨256 + r.val, by omega⟩ : Fin 1024) k) := by pointwise
theorem ldx2 (B : Vec Ideal S1024x1024 .f32) (r : Fin 256) (k : Fin 1024) :
    View.ld B r0_7 (ix2 r k) = B (ix2 (⟨512 + r.val, by omega⟩ : Fin 1024) k) := by pointwise
theorem ldy2 (B : Vec Ideal S1024x512 .bf16) (r : Fin 256) (k : Fin 512) :
    View.ld B r0_8 (ix2 r k) = B (ix2 (⟨512 + r.val, by omega⟩ : Fin 1024) k) := by pointwise
theorem ldx3 (B : Vec Ideal S1024x1024 .f32) (r : Fin 256) (k : Fin 1024) :
    View.ld B r0_9 (ix2 r k) = B (ix2 (⟨768 + r.val, by omega⟩ : Fin 1024) k) := by pointwise
theorem ldy3 (B : Vec Ideal S1024x512 .bf16) (r : Fin 256) (k : Fin 512) :
    View.ld B r0_10 (ix2 r k) = B (ix2 (⟨768 + r.val, by omega⟩ : Fin 1024) k) := by pointwise

/-- The value over the argument arrays. -/
abbrev GA (c : Dev nD) : FVec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- From a piece's row to the whole array: the row's block reads are the arrays'. -/
theorem place (c : Dev nD) (t : Fin cfg0.N) (y : S1024x1024.Idx) (x : Vec Ideal S256x1024 .f32) (a b : Vec Ideal S256x512 .bf16)
    (r : Fin 256) (R : Fin 1024) (k : Fin 1024) (hR : (y 0 : ℕ) = R.val) (hk : (y 1 : ℕ) = k.val)
    (hx : ∀ k, x (ix2 r k) = iblk m c 0 t (ix2 R k)) (ha : ∀ k, a (ix2 r k) = iblk m c 5 t (ix2 R k))
    (hb : ∀ k, b (ix2 r k) = iblk m c 6 t (ix2 R k)) :
    val x a (View.ld (iblk m c 7 t) r0_2) b (View.ld (iblk m c 7 t) r0_3) (View.ld (iblk m c 1 t) r0_4) (View.ld (iblk m c 2 t) r0_11)
        (View.ld (iblk m c 3 t) r0_11) (View.ld (iblk m c 4 t) r0_12) r k
      = GA m c (((cfg0.win 8).blk t).view.emb y) := by
  have e0 : ((((cfg0.win 8).blk t).view.emb y) 0 : ℕ) = t.val * 1024 + (y 0 : ℕ) := by blk_simp [idx t]
  have e1 : ((((cfg0.win 8).blk t).view.emb y) 1 : ℕ) = (y 1 : ℕ) := by blk_simp [idx t]
  have er : at_ t R = (((cfg0.win 8).blk t).view.emb y) 0 := by
    refine Fin.ext ?_
    show t.val * 1024 + R.val = _
    rw [e0, hR]
  refine Rows.ffn_congr (fun k => Rows.mix_congr (fun k => (hx k).trans ((blk0 m c t R k).trans ?_)) (fun k => (ha k).trans ((blk5 m c t R k).trans ?_))
      (fun k => (hb k).trans ((blk6 m c t R k).trans ?_)) (fun i k => (lda _ _ _).trans (blk7 m c t _ k)) (fun i k => (ldb _ _ _).trans (blk7 m c t _ k)) k)
    (fun k => (ldg _ _).trans (blk1 m c t k)) (fun i k => (ldw _ _ _).trans (blk2 m c t i k))
    (fun i k => (ldw _ _ _).trans (blk3 m c t i k)) (fun i k => (ldd _ _ _).trans (blk4 m c t i k)) (hk.symm.trans e1.symm)
  · rw [er]
  · rw [er]
  · rw [er]

theorem point (c : Dev nD) (t : Fin cfg0.N) (y : S1024x1024.Idx) :
    out0_8 (iblk m c 0 t) (iblk m c 1 t) (iblk m c 2 t) (iblk m c 3 t) (iblk m c 4 t) (iblk m c 5 t) (iblk m c 6 t) (iblk m c 7 t) y
      = GA m c (((cfg0.win 8).blk t).view.emb y) := by
  unfold_out out0_8
  canon_tiles x h
  · rw [eq_ix2 x]
    exact (piece3 _ _ _ _ _ _ _ _ _ (x 0) (x 1)).trans (place m c t y _ _ _ _ ⟨768 + (x 0 : ℕ), by have : (x 0 : ℕ) < 256 := (x 0).isLt; omega⟩ (x 1)
      (h0) h1 (fun k => ldx3 _ _ k) (fun k => ldy3 _ _ k) (fun k => ldy3 _ _ k))
  · rw [eq_ix2 x]
    exact (piece2 _ _ _ _ _ _ _ _ _ (x 0) (x 1)).trans (place m c t y _ _ _ _ ⟨512 + (x 0 : ℕ), by have : (x 0 : ℕ) < 256 := (x 0).isLt; omega⟩ (x 1)
      (h0) h1 (fun k => ldx2 _ _ k) (fun k => ldy2 _ _ k) (fun k => ldy2 _ _ k))
  · rw [eq_ix2 x]
    exact (piece1 _ _ _ _ _ _ _ _ _ (x 0) (x 1)).trans (place m c t y _ _ _ _ ⟨256 + (x 0 : ℕ), by have : (x 0 : ℕ) < 256 := (x 0).isLt; omega⟩ (x 1)
      (h0) h1 (fun k => ldx1 _ _ k) (fun k => ldy1 _ _ k) (fun k => ldy1 _ _ k))
  · rw [eq_ix2 x]
    exact (piece0 _ _ _ _ _ _ _ _ _ (x 0) (x 1)).trans (place m c t y _ _ _ _ ⟨0 + (x 0 : ℕ), by have : (x 0 : ℕ) < 256 := (x 0).isLt; omega⟩ (x 1)
      (by rw [h0]; simp) h1 (fun k => ldx0 _ _ k) (fun k => ldy0 _ _ k) (fun k => ldy0 _ _ k))

theorem final (c : Dev nD) : (dats m 0 c).arrAt 8 (cfgs 0).N = GA m c := by
  refine (dats m 0 c).arrAt_eq_of_covers 8 _ (by decide +kernel) fun t _ y => ?_
  blk_simp
  rw [after0_8]
  exact point m c t y

end Cert.MixIdeal.Hand

namespace Cert.MixRefIdeal.Hand
open Cert.MixRefIdeal Cert.MixRefIdeal.Gen Cert.MixRefIdeal.Read

/-- The residual plus both mixers' outputs through the output projection. -/
theorem rmix (x0 : FVec Ideal S32768x1024 .f32) (x5 x6 : FVec Ideal S32768x512 .bf16) (x7 : FVec Ideal S2x1024x1024 .f32)
    (p : Fin 32768) (c : Fin 1024) : val_main_v5 (F := Ideal) x0 x5 x6 x7 (ix2 p c)
      = Rows.mix (fun k => x0 (ix2 p k)) (fun k => x5 (ix2 p k)) (fun k => x6 (ix2 p k))
          (fun i k => x7 (ix3 0 (⟨i.val, by omega⟩ : Fin 1024) k)) (fun i k => x7 (ix3 0 (⟨512 + i.val, by omega⟩ : Fin 1024) k)) c := by
  pointwise [val_main_v0, val_main_v1, val_main_v2, val_main_v3, val_main_v4, val_main_v5, Rows.mix, Rows.dot]
  exact (add_assoc _ _ _).symm

theorem rffn (x0 : FVec Ideal S32768x1024 .f32) (x1 : FVec Ideal S2x1024 .f32) (x2 x3 : FVec Ideal S2x1024x2816 .f32)
    (x4 : FVec Ideal S2x2816x1024 .f32) (x5 x6 : FVec Ideal S32768x512 .bf16) (x7 : FVec Ideal S2x1024x1024 .f32)
    (p : Fin 32768) (c : Fin 1024) : val_main_v34 (F := Ideal) x0 x1 x2 x3 x4 x5 x6 x7 (ix2 p c)
      = Rows.ffn (fun k => val_main_v5 (F := Ideal) x0 x5 x6 x7 (ix2 p k)) (fun k => x1 (ix2 0 k)) (fun i k => x2 (ix3 0 i k))
          (fun i k => x3 (ix3 0 i k)) (fun i k => x4 (ix3 0 i k)) c := by
  pointwise [val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24, val_main_v25, val_main_v26, val_main_v27, val_main_call0_v0, val_main_call0_v1, val_main_call0_cst, val_main_call0_v2, val_main_call0_v3, val_main_call0_cst_0, val_main_call0_v4, val_main_call0_v5, val_main_v28, val_main_v29, val_main_v30, val_main_v31, val_main_cst_2, val_main_v32, val_main_v33, val_main_v34, Rows.ffn, Rows.dot, Rows.rms]
  rfl

/-- The reference's result is the same function of its arguments. -/
theorem ref (x0 : FVec Ideal S32768x1024 .f32) (x1 : FVec Ideal S2x1024 .f32) (x2 x3 : FVec Ideal S2x1024x2816 .f32)
    (x4 : FVec Ideal S2x2816x1024 .f32) (x5 x6 : FVec Ideal S32768x512 .bf16) (x7 : FVec Ideal S2x1024x1024 .f32) :
    val_main_v34 (F := Ideal) x0 x1 x2 x3 x4 x5 x6 x7 = Cert.MixIdeal.Hand.G x0 x1 x2 x3 x4 x5 x6 x7 := by
  funext j
  conv_lhs => rw [eq_ix2 j]
  refine (rffn x0 x1 x2 x3 x4 x5 x6 x7 (j 0) (j 1)).trans ?_
  exact congrArg (fun v => Rows.ffn v (fun k => x1 (ix2 0 k)) (fun i k => x2 (ix3 0 i k)) (fun i k => x3 (ix3 0 i k))
    (fun i k => x4 (ix3 0 i k)) (j 1)) (funext fun k => rmix x0 x5 x6 x7 (j 0) k)

end Cert.MixRefIdeal.Hand
end
-- ==== Proof.Next.lean ====
/-
  The first feed-forward of layer 1: the kernel's result array is, row by row, `Rows.ffn` of the input's row; and so is
  the reference's.
-/
module

public import proofs.«01_k».proof.Proof.Gen.NextIdeal.Value
public import proofs.«01_k».proof.Proof.Gen.NextRefIdeal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NextIdeal.Hand
open Cert.NextIdeal Cert.NextIdeal.Gen

section pieces
variable (x : Vec Ideal S256x1024 .f32) (g : Vec Ideal S1x1024 .f32) (wg wu : Vec Ideal S1x1024x2816 .bf16) (wd : Vec Ideal S1x2816x1024 .bf16)

/-- What a row of a piece holds. -/
abbrev val (x : Vec Ideal S256x1024 .f32) (g : Vec Ideal S1x1024 .f32) (wg wu : Vec Ideal S1x1024x2816 .bf16) (wd : Vec Ideal S1x2816x1024 .bf16)
    (r : Fin 256) (c : Fin 1024) : EReal :=
  Rows.ffn (fun k => x (ix2 r k)) (fun k => g (ix2 0 k)) (fun i k => wg (ix3 0 i k)) (fun i k => wu (ix3 0 i k)) (fun i k => wd (ix3 0 i k)) c

variable (r : Fin 256) (c : Fin 1024)

theorem piece0 : k0_pay12 x (k0_pay10 (k0_pay3 x g) wg wu wd) (k0_pay11 (F := Ideal)) (ix2 r c) = val x g wg wu wd r c := by
  pointwise [k0_pay12, k0_pay11, k0_pay10, k0_pay3, val, Rows.ffn, Rows.dot, Rows.rms]
theorem piece1 : k0_pay13 x (k0_pay4 x g) wg wu wd (ix2 r c) = val x g wg wu wd r c := by
  pointwise [k0_pay13, k0_pay4, val, Rows.ffn, Rows.dot, Rows.rms]
theorem piece2 : k0_pay1 x (k0_pay14 (k0_pay8 x (k0_pay5 g) (k0_pay6 x) (k0_pay7 (F := Ideal))) wg wu) wd (ix2 r c) = val x g wg wu wd r c := by
  pointwise [k0_pay1, k0_pay14, k0_pay8, k0_pay7, k0_pay6, k0_pay5, val, Rows.ffn, Rows.dot, Rows.rms]
theorem piece3 : k0_pay2 x (k0_pay9 x g) wg wu wd (ix2 r c) = val x g wg wu wd r c := by
  pointwise [k0_pay2, k0_pay9, val, Rows.ffn, Rows.dot, Rows.rms]
end pieces

/-- The whole-array value: every row's feed-forward. -/
def G (X : FVec Ideal S32768x1024 .f32) (g : FVec Ideal S2x1024 .f32) (wg wu : FVec Ideal S2x1024x2816 .f32)
    (wd : FVec Ideal S2x2816x1024 .f32) : FVec Ideal S32768x1024 .f32 := fun j =>
  Rows.ffn (fun k => X (ix2 (j 0) k)) (fun k => g (ix2 1 k)) (fun i k => wg (ix3 1 i k)) (fun i k => wu (ix3 1 i k)) (fun i k => wd (ix3 1 i k)) (j 1)

variable (m : (ℓ : Loc nD τ sig) → Buf (Elt Ideal) ℓ)

theorem idx : ∀ t : Fin cfg0.N, win0_0.index t = ![t.val, 0] ∧ win0_1.index t = ![0, 0]
    ∧ win0_2.index t = ![1, 0, 0] ∧ win0_3.index t = ![1, 0, 0] ∧ win0_4.index t = ![1, 0, 0] ∧ win0_5.index t = ![t.val, 0] :=
  (by decide +kernel : ∀ t : Fin grid0.N, _)

/-- Row `R` of point `t`'s row block. -/
abbrev at_ (t : Fin cfg0.N) (R : Fin 1024) : Fin 32768 := ⟨t.val * 1024 + R.val, by have : t.val < 32 := t.isLt; omega⟩
theorem blk0 (c : Dev nD) (t : Fin cfg0.N) (R : Fin 1024) (k : Fin 1024) :
    iblk m c 0 t (ix2 R k) = m ((c : Thread nD τ).loc main_arg0) (ix2 (at_ t R) k) := by
  blk_point [iblk, V, idx t]
theorem blk1 (c : Dev nD) (t : Fin cfg0.N) (k : Fin 1024) :
    iblk m c 1 t (ix2 0 k) = m ((c : Thread nD τ).loc main_arg1) (ix2 1 k) := by
  blk_point [iblk, V, idx t]
theorem blk2 (c : Dev nD) (t : Fin cfg0.N) (i : Fin 1024) (k : Fin 2816) :
    iblk m c 2 t (ix3 0 i k) = m ((c : Thread nD τ).loc main_arg2) (ix3 1 i k) := by
  blk_point [iblk, V, idx t]
theorem blk3 (c : Dev nD) (t : Fin cfg0.N) (i : Fin 1024) (k : Fin 2816) :
    iblk m c 3 t (ix3 0 i k) = m ((c : Thread nD τ).loc main_arg3) (ix3 1 i k) := by
  blk_point [iblk, V, idx t]
theorem blk4 (c : Dev nD) (t : Fin cfg0.N) (i : Fin 2816) (k : Fin 1024) :
    iblk m c 4 t (ix3 0 i k) = m ((c : Thread nD τ).loc main_arg4) (ix3 1 i k) := by
  blk_point [iblk, V, idx t]

theorem ldg (B : Vec Ideal S1x1024 .f32) (k : Fin 1024) : View.ld B r0_1 (ix2 0 k) = B (ix2 0 k) := by pointwise
theorem ldw (B : Vec Ideal S1x1024x2816 .bf16) (i : Fin 1024) (k : Fin 2816) : View.ld B r0_5 (ix3 0 i k) = B (ix3 0 i k) := by pointwise
theorem ldd (B : Vec Ideal S1x2816x1024 .bf16) (i : Fin 2816) (k : Fin 1024) : View.ld B r0_6 (ix3 0 i k) = B (ix3 0 i k) := by pointwise
theorem ldx0 (B : Vec Ideal S1024x1024 .f32) (r : Fin 256) (k : Fin 1024) :
    View.ld B r0_0 (ix2 r k) = B (ix2 (⟨0 + r.val, by omega⟩ : Fin 1024) k) := by pointwise
theorem ldx1 (B : Vec Ideal S1024x1024 .f32) (r : Fin 256) (k : Fin 1024) :
    View.ld B r0_2 (ix2 r k) = B (ix2 (⟨256 + r.val, by omega⟩ : Fin 1024) k) := by pointwise
theorem ldx2 (B : Vec Ideal S1024x1024 .f32) (r : Fin 256) (k : Fin 1024) :
    View.ld B r0_3 (ix2 r k) = B (ix2 (⟨512 + r.val, by omega⟩ : Fin 1024) k) := by pointwise
theorem ldx3 (B : Vec Ideal S1024x1024 .f32) (r : Fin 256) (k : Fin 1024) :
    View.ld B r0_4 (ix2 r k) = B (ix2 (⟨768 + r.val, by omega⟩ : Fin 1024) k) := by pointwise

/-- The value over the argument arrays. -/
abbrev GA (c : Dev nD) : FVec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- From a piece's row to the whole array: the row's block reads are the arrays'. -/
theorem place (c : Dev nD) (t : Fin cfg0.N) (y : S1024x1024.Idx) (x : Vec Ideal S256x1024 .f32)
    (r : Fin 256) (R : Fin 1024) (k : Fin 1024) (hR : (y 0 : ℕ) = R.val) (hk : (y 1 : ℕ) = k.val)
    (hx : ∀ k, x (ix2 r k) = iblk m c 0 t (ix2 R k)) :
    val x (View.ld (iblk m c 1 t) r0_1) (View.ld (iblk m c 2 t) r0_5) (View.ld (iblk m c 3 t) r0_5) (View.ld (iblk m c 4 t) r0_6) r k
      = GA m c (((cfg0.win 5).blk t).view.emb y) := by
  have e0 : ((((cfg0.win 5).blk t).view.emb y) 0 : ℕ) = t.val * 1024 + (y 0 : ℕ) := by blk_simp [idx t]
  have e1 : ((((cfg0.win 5).blk t).view.emb y) 1 : ℕ) = (y 1 : ℕ) := by blk_simp [idx t]
  have er : at_ t R = (((cfg0.win 5).blk t).view.emb y) 0 := by
    refine Fin.ext ?_
    show t.val * 1024 + R.val = _
    rw [e0, hR]
  refine Rows.ffn_congr (fun k => (hx k).trans ((blk0 m c t R k).trans ?_)) (fun k => (ldg _ _).trans (blk1 m c t k))
    (fun i k => (ldw _ _ _).trans (blk2 m c t i k)) (fun i k => (ldw _ _ _).trans (blk3 m c t i k))
    (fun i k => (ldd _ _ _).trans (blk4 m c t i k)) (hk.symm.trans e1.symm)
  rw [er]

theorem point (c : Dev nD) (t : Fin cfg0.N) (y : S1024x1024.Idx) :
    out0_5 (iblk m c 0 t) (iblk m c 1 t) (iblk m c 2 t) (iblk m c 3 t) (iblk m c 4 t) y = GA m c (((cfg0.win 5).blk t).view.emb y) := by
  unfold out0_5
  canon_tiles x h
  · rw [eq_ix2 x]
    exact (piece3 _ _ _ _ _ (x 0) (x 1)).trans (place m c t y _ _ ⟨768 + (x 0 : ℕ), by have : (x 0 : ℕ) < 256 := (x 0).isLt; omega⟩ (x 1)
      (h0) h1 (fun k => ldx3 _ _ k))
  · rw [eq_ix2 x]
    exact (piece2 _ _ _ _ _ (x 0) (x 1)).trans (place m c t y _ _ ⟨512 + (x 0 : ℕ), by have : (x 0 : ℕ) < 256 := (x 0).isLt; omega⟩ (x 1)
      (h0) h1 (fun k => ldx2 _ _ k))
  · rw [eq_ix2 x]
    exact (piece1 _ _ _ _ _ (x 0) (x 1)).trans (place m c t y _ _ ⟨256 + (x 0 : ℕ), by have : (x 0 : ℕ) < 256 := (x 0).isLt; omega⟩ (x 1)
      (h0) h1 (fun k => ldx1 _ _ k))
  · rw [eq_ix2 x]
    exact (piece0 _ _ _ _ _ (x 0) (x 1)).trans (place m c t y _ _ ⟨0 + (x 0 : ℕ), by have : (x 0 : ℕ) < 256 := (x 0).isLt; omega⟩ (x 1)
      (by rw [h0]; simp) h1 (fun k => ldx0 _ _ k))

theorem final (c : Dev nD) : (dats m 0 c).arrAt 5 (cfgs 0).N = GA m c := by
  refine (dats m 0 c).arrAt_eq_of_covers 5 _ (by decide +kernel) fun t _ y => ?_
  blk_simp
  rw [after0_5]
  exact point m c t y

end Cert.NextIdeal.Hand

namespace Cert.NextRefIdeal.Hand
open Cert.NextRefIdeal Cert.NextRefIdeal.Gen Cert.NextRefIdeal.Read

/-- The reference's result is the same function of its arguments. -/
theorem ref (x0 : FVec Ideal S32768x1024 .f32) (x1 : FVec Ideal S2x1024 .f32) (x2 x3 : FVec Ideal S2x1024x2816 .f32)
    (x4 : FVec Ideal S2x2816x1024 .f32) : val_main_v28 (F := Ideal) x0 x1 x2 x3 x4 = Cert.NextIdeal.Hand.G x0 x1 x2 x3 x4 := by
  funext j
  idx_vars j
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_v25, val_main_cst_2, val_main_v26, val_main_v27, val_main_v28,
    Cert.NextIdeal.Hand.G, Rows.ffn, Rows.dot, Rows.rms]
  rfl

end Cert.NextRefIdeal.Hand
end
-- ==== Proof.lean ====
/- The proof of the certificate's claims: for each call, the frames of the kernel and of its reference, and the equality of
   the two results over the extended reals. -/
module

public import proofs.«01_k».proof.Proof.ConvSame
public import proofs.«01_k».proof.Proof.ConvRes
public import proofs.«01_k».proof.Proof.ConvRef
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.InprojIdeal.Value
public import proofs.«01_k».proof.Proof.Gen.FfnIdeal.Value
public import proofs.«01_k».proof.Proof.Gen.InprojRefIdeal.Run
public import proofs.«01_k».proof.Proof.Gen.InprojRefIdeal.Read
public import proofs.«01_k».proof.Proof.Gen.FfnRefIdeal.Run
public import proofs.«01_k».proof.Proof.Gen.FfnRefIdeal.Read
public import proofs.«01_k».proof.Proof.Gen.LastRefIdeal.Run
public import proofs.«01_k».proof.Proof.Gen.LastRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Next
public import proofs.«01_k».proof.Proof.Gen.Next.Skeleton
public import proofs.«01_k».proof.Proof.Gen.Next.Launch
public import proofs.«01_k».proof.Proof.Gen.Next.Points
public import proofs.«01_k».proof.Proof.Gen.Next.Frame
public import proofs.«01_k».proof.Proof.Gen.NextIdeal
public import proofs.«01_k».proof.Proof.Gen.NextIdeal.Skeleton
public import proofs.«01_k».proof.Proof.Gen.NextIdeal.Launch
public import proofs.«01_k».proof.Proof.Gen.NextIdeal.Points
public import proofs.«01_k».proof.Proof.Gen.NextIdeal.Frame
public import proofs.«01_k».proof.Proof.Gen.NextIdeal.Value
public import proofs.«01_k».proof.Proof.Gen.NextRefIdeal
public import proofs.«01_k».proof.Proof.Gen.NextRefIdeal.Run
public import proofs.«01_k».proof.Proof.Gen.NextRefIdeal.Read
public import Idealize.ShloMosaic.Adequacy
public import Idealize.ShloMosaic.Init
public import Idealize.ShloMosaic.Lib.Quiescent
public import Idealize.ShloMosaic.Lib.Claim
public import proofs.«01_k».proof.Proof.Inproj
public import proofs.«01_k».proof.Proof.Ffn
public import proofs.«01_k».proof.Proof.Last
public import proofs.«01_k».proof.Proof.Mix
public import proofs.«01_k».proof.Proof.Next

@[expose] public section

set_option maxRecDepth 16384

noncomputable section

namespace Cert.Proof

open Idealize.ShloMosaic Idealize.ShloMosaic.TcCoe Idealize.SL.Sem

/-- The convolutions: the result, over the extended reals, is the reference's. -/
theorem conv : algebraic_KernelIdeal_ReferenceIdeal (hKernelIdeal := Cert.KernelIdeal.Gen.facts) (hReferenceIdeal := Cert.ReferenceIdeal.Gen.facts) := by
  pair_intro
  · run_from Cert.KernelIdeal.Hand.run_main m g (Cert.KernelIdeal.Hand.O m) (Cert.KernelIdeal.Hand.out_eq m)
  · run_from Cert.ReferenceIdeal.Value.run m' g'
    obtain ⟨h0, h1, h2, h3, h4, h5⟩ := hagree c
    rw [Cert.ReferenceIdeal.Read.val_main_v291_eq, Cert.KernelIdeal.Hand.final]
    refine (Cert.ReferenceIdeal.Hand.ref _ _ _ _ _ _).trans ?_
    show Cert.KernelIdeal.Hand.G (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5)) = _
    rw [h0, h1, h2, h3, h4, h5]

/-- The input projection: both results, over the extended reals, are the reference's. -/
theorem inproj : algebraic_InprojIdeal_InprojRefIdeal (hInprojIdeal := Cert.InprojIdeal.Gen.facts) (hInprojRefIdeal := Cert.InprojRefIdeal.Gen.facts) := by
  pair_intro
  · run_from Cert.InprojIdeal.Gen.run_main m g
  · run_from Cert.InprojRefIdeal.Value.run m' g'
    · obtain ⟨h0, h1, h2⟩ := hagree c
      refine Eq.trans ?_ (Cert.InprojIdeal.Hand.final3 m c).symm
      refine Eq.trans (b := Cert.InprojRefIdeal.Read.val_main_v26 (F := Ideal) (m' ((c.tc : Thread _ _).loc Cert.InprojRefIdeal.main_arg0))
        (m' ((c.tc : Thread _ _).loc Cert.InprojRefIdeal.main_arg1)) (m' ((c.tc : Thread _ _).loc Cert.InprojRefIdeal.main_arg2))) ?_ ?_
      · first | rfl | (rw [h0, h1, h2]; rfl)
      rw [h0, h1, h2]
      exact Cert.InprojRefIdeal.Hand.ref0 _ _ _
    · obtain ⟨h0, h1, h2⟩ := hagree c
      rw [Cert.InprojRefIdeal.Read.val_main_v35_eq, Cert.InprojIdeal.Hand.final4, h0, h1, h2]
      exact Cert.InprojRefIdeal.Hand.ref1 _ _ _

/-- The first feed-forward. -/
theorem ffn : algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    obtain ⟨h0, h1, h2, h3, h4⟩ := hagree c
    rw [Cert.FfnRefIdeal.Read.val_main_v31_eq, Cert.FfnIdeal.Hand.final, h0, h1, h2, h3, h4]
    exact Cert.FfnRefIdeal.Hand.ref _ _ _ _ _

/-- The last feed-forward. -/
theorem last : algebraic_LastIdeal_LastRefIdeal (hLastIdeal := Cert.LastIdeal.Gen.facts) (hLastRefIdeal := Cert.LastRefIdeal.Gen.facts) := by
  pair_intro
  · run_from Cert.LastIdeal.Gen.run_main m g
    · exact Cert.LastIdeal.Gen.W_main_arg1 m _ c
    · exact Cert.LastIdeal.Gen.W_main_arg2 m _ c
    · exact Cert.LastIdeal.Gen.W_main_arg3 m _ c
    · exact Cert.LastIdeal.Gen.W_main_arg4 m _ c
    · exact Cert.LastIdeal.Gen.W_main_arg7 m _ c
    · exact Cert.LastIdeal.Gen.W_main_arg8 m _ c
  · run_from Cert.LastRefIdeal.Value.run m' g'
    obtain ⟨h0, h1, h2, h3, h4, h5, h6, h7, h8⟩ := hagree c
    rw [Cert.LastRefIdeal.Read.val_main_v56_eq, Cert.LastIdeal.Hand.tail, h0, h1, h2, h3, h4, h5, h6, h7, h8]
    exact (Cert.LastRefIdeal.Hand.ref _ _ _ _ _ _ _ _ _).symm

/-- The second feed-forward of layer 0. -/
theorem mix : algebraic_MixIdeal_MixRefIdeal (hMixIdeal := Cert.MixIdeal.Gen.facts) (hMixRefIdeal := Cert.MixRefIdeal.Gen.facts) := by
  pair_intro
  · run_from Cert.MixIdeal.Gen.run_main m g
  · run_from Cert.MixRefIdeal.Value.run m' g'
    obtain ⟨h0, h1, h2, h3, h4, h5, h6, h7⟩ := hagree c
    rw [Cert.MixRefIdeal.Read.val_main_v34_eq, Cert.MixIdeal.Hand.final, h0, h1, h2, h3, h4, h5, h6, h7]
    exact Cert.MixRefIdeal.Hand.ref _ _ _ _ _ _ _ _

/-- The first feed-forward of layer 1. -/
theorem next : algebraic_NextIdeal_NextRefIdeal (hNextIdeal := Cert.NextIdeal.Gen.facts) (hNextRefIdeal := Cert.NextRefIdeal.Gen.facts) := by
  pair_intro
  · run_from Cert.NextIdeal.Gen.run_main m g
  · run_from Cert.NextRefIdeal.Value.run m' g'
    rw [Cert.NextRefIdeal.Read.val_main_v28_eq, Cert.NextIdeal.Hand.final]
    exact Cert.NextRefIdeal.Hand.ref _ _ _ _ _

theorem claim : Cert.Claim := ⟨Cert.Kernel.Gen.facts, Cert.KernelIdeal.Gen.facts, Cert.ReferenceIdeal.Gen.facts, Cert.Inproj.Gen.facts, Cert.InprojIdeal.Gen.facts, Cert.InprojRefIdeal.Gen.facts, Cert.Ffn.Gen.facts,
  Cert.FfnIdeal.Gen.facts, Cert.FfnRefIdeal.Gen.facts, Cert.Last.Gen.facts, Cert.LastIdeal.Gen.facts, Cert.LastRefIdeal.Gen.facts,
  Cert.Mix.Gen.facts, Cert.MixIdeal.Gen.facts, Cert.MixRefIdeal.Gen.facts, Cert.Next.Gen.facts, Cert.NextIdeal.Gen.facts, Cert.NextRefIdeal.Gen.facts, by
  refine ⟨?_, ?_, ?_, ?_, ?_, ?_, ?_, ?_, ?_, ?_, ?_, ?_, ?_, ?_, ?_, ?_, ?_, ?_, trivial, conv, trivial, inproj, trivial, ffn,
    trivial, last, trivial, mix, trivial, next⟩
  · exact Cert.Kernel.Hand.frame
  · exact fun m ρ _ => Cert.KernelIdeal.Hand.frame m ρ
  · exact fun m ρ _ => (θ_run _ _ _).mono (fun r h => ⟨fun c => (h c).2, sem_eq_zero_of_no_sems rfl r.2⟩) (Cert.ReferenceIdeal.Value.run m ρ)
  · exact fun m ρ _ => Cert.Inproj.Gen.frame m ρ
  · exact fun m ρ _ => Cert.InprojIdeal.Gen.frame m ρ
  · exact fun m ρ _ => (θ_run _ _ _).mono (fun r h => ⟨fun c => (h c).2.2, sem_eq_zero_of_no_sems rfl r.2⟩) (Cert.InprojRefIdeal.Value.run m ρ)
  · exact fun m ρ _ => Cert.Ffn.Gen.frame m ρ
  · exact fun m ρ _ => Cert.FfnIdeal.Gen.frame m ρ
  · exact fun m ρ _ => (θ_run _ _ _).mono (fun r h => ⟨fun c => (h c).2, sem_eq_zero_of_no_sems rfl r.2⟩) (Cert.FfnRefIdeal.Value.run m ρ)
  · exact fun m ρ _ => Cert.Last.Gen.frame m ρ
  · exact fun m ρ _ => Cert.LastIdeal.Gen.frame m ρ
  · exact fun m ρ _ => (θ_run _ _ _).mono (fun r h => ⟨fun c => (h c).2, sem_eq_zero_of_no_sems rfl r.2⟩) (Cert.LastRefIdeal.Value.run m ρ)
  · exact fun m ρ _ => Cert.Mix.Gen.frame m ρ
  · exact fun m ρ _ => Cert.MixIdeal.Gen.frame m ρ
  · exact fun m ρ _ => (θ_run _ _ _).mono (fun r h => ⟨fun c => (h c).2, sem_eq_zero_of_no_sems rfl r.2⟩) (Cert.MixRefIdeal.Value.run m ρ)
  · exact fun m ρ _ => Cert.Next.Gen.frame m ρ
  · exact fun m ρ _ => Cert.NextIdeal.Gen.frame m ρ
  · exact fun m ρ _ => (θ_run _ _ _).mono (fun r h => ⟨fun c => (h c).2, sem_eq_zero_of_no_sems rfl r.2⟩) (Cert.NextRefIdeal.Value.run m ρ)⟩

end Cert.Proof

end
